-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x256 : Shape := ⟨2, ![2048, 256]⟩
abbrev S256x2048 : Shape := ⟨2, ![256, 2048]⟩
abbrev S2048x2048 : Shape := ⟨2, ![2048, 2048]⟩
abbrev S1024x256 : Shape := ⟨2, ![1024, 256]⟩
abbrev S512x256 : Shape := ⟨2, ![512, 256]⟩
abbrev S256x256 : Shape := ⟨2, ![256, 256]⟩
abbrev S8x6 : Shape := ⟨2, ![8, 6]⟩
abbrev S2 : Shape := ⟨1, ![2]⟩
abbrev S8x4 : Shape := ⟨2, ![8, 4]⟩
abbrev S1 : Shape := ⟨1, ![1]⟩
abbrev S_ : Shape := ⟨0, ![]⟩
abbrev S1x1 : Shape := ⟨2, ![1, 1]⟩

abbrev nBuf : Space → Nat
  | .hbm => 3
  | .vmem => 60
  | .smem => 0
  | _ => 0

abbrev bufTy : (tb : Table) → Fin (tcTables nBuf tb) → BufTy
  | .hbm, ⟨0, _⟩ => ⟨S2048x256, .f32⟩
  | .hbm, ⟨1, _⟩ => ⟨S256x2048, .f32⟩
  | .hbm, ⟨2, _⟩ => ⟨S2048x2048, .bf16⟩
  | .local _ .vmem, ⟨0, _⟩ => ⟨S2048x256, .f32⟩
  | .local _ .vmem, ⟨1, _⟩ => ⟨S256x2048, .f32⟩
  | .local _ .vmem, ⟨2, _⟩ => ⟨S2048x256, .bf16⟩
  | .local _ .vmem, ⟨3, _⟩ => ⟨S256x2048, .bf16⟩
  | .local _ .vmem, ⟨4, _⟩ => ⟨S1024x256, .bf16⟩
  | .local _ .vmem, ⟨5, _⟩ => ⟨S512x256, .bf16⟩
  | .local _ .vmem, ⟨6, _⟩ => ⟨S256x256, .bf16⟩
  | .local _ .vmem, ⟨7, _⟩ => ⟨S1024x256, .bf16⟩
  | .local _ .vmem, ⟨8, _⟩ => ⟨S512x256, .bf16⟩
  | .local _ .vmem, ⟨9, _⟩ => ⟨S256x256, .bf16⟩
  | .local _ .vmem, ⟨10, _⟩ => ⟨S2048x256, .bf16⟩
  | .local _ .vmem, ⟨11, _⟩ => ⟨S1024x256, .bf16⟩
  | .local _ .vmem, ⟨12, _⟩ => ⟨S512x256, .bf16⟩
  | .local _ .vmem, ⟨13, _⟩ => ⟨S256x256, .bf16⟩
  | .local _ .vmem, ⟨14, _⟩ => ⟨S1024x256, .bf16⟩
  | .local _ .vmem, ⟨15, _⟩ => ⟨S512x256, .bf16⟩
  | .local _ .vmem, ⟨16, _⟩ => ⟨S256x256, .bf16⟩
  | .local _ .vmem, ⟨17, _⟩ => ⟨S2048x256, .bf16⟩
  | .local _ .vmem, ⟨18, _⟩ => ⟨S1024x256, .bf16⟩
  | .local _ .vmem, ⟨19, _⟩ => ⟨S512x256, .bf16⟩
  | .local _ .vmem, ⟨20, _⟩ => ⟨S256x256, .bf16⟩
  | .local _ .vmem, ⟨21, _⟩ => ⟨S1024x256, .bf16⟩
  | .local _ .vmem, ⟨22, _⟩ => ⟨S512x256, .bf16⟩
  | .local _ .vmem, ⟨23, _⟩ => ⟨S256x256, .bf16⟩
  | .local _ .vmem, ⟨24, _⟩ => ⟨S2048x256, .bf16⟩
  | .local _ .vmem, ⟨25, _⟩ => ⟨S1024x256, .bf16⟩
  | .local _ .vmem, ⟨26, _⟩ => ⟨S512x256, .bf16⟩
  | .local _ .vmem, ⟨27, _⟩ => ⟨S256x256, .bf16⟩
  | .local _ .vmem, ⟨28, _⟩ => ⟨S1024x256, .bf16⟩
  | .local _ .vmem, ⟨29, _⟩ => ⟨S512x256, .bf16⟩
  | .local _ .vmem, ⟨30, _⟩ => ⟨S256x256, .bf16⟩
  | .local _ .vmem, ⟨31, _⟩ => ⟨S2048x256, .bf16⟩
  | .local _ .vmem, ⟨32, _⟩ => ⟨S1024x256, .bf16⟩
  | .local _ .vmem, ⟨33, _⟩ => ⟨S512x256, .bf16⟩
  | .local _ .vmem, ⟨34, _⟩ => ⟨S256x256, .bf16⟩
  | .local _ .vmem, ⟨35, _⟩ => ⟨S1024x256, .bf16⟩
  | .local _ .vmem, ⟨36, _⟩ => ⟨S512x256, .bf16⟩
  | .local _ .vmem, ⟨37, _⟩ => ⟨S256x256, .bf16⟩
  | .local _ .vmem, ⟨38, _⟩ => ⟨S2048x256, .bf16⟩
  | .local _ .vmem, ⟨39, _⟩ => ⟨S1024x256, .bf16⟩
  | .local _ .vmem, ⟨40, _⟩ => ⟨S512x256, .bf16⟩
  | .local _ .vmem, ⟨41, _⟩ => ⟨S256x256, .bf16⟩
  | .local _ .vmem, ⟨42, _⟩ => ⟨S1024x256, .bf16⟩
  | .local _ .vmem, ⟨43, _⟩ => ⟨S512x256, .bf16⟩
  | .local _ .vmem, ⟨44, _⟩ => ⟨S256x256, .bf16⟩
  | .local _ .vmem, ⟨45, _⟩ => ⟨S2048x256, .bf16⟩
  | .local _ .vmem, ⟨46, _⟩ => ⟨S1024x256, .bf16⟩
  | .local _ .vmem, ⟨47, _⟩ => ⟨S512x256, .bf16⟩
  | .local _ .vmem, ⟨48, _⟩ => ⟨S256x256, .bf16⟩
  | .local _ .vmem, ⟨49, _⟩ => ⟨S1024x256, .bf16⟩
  | .local _ .vmem, ⟨50, _⟩ => ⟨S512x256, .bf16⟩
  | .local _ .vmem, ⟨51, _⟩ => ⟨S256x256, .bf16⟩
  | .local _ .vmem, ⟨52, _⟩ => ⟨S2048x256, .bf16⟩
  | .local _ .vmem, ⟨53, _⟩ => ⟨S1024x256, .bf16⟩
  | .local _ .vmem, ⟨54, _⟩ => ⟨S512x256, .bf16⟩
  | .local _ .vmem, ⟨55, _⟩ => ⟨S256x256, .bf16⟩
  | .local _ .vmem, ⟨56, _⟩ => ⟨S1024x256, .bf16⟩
  | .local _ .vmem, ⟨57, _⟩ => ⟨S512x256, .bf16⟩
  | .local _ .vmem, ⟨58, _⟩ => ⟨S256x256, .bf16⟩
  | .local _ .vmem, ⟨59, _⟩ => ⟨S2048x256, .bf16⟩
  | _, _ => ⟨S2048x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩
abbrev cc0_scratch18 : Ref sig .tc := ⟨.vmem, 18, rfl⟩
abbrev cc0_scratch19 : Ref sig .tc := ⟨.vmem, 19, rfl⟩
abbrev cc0_scratch20 : Ref sig .tc := ⟨.vmem, 20, rfl⟩
abbrev cc0_scratch21 : Ref sig .tc := ⟨.vmem, 21, rfl⟩
abbrev cc0_scratch22 : Ref sig .tc := ⟨.vmem, 22, rfl⟩
abbrev cc0_scratch23 : Ref sig .tc := ⟨.vmem, 23, rfl⟩
abbrev cc0_scratch24 : Ref sig .tc := ⟨.vmem, 24, rfl⟩
abbrev cc0_scratch25 : Ref sig .tc := ⟨.vmem, 25, rfl⟩
abbrev cc0_scratch26 : Ref sig .tc := ⟨.vmem, 26, rfl⟩
abbrev cc0_scratch27 : Ref sig .tc := ⟨.vmem, 27, rfl⟩
abbrev cc0_scratch28 : Ref sig .tc := ⟨.vmem, 28, rfl⟩
abbrev cc0_scratch29 : Ref sig .tc := ⟨.vmem, 29, rfl⟩
abbrev cc0_scratch30 : Ref sig .tc := ⟨.vmem, 30, rfl⟩
abbrev cc0_scratch31 : Ref sig .tc := ⟨.vmem, 31, rfl⟩
abbrev cc0_scratch32 : Ref sig .tc := ⟨.vmem, 32, rfl⟩
abbrev cc0_scratch33 : Ref sig .tc := ⟨.vmem, 33, rfl⟩
abbrev cc0_scratch34 : Ref sig .tc := ⟨.vmem, 34, rfl⟩
abbrev cc0_scratch35 : Ref sig .tc := ⟨.vmem, 35, rfl⟩
abbrev cc0_scratch36 : Ref sig .tc := ⟨.vmem, 36, rfl⟩
abbrev cc0_scratch37 : Ref sig .tc := ⟨.vmem, 37, rfl⟩
abbrev cc0_scratch38 : Ref sig .tc := ⟨.vmem, 38, rfl⟩
abbrev cc0_scratch39 : Ref sig .tc := ⟨.vmem, 39, rfl⟩
abbrev cc0_scratch40 : Ref sig .tc := ⟨.vmem, 40, rfl⟩
abbrev cc0_scratch41 : Ref sig .tc := ⟨.vmem, 41, rfl⟩
abbrev cc0_scratch42 : Ref sig .tc := ⟨.vmem, 42, rfl⟩
abbrev cc0_scratch43 : Ref sig .tc := ⟨.vmem, 43, rfl⟩
abbrev cc0_scratch44 : Ref sig .tc := ⟨.vmem, 44, rfl⟩
abbrev cc0_scratch45 : Ref sig .tc := ⟨.vmem, 45, rfl⟩
abbrev cc0_scratch46 : Ref sig .tc := ⟨.vmem, 46, rfl⟩
abbrev cc0_scratch47 : Ref sig .tc := ⟨.vmem, 47, rfl⟩
abbrev cc0_scratch48 : Ref sig .tc := ⟨.vmem, 48, rfl⟩
abbrev cc0_scratch49 : Ref sig .tc := ⟨.vmem, 49, rfl⟩
abbrev cc0_scratch50 : Ref sig .tc := ⟨.vmem, 50, rfl⟩
abbrev cc0_scratch51 : Ref sig .tc := ⟨.vmem, 51, rfl⟩
abbrev cc0_scratch52 : Ref sig .tc := ⟨.vmem, 52, rfl⟩
abbrev cc0_scratch53 : Ref sig .tc := ⟨.vmem, 53, rfl⟩
abbrev cc0_scratch54 : Ref sig .tc := ⟨.vmem, 54, rfl⟩
abbrev cc0_scratch55 : Ref sig .tc := ⟨.vmem, 55, rfl⟩
abbrev cc0_scratch56 : Ref sig .tc := ⟨.vmem, 56, rfl⟩
abbrev cc0_scratch57 : Ref sig .tc := ⟨.vmem, 57, rfl⟩
abbrev cc0_scratch58 : Ref sig .tc := ⟨.vmem, 58, rfl⟩
abbrev cc0_scratch59 : Ref sig .tc := ⟨.vmem, 59, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_7 : BitVec 32 := 1#32
  let v17 : BitVec 32 := Scalar.muli v9 c1_i32_7
  let v18 : BitVec 32 := Scalar.addi c0_i32_8 v17
  v18.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_10 : BitVec 32 := 1#32
  let v19 : BitVec 32 := Scalar.muli v10 c1_i32_10
  let v20 : BitVec 32 := Scalar.addi c0_i32_11 v19
  v20.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_13 : BitVec 32 := 1#32
  let v21 : BitVec 32 := Scalar.muli v11 c1_i32_13
  let v22 : BitVec 32 := Scalar.addi c0_i32_14 v21
  v22.toNat
def k0_off1 (d0 : Dev nD) : Fin 2 → Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : BitVec 32 := Scalar.muli c0_i32_25 v2
  let c1_i32_33 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v45 : BitVec 32 := Scalar.subi c1_i32_33 v8
  let c1024_i32 : BitVec 32 := 1024#32
  let v46 : BitVec 32 := Scalar.muli v45 c1024_i32
  let v47 : BitVec 32 := Scalar.addi v37 v46
  let v48 : Index := Scalar.indexCast v47
  let c0_34 : Index := 0#32
  ![v48.toNat, 0]
def k0_off2 (d0 : Dev nD) (c1_i32_1 : BitVec 32) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : BitVec 32 := Scalar.muli c0_i32_26 v2
  let c1_i32_37 : BitVec 32 := 1#32
  let v4 : BitVec 32 := Scalar.shrsi v2 c1_i32_1
  let c1_i32_2 : BitVec 32 := 1#32
  let v5 : BitVec 32 := Scalar.andi v4 c1_i32_2
  let v52 : BitVec 32 := Scalar.subi c1_i32_37 v5
  let c1024_i32_38 : BitVec 32 := 1024#32
  let v53 : BitVec 32 := Scalar.muli v52 c1024_i32_38
  let v54 : BitVec 32 := Scalar.addi v38 v53
  let v55 : Index := Scalar.indexCast v54
  let c0_39 : Index := 0#32
  ![v55.toNat, 0]
def k0_dev4 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_78 : BitVec 32 := 1#32
  let v105 : BitVec 32 := Scalar.muli v9 c1_i32_78
  let v106 : BitVec 32 := Scalar.addi c0_i32_79 v105
  v106.toNat
def k0_dev5 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_87 : BitVec 32 := 1#32
  let v117 : BitVec 32 := Scalar.muli v10 c1_i32_87
  let v118 : BitVec 32 := Scalar.addi c0_i32_88 v117
  v118.toNat
def k0_dev6 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_96 : BitVec 32 := 1#32
  let v129 : BitVec 32 := Scalar.muli v11 c1_i32_96
  let v130 : BitVec 32 := Scalar.addi c0_i32_97 v129
  v130.toNat
def k0_dev7 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_105 : BitVec 32 := 1#32
  let v141 : BitVec 32 := Scalar.muli v9 c1_i32_105
  let v142 : BitVec 32 := Scalar.addi c0_i32_106 v141
  v142.toNat
def k0_dev8 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_114 : BitVec 32 := 1#32
  let v153 : BitVec 32 := Scalar.muli v10 c1_i32_114
  let v154 : BitVec 32 := Scalar.addi c0_i32_115 v153
  v154.toNat
def k0_dev9 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_122 : BitVec 32 := 1#32
  let v165 : BitVec 32 := Scalar.muli v11 c1_i32_122
  let v166 : BitVec 32 := Scalar.addi c0_i32_123 v165
  v166.toNat
def k0_dev10 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_130 : BitVec 32 := 1#32
  let v177 : BitVec 32 := Scalar.muli v9 c1_i32_130
  let v178 : BitVec 32 := Scalar.addi c0_i32_131 v177
  v178.toNat
def k0_dev11 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_138 : BitVec 32 := 1#32
  let v189 : BitVec 32 := Scalar.muli v11 c1_i32_138
  let v190 : BitVec 32 := Scalar.addi c0_i32_139 v189
  v190.toNat
def k0_off3 (d0 : Dev nD) : Fin 2 → Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : BitVec 32 := Scalar.muli c0_i32_25 v2
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1024_i32_80 : BitVec 32 := 1024#32
  let v111 : BitVec 32 := Scalar.muli v8 c1024_i32_80
  let v112 : BitVec 32 := Scalar.addi v37 v111
  let c1_i32_141 : BitVec 32 := 1#32
  let v197 : BitVec 32 := Scalar.subi c1_i32_141 v5
  let c512_i32 : BitVec 32 := 512#32
  let v198 : BitVec 32 := Scalar.muli v197 c512_i32
  let v199 : BitVec 32 := Scalar.addi v112 v198
  let v200 : Index := Scalar.indexCast v199
  let c0_142 : Index := 0#32
  ![v200.toNat, 0]
def k0_off4 (d0 : Dev nD) (c1_i32_1 : BitVec 32) (c2_i32 : BitVec 32) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : BitVec 32 := Scalar.muli c0_i32_26 v2
  let v4 : BitVec 32 := Scalar.shrsi v2 c1_i32_1
  let c1_i32_2 : BitVec 32 := 1#32
  let v5 : BitVec 32 := Scalar.andi v4 c1_i32_2
  let c1024_i32_89 : BitVec 32 := 1024#32
  let v123 : BitVec 32 := Scalar.muli v5 c1024_i32_89
  let v124 : BitVec 32 := Scalar.addi v38 v123
  let c1_i32_146 : BitVec 32 := 1#32
  let v6 : BitVec 32 := Scalar.shrsi v2 c2_i32
  let c1_i32_3 : BitVec 32 := 1#32
  let v7 : BitVec 32 := Scalar.andi v6 c1_i32_3
  let v204 : BitVec 32 := Scalar.subi c1_i32_146 v7
  let c512_i32_147 : BitVec 32 := 512#32
  let v205 : BitVec 32 := Scalar.muli v204 c512_i32_147
  let v206 : BitVec 32 := Scalar.addi v124 v205
  let v207 : Index := Scalar.indexCast v206
  let c0_148 : Index := 0#32
  ![v207.toNat, 0]
def k0_off4_at (r : Fin 2) : BitVec 32 × BitVec 32 :=
  if r.val < 1 then
    (1#32, 2#32)
  else
    (2#32, 1#32)
def k0_off5 (d0 : Dev nD) : Fin 2 → Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v39 : BitVec 32 := Scalar.muli c0_i32_27 v2
  let c2_i32 : BitVec 32 := 2#32
  let v6 : BitVec 32 := Scalar.shrsi v2 c2_i32
  let c1_i32_3 : BitVec 32 := 1#32
  let v7 : BitVec 32 := Scalar.andi v6 c1_i32_3
  let c1024_i32_98 : BitVec 32 := 1024#32
  let v135 : BitVec 32 := Scalar.muli v7 c1024_i32_98
  let v136 : BitVec 32 := Scalar.addi v39 v135
  let c1_i32_152 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v211 : BitVec 32 := Scalar.subi c1_i32_152 v8
  let c512_i32_153 : BitVec 32 := 512#32
  let v212 : BitVec 32 := Scalar.muli v211 c512_i32_153
  let v213 : BitVec 32 := Scalar.addi v136 v212
  let v214 : Index := Scalar.indexCast v213
  let c0_154 : Index := 0#32
  ![v214.toNat, 0]
def k0_off6 (d0 : Dev nD) : Fin 2 → Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : BitVec 32 := Scalar.muli c0_i32_25 v2
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1024_i32_80 : BitVec 32 := 1024#32
  let v111 : BitVec 32 := Scalar.muli v8 c1024_i32_80
  let v112 : BitVec 32 := Scalar.addi v37 v111
  let c1_i32_141 : BitVec 32 := 1#32
  let v197 : BitVec 32 := Scalar.subi c1_i32_141 v5
  let c512_i32 : BitVec 32 := 512#32
  let v198 : BitVec 32 := Scalar.muli v197 c512_i32
  let v199 : BitVec 32 := Scalar.addi v112 v198
  let v257 : BitVec 32 := Scalar.subi v199 v112
  let v258 : Index := Scalar.indexCast v257
  let c0_194 : Index := 0#32
  ![v258.toNat, 0]
def k0_dev12 (d0 : Dev nD) : Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_201 : BitVec 32 := 1#32
  let v266 : BitVec 32 := Scalar.muli v10 c1_i32_201
  let v267 : BitVec 32 := Scalar.addi c0_i32_202 v266
  v267.toNat
def k0_off7 (d0 : Dev nD) (c1_i32_1 : BitVec 32) (c2_i32 : BitVec 32) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : BitVec 32 := Scalar.muli c0_i32_26 v2
  let v4 : BitVec 32 := Scalar.shrsi v2 c1_i32_1
  let c1_i32_2 : BitVec 32 := 1#32
  let v5 : BitVec 32 := Scalar.andi v4 c1_i32_2
  let c1024_i32_89 : BitVec 32 := 1024#32
  let v123 : BitVec 32 := Scalar.muli v5 c1024_i32_89
  let v124 : BitVec 32 := Scalar.addi v38 v123
  let c1_i32_146 : BitVec 32 := 1#32
  let v6 : BitVec 32 := Scalar.shrsi v2 c2_i32
  let c1_i32_3 : BitVec 32 := 1#32
  let v7 : BitVec 32 := Scalar.andi v6 c1_i32_3
  let v204 : BitVec 32 := Scalar.subi c1_i32_146 v7
  let c512_i32_147 : BitVec 32 := 512#32
  let v205 : BitVec 32 := Scalar.muli v204 c512_i32_147
  let v206 : BitVec 32 := Scalar.addi v124 v205
  let v278 : BitVec 32 := Scalar.subi v206 v124
  let v279 : Index := Scalar.indexCast v278
  let c0_210 : Index := 0#32
  ![v279.toNat, 0]
def k0_off7_at (r : Fin 2) : BitVec 32 × BitVec 32 :=
  if r.val < 1 then
    (1#32, 2#32)
  else
    (2#32, 1#32)
def k0_dev13 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_217 : BitVec 32 := 1#32
  let v287 : BitVec 32 := Scalar.muli v11 c1_i32_217
  let v288 : BitVec 32 := Scalar.addi c0_i32_218 v287
  v288.toNat
def k0_off8 (d0 : Dev nD) : Fin 2 → Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v39 : BitVec 32 := Scalar.muli c0_i32_27 v2
  let c2_i32 : BitVec 32 := 2#32
  let v6 : BitVec 32 := Scalar.shrsi v2 c2_i32
  let c1_i32_3 : BitVec 32 := 1#32
  let v7 : BitVec 32 := Scalar.andi v6 c1_i32_3
  let c1024_i32_98 : BitVec 32 := 1024#32
  let v135 : BitVec 32 := Scalar.muli v7 c1024_i32_98
  let v136 : BitVec 32 := Scalar.addi v39 v135
  let c1_i32_152 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v211 : BitVec 32 := Scalar.subi c1_i32_152 v8
  let c512_i32_153 : BitVec 32 := 512#32
  let v212 : BitVec 32 := Scalar.muli v211 c512_i32_153
  let v213 : BitVec 32 := Scalar.addi v136 v212
  let v299 : BitVec 32 := Scalar.subi v213 v136
  let v300 : Index := Scalar.indexCast v299
  let c0_226 : Index := 0#32
  ![v300.toNat, 0]
def k0_dev14 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_233 : BitVec 32 := 1#32
  let v308 : BitVec 32 := Scalar.muli v9 c1_i32_233
  let v309 : BitVec 32 := Scalar.addi c0_i32_234 v308
  v309.toNat
def k0_dev15 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_249 : BitVec 32 := 1#32
  let v329 : BitVec 32 := Scalar.muli v10 c1_i32_249
  let v330 : BitVec 32 := Scalar.addi c0_i32_250 v329
  v330.toNat
def k0_dev16 (d0 : Dev nD) : Nat :=
  let c0_i32_266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_265 : BitVec 32 := 1#32
  let v350 : BitVec 32 := Scalar.muli v11 c1_i32_265
  let v351 : BitVec 32 := Scalar.addi c0_i32_266 v350
  v351.toNat
def k0_dev17 (d0 : Dev nD) : Nat :=
  let c0_i32_282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_281 : BitVec 32 := 1#32
  let v371 : BitVec 32 := Scalar.muli v10 c1_i32_281
  let v372 : BitVec 32 := Scalar.addi c0_i32_282 v371
  v372.toNat
def k0_dev18 (d0 : Dev nD) : Nat :=
  let c0_i32_298 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_297 : BitVec 32 := 1#32
  let v392 : BitVec 32 := Scalar.muli v10 c1_i32_297
  let v393 : BitVec 32 := Scalar.addi c0_i32_298 v392
  v393.toNat
def k0_dev19 (d0 : Dev nD) : Nat :=
  let c0_i32_314 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_313 : BitVec 32 := 1#32
  let v413 : BitVec 32 := Scalar.muli v9 c1_i32_313
  let v414 : BitVec 32 := Scalar.addi c0_i32_314 v413
  v414.toNat
def k0_off9 (d0 : Dev nD) : Fin 2 → Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : BitVec 32 := Scalar.muli c0_i32_25 v2
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1024_i32_80 : BitVec 32 := 1024#32
  let v111 : BitVec 32 := Scalar.muli v8 c1024_i32_80
  let v112 : BitVec 32 := Scalar.addi v37 v111
  let c512_i32_203 : BitVec 32 := 512#32
  let v272 : BitVec 32 := Scalar.muli v5 c512_i32_203
  let v273 : BitVec 32 := Scalar.addi v112 v272
  let c1_i32_316 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v421 : BitVec 32 := Scalar.subi c1_i32_316 v7
  let c256_i32 : BitVec 32 := 256#32
  let v422 : BitVec 32 := Scalar.muli v421 c256_i32
  let v423 : BitVec 32 := Scalar.addi v273 v422
  let v424 : Index := Scalar.indexCast v423
  let c0_317 : Index := 0#32
  ![v424.toNat, 0]
def k0_off10 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : BitVec 32 := Scalar.muli c0_i32_26 v2
  let c1_i32_1 : BitVec 32 := 1#32
  let v4 : BitVec 32 := Scalar.shrsi v2 c1_i32_1
  let c1_i32_2 : BitVec 32 := 1#32
  let v5 : BitVec 32 := Scalar.andi v4 c1_i32_2
  let c1024_i32_89 : BitVec 32 := 1024#32
  let v123 : BitVec 32 := Scalar.muli v5 c1024_i32_89
  let v124 : BitVec 32 := Scalar.addi v38 v123
  let c2_i32 : BitVec 32 := 2#32
  let v6 : BitVec 32 := Scalar.shrsi v2 c2_i32
  let c1_i32_3 : BitVec 32 := 1#32
  let v7 : BitVec 32 := Scalar.andi v6 c1_i32_3
  let c512_i32_219 : BitVec 32 := 512#32
  let v293 : BitVec 32 := Scalar.muli v7 c512_i32_219
  let v294 : BitVec 32 := Scalar.addi v124 v293
  let c1_i32_321 : BitVec 32 := 1#32
  let c1_i32_0 : BitVec 32 := 1#32
  let v3 : BitVec 32 := Scalar.andi v2 c1_i32_0
  let v8 : BitVec 32 := Scalar.xori v3 v5
  let v428 : BitVec 32 := Scalar.subi c1_i32_321 v8
  let c256_i32_322 : BitVec 32 := 256#32
  let v429 : BitVec 32 := Scalar.muli v428 c256_i32_322
  let v430 : BitVec 32 := Scalar.addi v294 v429
  let v431 : Index := Scalar.indexCast v430
  let c0_323 : Index := 0#32
  ![v431.toNat, 0]
def k0_off11 (d0 : Dev nD) : Fin 2 → Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v39 : BitVec 32 := Scalar.muli c0_i32_27 v2
  let c2_i32 : BitVec 32 := 2#32
  let v6 : BitVec 32 := Scalar.shrsi v2 c2_i32
  let c1_i32_3 : BitVec 32 := 1#32
  let v7 : BitVec 32 := Scalar.andi v6 c1_i32_3
  let c1024_i32_98 : BitVec 32 := 1024#32
  let v135 : BitVec 32 := Scalar.muli v7 c1024_i32_98
  let v136 : BitVec 32 := Scalar.addi v39 v135
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c512_i32_235 : BitVec 32 := 512#32
  let v314 : BitVec 32 := Scalar.muli v8 c512_i32_235
  let v315 : BitVec 32 := Scalar.addi v136 v314
  let c1_i32_327 : BitVec 32 := 1#32
  let v435 : BitVec 32 := Scalar.subi c1_i32_327 v5
  let c256_i32_328 : BitVec 32 := 256#32
  let v436 : BitVec 32 := Scalar.muli v435 c256_i32_328
  let v437 : BitVec 32 := Scalar.addi v315 v436
  let v438 : Index := Scalar.indexCast v437
  let c0_329 : Index := 0#32
  ![v438.toNat, 0]
def k0_off12 (d0 : Dev nD) : Fin 2 → Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v42 : BitVec 32 := Scalar.muli c0_i32_30 v2
  let c2_i32 : BitVec 32 := 2#32
  let v6 : BitVec 32 := Scalar.shrsi v2 c2_i32
  let c1_i32_3 : BitVec 32 := 1#32
  let v7 : BitVec 32 := Scalar.andi v6 c1_i32_3
  let c1024_i32_124 : BitVec 32 := 1024#32
  let v171 : BitVec 32 := Scalar.muli v7 c1024_i32_124
  let v172 : BitVec 32 := Scalar.addi v42 v171
  let c1_i32_1 : BitVec 32 := 1#32
  let v4 : BitVec 32 := Scalar.shrsi v2 c1_i32_1
  let c1_i32_2 : BitVec 32 := 1#32
  let v5 : BitVec 32 := Scalar.andi v4 c1_i32_2
  let c512_i32_283 : BitVec 32 := 512#32
  let v377 : BitVec 32 := Scalar.muli v5 c512_i32_283
  let v378 : BitVec 32 := Scalar.addi v172 v377
  let c1_i32_345 : BitVec 32 := 1#32
  let c1_i32_0 : BitVec 32 := 1#32
  let v3 : BitVec 32 := Scalar.andi v2 c1_i32_0
  let v8 : BitVec 32 := Scalar.xori v3 v5
  let v456 : BitVec 32 := Scalar.subi c1_i32_345 v8
  let c256_i32_346 : BitVec 32 := 256#32
  let v457 : BitVec 32 := Scalar.muli v456 c256_i32_346
  let v458 : BitVec 32 := Scalar.addi v378 v457
  let v459 : Index := Scalar.indexCast v458
  let c0_347 : Index := 0#32
  ![v459.toNat, 0]
def k0_off13 (d0 : Dev nD) : Fin 2 → Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : BitVec 32 := Scalar.muli c0_i32_25 v2
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1024_i32_80 : BitVec 32 := 1024#32
  let v111 : BitVec 32 := Scalar.muli v8 c1024_i32_80
  let v112 : BitVec 32 := Scalar.addi v37 v111
  let c512_i32_203 : BitVec 32 := 512#32
  let v272 : BitVec 32 := Scalar.muli v5 c512_i32_203
  let v273 : BitVec 32 := Scalar.addi v112 v272
  let c1_i32_316 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v421 : BitVec 32 := Scalar.subi c1_i32_316 v7
  let c256_i32 : BitVec 32 := 256#32
  let v422 : BitVec 32 := Scalar.muli v421 c256_i32
  let v423 : BitVec 32 := Scalar.addi v273 v422
  let v481 : BitVec 32 := Scalar.subi v423 v112
  let v482 : Index := Scalar.indexCast v481
  let c0_369 : Index := 0#32
  ![v482.toNat, 0]
def k0_off14 (d0 : Dev nD) : Fin 2 → Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : BitVec 32 := Scalar.muli c0_i32_25 v2
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1024_i32_80 : BitVec 32 := 1024#32
  let v111 : BitVec 32 := Scalar.muli v8 c1024_i32_80
  let v112 : BitVec 32 := Scalar.addi v37 v111
  let c512_i32_203 : BitVec 32 := 512#32
  let v272 : BitVec 32 := Scalar.muli v5 c512_i32_203
  let v273 : BitVec 32 := Scalar.addi v112 v272
  let c1_i32_316 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v421 : BitVec 32 := Scalar.subi c1_i32_316 v7
  let c256_i32 : BitVec 32 := 256#32
  let v422 : BitVec 32 := Scalar.muli v421 c256_i32
  let v423 : BitVec 32 := Scalar.addi v273 v422
  let v486 : BitVec 32 := Scalar.subi v423 v273
  let v487 : Index := Scalar.indexCast v486
  let c0_370 : Index := 0#32
  ![v487.toNat, 0]
def k0_dev20 (d0 : Dev nD) : Nat :=
  let c0_i32_378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_377 : BitVec 32 := 1#32
  let v495 : BitVec 32 := Scalar.muli v11 c1_i32_377
  let v496 : BitVec 32 := Scalar.addi c0_i32_378 v495
  v496.toNat
def k0_off15 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : BitVec 32 := Scalar.muli c0_i32_26 v2
  let c1_i32_1 : BitVec 32 := 1#32
  let v4 : BitVec 32 := Scalar.shrsi v2 c1_i32_1
  let c1_i32_2 : BitVec 32 := 1#32
  let v5 : BitVec 32 := Scalar.andi v4 c1_i32_2
  let c1024_i32_89 : BitVec 32 := 1024#32
  let v123 : BitVec 32 := Scalar.muli v5 c1024_i32_89
  let v124 : BitVec 32 := Scalar.addi v38 v123
  let c2_i32 : BitVec 32 := 2#32
  let v6 : BitVec 32 := Scalar.shrsi v2 c2_i32
  let c1_i32_3 : BitVec 32 := 1#32
  let v7 : BitVec 32 := Scalar.andi v6 c1_i32_3
  let c512_i32_219 : BitVec 32 := 512#32
  let v293 : BitVec 32 := Scalar.muli v7 c512_i32_219
  let v294 : BitVec 32 := Scalar.addi v124 v293
  let c1_i32_321 : BitVec 32 := 1#32
  let c1_i32_0 : BitVec 32 := 1#32
  let v3 : BitVec 32 := Scalar.andi v2 c1_i32_0
  let v8 : BitVec 32 := Scalar.xori v3 v5
  let v428 : BitVec 32 := Scalar.subi c1_i32_321 v8
  let c256_i32_322 : BitVec 32 := 256#32
  let v429 : BitVec 32 := Scalar.muli v428 c256_i32_322
  let v430 : BitVec 32 := Scalar.addi v294 v429
  let v507 : BitVec 32 := Scalar.subi v430 v124
  let v508 : Index := Scalar.indexCast v507
  let c0_386 : Index := 0#32
  ![v508.toNat, 0]
def k0_off16 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : BitVec 32 := Scalar.muli c0_i32_26 v2
  let c1_i32_1 : BitVec 32 := 1#32
  let v4 : BitVec 32 := Scalar.shrsi v2 c1_i32_1
  let c1_i32_2 : BitVec 32 := 1#32
  let v5 : BitVec 32 := Scalar.andi v4 c1_i32_2
  let c1024_i32_89 : BitVec 32 := 1024#32
  let v123 : BitVec 32 := Scalar.muli v5 c1024_i32_89
  let v124 : BitVec 32 := Scalar.addi v38 v123
  let c2_i32 : BitVec 32 := 2#32
  let v6 : BitVec 32 := Scalar.shrsi v2 c2_i32
  let c1_i32_3 : BitVec 32 := 1#32
  let v7 : BitVec 32 := Scalar.andi v6 c1_i32_3
  let c512_i32_219 : BitVec 32 := 512#32
  let v293 : BitVec 32 := Scalar.muli v7 c512_i32_219
  let v294 : BitVec 32 := Scalar.addi v124 v293
  let c1_i32_321 : BitVec 32 := 1#32
  let c1_i32_0 : BitVec 32 := 1#32
  let v3 : BitVec 32 := Scalar.andi v2 c1_i32_0
  let v8 : BitVec 32 := Scalar.xori v3 v5
  let v428 : BitVec 32 := Scalar.subi c1_i32_321 v8
  let c256_i32_322 : BitVec 32 := 256#32
  let v429 : BitVec 32 := Scalar.muli v428 c256_i32_322
  let v430 : BitVec 32 := Scalar.addi v294 v429
  let v512 : BitVec 32 := Scalar.subi v430 v294
  let v513 : Index := Scalar.indexCast v512
  let c0_387 : Index := 0#32
  ![v513.toNat, 0]
def k0_dev21 (d0 : Dev nD) : Nat :=
  let c0_i32_395 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_394 : BitVec 32 := 1#32
  let v521 : BitVec 32 := Scalar.muli v9 c1_i32_394
  let v522 : BitVec 32 := Scalar.addi c0_i32_395 v521
  v522.toNat
def k0_off17 (d0 : Dev nD) : Fin 2 → Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v39 : BitVec 32 := Scalar.muli c0_i32_27 v2
  let c2_i32 : BitVec 32 := 2#32
  let v6 : BitVec 32 := Scalar.shrsi v2 c2_i32
  let c1_i32_3 : BitVec 32 := 1#32
  let v7 : BitVec 32 := Scalar.andi v6 c1_i32_3
  let c1024_i32_98 : BitVec 32 := 1024#32
  let v135 : BitVec 32 := Scalar.muli v7 c1024_i32_98
  let v136 : BitVec 32 := Scalar.addi v39 v135
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c512_i32_235 : BitVec 32 := 512#32
  let v314 : BitVec 32 := Scalar.muli v8 c512_i32_235
  let v315 : BitVec 32 := Scalar.addi v136 v314
  let c1_i32_327 : BitVec 32 := 1#32
  let v435 : BitVec 32 := Scalar.subi c1_i32_327 v5
  let c256_i32_328 : BitVec 32 := 256#32
  let v436 : BitVec 32 := Scalar.muli v435 c256_i32_328
  let v437 : BitVec 32 := Scalar.addi v315 v436
  let v533 : BitVec 32 := Scalar.subi v437 v136
  let v534 : Index := Scalar.indexCast v533
  let c0_403 : Index := 0#32
  ![v534.toNat, 0]
def k0_off18 (d0 : Dev nD) : Fin 2 → Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v39 : BitVec 32 := Scalar.muli c0_i32_27 v2
  let c2_i32 : BitVec 32 := 2#32
  let v6 : BitVec 32 := Scalar.shrsi v2 c2_i32
  let c1_i32_3 : BitVec 32 := 1#32
  let v7 : BitVec 32 := Scalar.andi v6 c1_i32_3
  let c1024_i32_98 : BitVec 32 := 1024#32
  let v135 : BitVec 32 := Scalar.muli v7 c1024_i32_98
  let v136 : BitVec 32 := Scalar.addi v39 v135
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c512_i32_235 : BitVec 32 := 512#32
  let v314 : BitVec 32 := Scalar.muli v8 c512_i32_235
  let v315 : BitVec 32 := Scalar.addi v136 v314
  let c1_i32_327 : BitVec 32 := 1#32
  let v435 : BitVec 32 := Scalar.subi c1_i32_327 v5
  let c256_i32_328 : BitVec 32 := 256#32
  let v436 : BitVec 32 := Scalar.muli v435 c256_i32_328
  let v437 : BitVec 32 := Scalar.addi v315 v436
  let v538 : BitVec 32 := Scalar.subi v437 v315
  let v539 : Index := Scalar.indexCast v538
  let c0_404 : Index := 0#32
  ![v539.toNat, 0]
def k0_dev22 (d0 : Dev nD) : Nat :=
  let c0_i32_412 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_411 : BitVec 32 := 1#32
  let v547 : BitVec 32 := Scalar.muli v10 c1_i32_411
  let v548 : BitVec 32 := Scalar.addi c0_i32_412 v547
  v548.toNat
def k0_dev23 (d0 : Dev nD) : Nat :=
  let c0_i32_429 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_428 : BitVec 32 := 1#32
  let v573 : BitVec 32 := Scalar.muli v11 c1_i32_428
  let v574 : BitVec 32 := Scalar.addi c0_i32_429 v573
  v574.toNat
def k0_dev24 (d0 : Dev nD) : Nat :=
  let c0_i32_446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_445 : BitVec 32 := 1#32
  let v599 : BitVec 32 := Scalar.muli v9 c1_i32_445
  let v600 : BitVec 32 := Scalar.addi c0_i32_446 v599
  v600.toNat
def k0_off19 (d0 : Dev nD) : Fin 2 → Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v42 : BitVec 32 := Scalar.muli c0_i32_30 v2
  let c2_i32 : BitVec 32 := 2#32
  let v6 : BitVec 32 := Scalar.shrsi v2 c2_i32
  let c1_i32_3 : BitVec 32 := 1#32
  let v7 : BitVec 32 := Scalar.andi v6 c1_i32_3
  let c1024_i32_124 : BitVec 32 := 1024#32
  let v171 : BitVec 32 := Scalar.muli v7 c1024_i32_124
  let v172 : BitVec 32 := Scalar.addi v42 v171
  let c1_i32_1 : BitVec 32 := 1#32
  let v4 : BitVec 32 := Scalar.shrsi v2 c1_i32_1
  let c1_i32_2 : BitVec 32 := 1#32
  let v5 : BitVec 32 := Scalar.andi v4 c1_i32_2
  let c512_i32_283 : BitVec 32 := 512#32
  let v377 : BitVec 32 := Scalar.muli v5 c512_i32_283
  let v378 : BitVec 32 := Scalar.addi v172 v377
  let c1_i32_345 : BitVec 32 := 1#32
  let c1_i32_0 : BitVec 32 := 1#32
  let v3 : BitVec 32 := Scalar.andi v2 c1_i32_0
  let v8 : BitVec 32 := Scalar.xori v3 v5
  let v456 : BitVec 32 := Scalar.subi c1_i32_345 v8
  let c256_i32_346 : BitVec 32 := 256#32
  let v457 : BitVec 32 := Scalar.muli v456 c256_i32_346
  let v458 : BitVec 32 := Scalar.addi v378 v457
  let v611 : BitVec 32 := Scalar.subi v458 v172
  let v612 : Index := Scalar.indexCast v611
  let c0_454 : Index := 0#32
  ![v612.toNat, 0]
def k0_off20 (d0 : Dev nD) : Fin 2 → Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v42 : BitVec 32 := Scalar.muli c0_i32_30 v2
  let c2_i32 : BitVec 32 := 2#32
  let v6 : BitVec 32 := Scalar.shrsi v2 c2_i32
  let c1_i32_3 : BitVec 32 := 1#32
  let v7 : BitVec 32 := Scalar.andi v6 c1_i32_3
  let c1024_i32_124 : BitVec 32 := 1024#32
  let v171 : BitVec 32 := Scalar.muli v7 c1024_i32_124
  let v172 : BitVec 32 := Scalar.addi v42 v171
  let c1_i32_1 : BitVec 32 := 1#32
  let v4 : BitVec 32 := Scalar.shrsi v2 c1_i32_1
  let c1_i32_2 : BitVec 32 := 1#32
  let v5 : BitVec 32 := Scalar.andi v4 c1_i32_2
  let c512_i32_283 : BitVec 32 := 512#32
  let v377 : BitVec 32 := Scalar.muli v5 c512_i32_283
  let v378 : BitVec 32 := Scalar.addi v172 v377
  let c1_i32_345 : BitVec 32 := 1#32
  let c1_i32_0 : BitVec 32 := 1#32
  let v3 : BitVec 32 := Scalar.andi v2 c1_i32_0
  let v8 : BitVec 32 := Scalar.xori v3 v5
  let v456 : BitVec 32 := Scalar.subi c1_i32_345 v8
  let c256_i32_346 : BitVec 32 := 256#32
  let v457 : BitVec 32 := Scalar.muli v456 c256_i32_346
  let v458 : BitVec 32 := Scalar.addi v378 v457
  let v616 : BitVec 32 := Scalar.subi v458 v378
  let v617 : Index := Scalar.indexCast v616
  let c0_455 : Index := 0#32
  ![v617.toNat, 0]
def k0_dev25 (d0 : Dev nD) : Nat :=
  let c0_i32_463 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_462 : BitVec 32 := 1#32
  let v625 : BitVec 32 := Scalar.muli v9 c1_i32_462
  let v626 : BitVec 32 := Scalar.addi c0_i32_463 v625
  v626.toNat
def k0_dev26 (d0 : Dev nD) : Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_479 : BitVec 32 := 1#32
  let v651 : BitVec 32 := Scalar.muli v11 c1_i32_479
  let v652 : BitVec 32 := Scalar.addi c0_i32_480 v651
  v652.toNat
def k0_dev27 (d0 : Dev nD) : Nat :=
  let c0_i32_497 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_496 : BitVec 32 := 1#32
  let v677 : BitVec 32 := Scalar.muli v10 c1_i32_496
  let v678 : BitVec 32 := Scalar.addi c0_i32_497 v677
  v678.toNat
def k0_off21 (d0 : Dev nD) : Fin 2 → Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : BitVec 32 := Scalar.muli c0_i32_25 v2
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1024_i32_80 : BitVec 32 := 1024#32
  let v111 : BitVec 32 := Scalar.muli v8 c1024_i32_80
  let v112 : BitVec 32 := Scalar.addi v37 v111
  let c512_i32_203 : BitVec 32 := 512#32
  let v272 : BitVec 32 := Scalar.muli v5 c512_i32_203
  let v273 : BitVec 32 := Scalar.addi v112 v272
  let c2_i32 : BitVec 32 := 2#32
  let v6 : BitVec 32 := Scalar.shrsi v2 c2_i32
  let c1_i32_3 : BitVec 32 := 1#32
  let v7 : BitVec 32 := Scalar.andi v6 c1_i32_3
  let c256_i32_379 : BitVec 32 := 256#32
  let v501 : BitVec 32 := Scalar.muli v7 c256_i32_379
  let v502 : BitVec 32 := Scalar.addi v273 v501
  let v689 : Index := Scalar.indexCast v502
  let c0_505 : Index := 0#32
  ![v689.toNat, 0]
def k0_off22 (d0 : Dev nD) : Fin 2 → Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : BitVec 32 := Scalar.muli c0_i32_25 v2
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1024_i32_80 : BitVec 32 := 1024#32
  let v111 : BitVec 32 := Scalar.muli v8 c1024_i32_80
  let v112 : BitVec 32 := Scalar.addi v37 v111
  let c512_i32_203 : BitVec 32 := 512#32
  let v272 : BitVec 32 := Scalar.muli v5 c512_i32_203
  let v273 : BitVec 32 := Scalar.addi v112 v272
  let c2_i32 : BitVec 32 := 2#32
  let v6 : BitVec 32 := Scalar.shrsi v2 c2_i32
  let c1_i32_3 : BitVec 32 := 1#32
  let v7 : BitVec 32 := Scalar.andi v6 c1_i32_3
  let c256_i32_379 : BitVec 32 := 256#32
  let v501 : BitVec 32 := Scalar.muli v7 c256_i32_379
  let v502 : BitVec 32 := Scalar.addi v273 v501
  let v693 : BitVec 32 := Scalar.subi v502 v112
  let v694 : Index := Scalar.indexCast v693
  let c0_509 : Index := 0#32
  ![v694.toNat, 0]
def k0_off23 (d0 : Dev nD) : Fin 2 → Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : BitVec 32 := Scalar.muli c0_i32_25 v2
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1024_i32_80 : BitVec 32 := 1024#32
  let v111 : BitVec 32 := Scalar.muli v8 c1024_i32_80
  let v112 : BitVec 32 := Scalar.addi v37 v111
  let c512_i32_203 : BitVec 32 := 512#32
  let v272 : BitVec 32 := Scalar.muli v5 c512_i32_203
  let v273 : BitVec 32 := Scalar.addi v112 v272
  let c2_i32 : BitVec 32 := 2#32
  let v6 : BitVec 32 := Scalar.shrsi v2 c2_i32
  let c1_i32_3 : BitVec 32 := 1#32
  let v7 : BitVec 32 := Scalar.andi v6 c1_i32_3
  let c256_i32_379 : BitVec 32 := 256#32
  let v501 : BitVec 32 := Scalar.muli v7 c256_i32_379
  let v502 : BitVec 32 := Scalar.addi v273 v501
  let v698 : BitVec 32 := Scalar.subi v502 v273
  let v699 : Index := Scalar.indexCast v698
  let c0_510 : Index := 0#32
  ![v699.toNat, 0]
def k0_off24 (d0 : Dev nD) : Fin 2 → Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : BitVec 32 := Scalar.muli c0_i32_25 v2
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1024_i32_80 : BitVec 32 := 1024#32
  let v111 : BitVec 32 := Scalar.muli v8 c1024_i32_80
  let v112 : BitVec 32 := Scalar.addi v37 v111
  let c512_i32_203 : BitVec 32 := 512#32
  let v272 : BitVec 32 := Scalar.muli v5 c512_i32_203
  let v273 : BitVec 32 := Scalar.addi v112 v272
  let c2_i32 : BitVec 32 := 2#32
  let v6 : BitVec 32 := Scalar.shrsi v2 c2_i32
  let c1_i32_3 : BitVec 32 := 1#32
  let v7 : BitVec 32 := Scalar.andi v6 c1_i32_3
  let c256_i32_379 : BitVec 32 := 256#32
  let v501 : BitVec 32 := Scalar.muli v7 c256_i32_379
  let v502 : BitVec 32 := Scalar.addi v273 v501
  let v703 : BitVec 32 := Scalar.subi v502 v502
  let v704 : Index := Scalar.indexCast v703
  let c0_511 : Index := 0#32
  ![v704.toNat, 0]
def k0_off25 (d0 : Dev nD) : Fin 2 → Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : BitVec 32 := Scalar.muli c0_i32_25 v2
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1024_i32_80 : BitVec 32 := 1024#32
  let v111 : BitVec 32 := Scalar.muli v8 c1024_i32_80
  let v112 : BitVec 32 := Scalar.addi v37 v111
  let c512_i32_203 : BitVec 32 := 512#32
  let v272 : BitVec 32 := Scalar.muli v5 c512_i32_203
  let v273 : BitVec 32 := Scalar.addi v112 v272
  let c2_i32 : BitVec 32 := 2#32
  let v6 : BitVec 32 := Scalar.shrsi v2 c2_i32
  let c1_i32_3 : BitVec 32 := 1#32
  let v7 : BitVec 32 := Scalar.andi v6 c1_i32_3
  let c256_i32_379 : BitVec 32 := 256#32
  let v501 : BitVec 32 := Scalar.muli v7 c256_i32_379
  let v502 : BitVec 32 := Scalar.addi v273 v501
  let c0_i32_519 : BitVec 32 := 0#32
  ![v502.toNat, 0]
def k0_dev28 (d0 : Dev nD) : Nat :=
  let c0_i32_518 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_517 : BitVec 32 := 1#32
  let v713 : BitVec 32 := Scalar.muli v11 c1_i32_517
  let v714 : BitVec 32 := Scalar.addi c0_i32_518 v713
  v714.toNat
def k0_off26 (d0 : Dev nD) : Fin 2 → Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : BitVec 32 := Scalar.muli c0_i32_25 v2
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1024_i32_80 : BitVec 32 := 1024#32
  let v111 : BitVec 32 := Scalar.muli v8 c1024_i32_80
  let v112 : BitVec 32 := Scalar.addi v37 v111
  let c512_i32_203 : BitVec 32 := 512#32
  let v272 : BitVec 32 := Scalar.muli v5 c512_i32_203
  let v273 : BitVec 32 := Scalar.addi v112 v272
  let c2_i32 : BitVec 32 := 2#32
  let v6 : BitVec 32 := Scalar.shrsi v2 c2_i32
  let c1_i32_3 : BitVec 32 := 1#32
  let v7 : BitVec 32 := Scalar.andi v6 c1_i32_3
  let c256_i32_379 : BitVec 32 := 256#32
  let v501 : BitVec 32 := Scalar.muli v7 c256_i32_379
  let v502 : BitVec 32 := Scalar.addi v273 v501
  let c0_i32_523 : BitVec 32 := 0#32
  ![v502.toNat, 0]
def k0_off27 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : BitVec 32 := Scalar.muli c0_i32_26 v2
  let c1_i32_1 : BitVec 32 := 1#32
  let v4 : BitVec 32 := Scalar.shrsi v2 c1_i32_1
  let c1_i32_2 : BitVec 32 := 1#32
  let v5 : BitVec 32 := Scalar.andi v4 c1_i32_2
  let c1024_i32_89 : BitVec 32 := 1024#32
  let v123 : BitVec 32 := Scalar.muli v5 c1024_i32_89
  let v124 : BitVec 32 := Scalar.addi v38 v123
  let c2_i32 : BitVec 32 := 2#32
  let v6 : BitVec 32 := Scalar.shrsi v2 c2_i32
  let c1_i32_3 : BitVec 32 := 1#32
  let v7 : BitVec 32 := Scalar.andi v6 c1_i32_3
  let c512_i32_219 : BitVec 32 := 512#32
  let v293 : BitVec 32 := Scalar.muli v7 c512_i32_219
  let v294 : BitVec 32 := Scalar.addi v124 v293
  let c1_i32_0 : BitVec 32 := 1#32
  let v3 : BitVec 32 := Scalar.andi v2 c1_i32_0
  let v8 : BitVec 32 := Scalar.xori v3 v5
  let c256_i32_396 : BitVec 32 := 256#32
  let v527 : BitVec 32 := Scalar.muli v8 c256_i32_396
  let v528 : BitVec 32 := Scalar.addi v294 v527
  let v729 : Index := Scalar.indexCast v528
  let c0_531 : Index := 0#32
  ![v729.toNat, 0]
def k0_off28 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : BitVec 32 := Scalar.muli c0_i32_26 v2
  let c1_i32_1 : BitVec 32 := 1#32
  let v4 : BitVec 32 := Scalar.shrsi v2 c1_i32_1
  let c1_i32_2 : BitVec 32 := 1#32
  let v5 : BitVec 32 := Scalar.andi v4 c1_i32_2
  let c1024_i32_89 : BitVec 32 := 1024#32
  let v123 : BitVec 32 := Scalar.muli v5 c1024_i32_89
  let v124 : BitVec 32 := Scalar.addi v38 v123
  let c2_i32 : BitVec 32 := 2#32
  let v6 : BitVec 32 := Scalar.shrsi v2 c2_i32
  let c1_i32_3 : BitVec 32 := 1#32
  let v7 : BitVec 32 := Scalar.andi v6 c1_i32_3
  let c512_i32_219 : BitVec 32 := 512#32
  let v293 : BitVec 32 := Scalar.muli v7 c512_i32_219
  let v294 : BitVec 32 := Scalar.addi v124 v293
  let c1_i32_0 : BitVec 32 := 1#32
  let v3 : BitVec 32 := Scalar.andi v2 c1_i32_0
  let v8 : BitVec 32 := Scalar.xori v3 v5
  let c256_i32_396 : BitVec 32 := 256#32
  let v527 : BitVec 32 := Scalar.muli v8 c256_i32_396
  let v528 : BitVec 32 := Scalar.addi v294 v527
  let v733 : BitVec 32 := Scalar.subi v528 v124
  let v734 : Index := Scalar.indexCast v733
  let c0_535 : Index := 0#32
  ![v734.toNat, 0]
def k0_off29 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : BitVec 32 := Scalar.muli c0_i32_26 v2
  let c1_i32_1 : BitVec 32 := 1#32
  let v4 : BitVec 32 := Scalar.shrsi v2 c1_i32_1
  let c1_i32_2 : BitVec 32 := 1#32
  let v5 : BitVec 32 := Scalar.andi v4 c1_i32_2
  let c1024_i32_89 : BitVec 32 := 1024#32
  let v123 : BitVec 32 := Scalar.muli v5 c1024_i32_89
  let v124 : BitVec 32 := Scalar.addi v38 v123
  let c2_i32 : BitVec 32 := 2#32
  let v6 : BitVec 32 := Scalar.shrsi v2 c2_i32
  let c1_i32_3 : BitVec 32 := 1#32
  let v7 : BitVec 32 := Scalar.andi v6 c1_i32_3
  let c512_i32_219 : BitVec 32 := 512#32
  let v293 : BitVec 32 := Scalar.muli v7 c512_i32_219
  let v294 : BitVec 32 := Scalar.addi v124 v293
  let c1_i32_0 : BitVec 32 := 1#32
  let v3 : BitVec 32 := Scalar.andi v2 c1_i32_0
  let v8 : BitVec 32 := Scalar.xori v3 v5
  let c256_i32_396 : BitVec 32 := 256#32
  let v527 : BitVec 32 := Scalar.muli v8 c256_i32_396
  let v528 : BitVec 32 := Scalar.addi v294 v527
  let v738 : BitVec 32 := Scalar.subi v528 v294
  let v739 : Index := Scalar.indexCast v738
  let c0_536 : Index := 0#32
  ![v739.toNat, 0]
def k0_off30 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : BitVec 32 := Scalar.muli c0_i32_26 v2
  let c1_i32_1 : BitVec 32 := 1#32
  let v4 : BitVec 32 := Scalar.shrsi v2 c1_i32_1
  let c1_i32_2 : BitVec 32 := 1#32
  let v5 : BitVec 32 := Scalar.andi v4 c1_i32_2
  let c1024_i32_89 : BitVec 32 := 1024#32
  let v123 : BitVec 32 := Scalar.muli v5 c1024_i32_89
  let v124 : BitVec 32 := Scalar.addi v38 v123
  let c2_i32 : BitVec 32 := 2#32
  let v6 : BitVec 32 := Scalar.shrsi v2 c2_i32
  let c1_i32_3 : BitVec 32 := 1#32
  let v7 : BitVec 32 := Scalar.andi v6 c1_i32_3
  let c512_i32_219 : BitVec 32 := 512#32
  let v293 : BitVec 32 := Scalar.muli v7 c512_i32_219
  let v294 : BitVec 32 := Scalar.addi v124 v293
  let c1_i32_0 : BitVec 32 := 1#32
  let v3 : BitVec 32 := Scalar.andi v2 c1_i32_0
  let v8 : BitVec 32 := Scalar.xori v3 v5
  let c256_i32_396 : BitVec 32 := 256#32
  let v527 : BitVec 32 := Scalar.muli v8 c256_i32_396
  let v528 : BitVec 32 := Scalar.addi v294 v527
  let v743 : BitVec 32 := Scalar.subi v528 v528
  let v744 : Index := Scalar.indexCast v743
  let c0_537 : Index := 0#32
  ![v744.toNat, 0]
def k0_off31 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : BitVec 32 := Scalar.muli c0_i32_26 v2
  let c1_i32_1 : BitVec 32 := 1#32
  let v4 : BitVec 32 := Scalar.shrsi v2 c1_i32_1
  let c1_i32_2 : BitVec 32 := 1#32
  let v5 : BitVec 32 := Scalar.andi v4 c1_i32_2
  let c1024_i32_89 : BitVec 32 := 1024#32
  let v123 : BitVec 32 := Scalar.muli v5 c1024_i32_89
  let v124 : BitVec 32 := Scalar.addi v38 v123
  let c2_i32 : BitVec 32 := 2#32
  let v6 : BitVec 32 := Scalar.shrsi v2 c2_i32
  let c1_i32_3 : BitVec 32 := 1#32
  let v7 : BitVec 32 := Scalar.andi v6 c1_i32_3
  let c512_i32_219 : BitVec 32 := 512#32
  let v293 : BitVec 32 := Scalar.muli v7 c512_i32_219
  let v294 : BitVec 32 := Scalar.addi v124 v293
  let c1_i32_0 : BitVec 32 := 1#32
  let v3 : BitVec 32 := Scalar.andi v2 c1_i32_0
  let v8 : BitVec 32 := Scalar.xori v3 v5
  let c256_i32_396 : BitVec 32 := 256#32
  let v527 : BitVec 32 := Scalar.muli v8 c256_i32_396
  let v528 : BitVec 32 := Scalar.addi v294 v527
  let c0_i32_545 : BitVec 32 := 0#32
  ![v528.toNat, 0]
def k0_dev29 (d0 : Dev nD) : Nat :=
  let c0_i32_544 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_543 : BitVec 32 := 1#32
  let v753 : BitVec 32 := Scalar.muli v9 c1_i32_543
  let v754 : BitVec 32 := Scalar.addi c0_i32_544 v753
  v754.toNat
def k0_off32 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : BitVec 32 := Scalar.muli c0_i32_26 v2
  let c1_i32_1 : BitVec 32 := 1#32
  let v4 : BitVec 32 := Scalar.shrsi v2 c1_i32_1
  let c1_i32_2 : BitVec 32 := 1#32
  let v5 : BitVec 32 := Scalar.andi v4 c1_i32_2
  let c1024_i32_89 : BitVec 32 := 1024#32
  let v123 : BitVec 32 := Scalar.muli v5 c1024_i32_89
  let v124 : BitVec 32 := Scalar.addi v38 v123
  let c2_i32 : BitVec 32 := 2#32
  let v6 : BitVec 32 := Scalar.shrsi v2 c2_i32
  let c1_i32_3 : BitVec 32 := 1#32
  let v7 : BitVec 32 := Scalar.andi v6 c1_i32_3
  let c512_i32_219 : BitVec 32 := 512#32
  let v293 : BitVec 32 := Scalar.muli v7 c512_i32_219
  let v294 : BitVec 32 := Scalar.addi v124 v293
  let c1_i32_0 : BitVec 32 := 1#32
  let v3 : BitVec 32 := Scalar.andi v2 c1_i32_0
  let v8 : BitVec 32 := Scalar.xori v3 v5
  let c256_i32_396 : BitVec 32 := 256#32
  let v527 : BitVec 32 := Scalar.muli v8 c256_i32_396
  let v528 : BitVec 32 := Scalar.addi v294 v527
  let c256_i32_549 : BitVec 32 := 256#32
  ![v528.toNat, 256]
def k0_off33 (d0 : Dev nD) : Fin 2 → Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v39 : BitVec 32 := Scalar.muli c0_i32_27 v2
  let c2_i32 : BitVec 32 := 2#32
  let v6 : BitVec 32 := Scalar.shrsi v2 c2_i32
  let c1_i32_3 : BitVec 32 := 1#32
  let v7 : BitVec 32 := Scalar.andi v6 c1_i32_3
  let c1024_i32_98 : BitVec 32 := 1024#32
  let v135 : BitVec 32 := Scalar.muli v7 c1024_i32_98
  let v136 : BitVec 32 := Scalar.addi v39 v135
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c512_i32_235 : BitVec 32 := 512#32
  let v314 : BitVec 32 := Scalar.muli v8 c512_i32_235
  let v315 : BitVec 32 := Scalar.addi v136 v314
  let c256_i32_413 : BitVec 32 := 256#32
  let v553 : BitVec 32 := Scalar.muli v5 c256_i32_413
  let v554 : BitVec 32 := Scalar.addi v315 v553
  let v769 : Index := Scalar.indexCast v554
  let c0_557 : Index := 0#32
  ![v769.toNat, 0]
def k0_off34 (d0 : Dev nD) : Fin 2 → Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v39 : BitVec 32 := Scalar.muli c0_i32_27 v2
  let c2_i32 : BitVec 32 := 2#32
  let v6 : BitVec 32 := Scalar.shrsi v2 c2_i32
  let c1_i32_3 : BitVec 32 := 1#32
  let v7 : BitVec 32 := Scalar.andi v6 c1_i32_3
  let c1024_i32_98 : BitVec 32 := 1024#32
  let v135 : BitVec 32 := Scalar.muli v7 c1024_i32_98
  let v136 : BitVec 32 := Scalar.addi v39 v135
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c512_i32_235 : BitVec 32 := 512#32
  let v314 : BitVec 32 := Scalar.muli v8 c512_i32_235
  let v315 : BitVec 32 := Scalar.addi v136 v314
  let c256_i32_413 : BitVec 32 := 256#32
  let v553 : BitVec 32 := Scalar.muli v5 c256_i32_413
  let v554 : BitVec 32 := Scalar.addi v315 v553
  let v773 : BitVec 32 := Scalar.subi v554 v136
  let v774 : Index := Scalar.indexCast v773
  let c0_561 : Index := 0#32
  ![v774.toNat, 0]
def k0_off35 (d0 : Dev nD) : Fin 2 → Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v39 : BitVec 32 := Scalar.muli c0_i32_27 v2
  let c2_i32 : BitVec 32 := 2#32
  let v6 : BitVec 32 := Scalar.shrsi v2 c2_i32
  let c1_i32_3 : BitVec 32 := 1#32
  let v7 : BitVec 32 := Scalar.andi v6 c1_i32_3
  let c1024_i32_98 : BitVec 32 := 1024#32
  let v135 : BitVec 32 := Scalar.muli v7 c1024_i32_98
  let v136 : BitVec 32 := Scalar.addi v39 v135
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c512_i32_235 : BitVec 32 := 512#32
  let v314 : BitVec 32 := Scalar.muli v8 c512_i32_235
  let v315 : BitVec 32 := Scalar.addi v136 v314
  let c256_i32_413 : BitVec 32 := 256#32
  let v553 : BitVec 32 := Scalar.muli v5 c256_i32_413
  let v554 : BitVec 32 := Scalar.addi v315 v553
  let v778 : BitVec 32 := Scalar.subi v554 v315
  let v779 : Index := Scalar.indexCast v778
  let c0_562 : Index := 0#32
  ![v779.toNat, 0]
def k0_off36 (d0 : Dev nD) : Fin 2 → Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v39 : BitVec 32 := Scalar.muli c0_i32_27 v2
  let c2_i32 : BitVec 32 := 2#32
  let v6 : BitVec 32 := Scalar.shrsi v2 c2_i32
  let c1_i32_3 : BitVec 32 := 1#32
  let v7 : BitVec 32 := Scalar.andi v6 c1_i32_3
  let c1024_i32_98 : BitVec 32 := 1024#32
  let v135 : BitVec 32 := Scalar.muli v7 c1024_i32_98
  let v136 : BitVec 32 := Scalar.addi v39 v135
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c512_i32_235 : BitVec 32 := 512#32
  let v314 : BitVec 32 := Scalar.muli v8 c512_i32_235
  let v315 : BitVec 32 := Scalar.addi v136 v314
  let c256_i32_413 : BitVec 32 := 256#32
  let v553 : BitVec 32 := Scalar.muli v5 c256_i32_413
  let v554 : BitVec 32 := Scalar.addi v315 v553
  let v783 : BitVec 32 := Scalar.subi v554 v554
  let v784 : Index := Scalar.indexCast v783
  let c0_563 : Index := 0#32
  ![v784.toNat, 0]
def k0_off37 (d0 : Dev nD) : Fin 2 → Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v39 : BitVec 32 := Scalar.muli c0_i32_27 v2
  let c2_i32 : BitVec 32 := 2#32
  let v6 : BitVec 32 := Scalar.shrsi v2 c2_i32
  let c1_i32_3 : BitVec 32 := 1#32
  let v7 : BitVec 32 := Scalar.andi v6 c1_i32_3
  let c1024_i32_98 : BitVec 32 := 1024#32
  let v135 : BitVec 32 := Scalar.muli v7 c1024_i32_98
  let v136 : BitVec 32 := Scalar.addi v39 v135
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c512_i32_235 : BitVec 32 := 512#32
  let v314 : BitVec 32 := Scalar.muli v8 c512_i32_235
  let v315 : BitVec 32 := Scalar.addi v136 v314
  let c256_i32_413 : BitVec 32 := 256#32
  let v553 : BitVec 32 := Scalar.muli v5 c256_i32_413
  let v554 : BitVec 32 := Scalar.addi v315 v553
  let c0_i32_571 : BitVec 32 := 0#32
  ![v554.toNat, 0]
def k0_dev30 (d0 : Dev nD) : Nat :=
  let c0_i32_570 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_569 : BitVec 32 := 1#32
  let v793 : BitVec 32 := Scalar.muli v10 c1_i32_569
  let v794 : BitVec 32 := Scalar.addi c0_i32_570 v793
  v794.toNat
def k0_off38 (d0 : Dev nD) : Fin 2 → Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v39 : BitVec 32 := Scalar.muli c0_i32_27 v2
  let c2_i32 : BitVec 32 := 2#32
  let v6 : BitVec 32 := Scalar.shrsi v2 c2_i32
  let c1_i32_3 : BitVec 32 := 1#32
  let v7 : BitVec 32 := Scalar.andi v6 c1_i32_3
  let c1024_i32_98 : BitVec 32 := 1024#32
  let v135 : BitVec 32 := Scalar.muli v7 c1024_i32_98
  let v136 : BitVec 32 := Scalar.addi v39 v135
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c512_i32_235 : BitVec 32 := 512#32
  let v314 : BitVec 32 := Scalar.muli v8 c512_i32_235
  let v315 : BitVec 32 := Scalar.addi v136 v314
  let c256_i32_413 : BitVec 32 := 256#32
  let v553 : BitVec 32 := Scalar.muli v5 c256_i32_413
  let v554 : BitVec 32 := Scalar.addi v315 v553
  let c512_i32_575 : BitVec 32 := 512#32
  ![v554.toNat, 512]
def k0_dev31 (d0 : Dev nD) : Nat :=
  let c0_i32_596 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_595 : BitVec 32 := 1#32
  let v833 : BitVec 32 := Scalar.muli v11 c1_i32_595
  let v834 : BitVec 32 := Scalar.addi c0_i32_596 v833
  v834.toNat
def k0_off39 (d0 : Dev nD) : Fin 2 → Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v40 : BitVec 32 := Scalar.muli c0_i32_28 v2
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1024_i32_107 : BitVec 32 := 1024#32
  let v147 : BitVec 32 := Scalar.muli v8 c1024_i32_107
  let v148 : BitVec 32 := Scalar.addi v40 v147
  let c512_i32_251 : BitVec 32 := 512#32
  let v335 : BitVec 32 := Scalar.muli v5 c512_i32_251
  let v336 : BitVec 32 := Scalar.addi v148 v335
  let c2_i32 : BitVec 32 := 2#32
  let v6 : BitVec 32 := Scalar.shrsi v2 c2_i32
  let c1_i32_3 : BitVec 32 := 1#32
  let v7 : BitVec 32 := Scalar.andi v6 c1_i32_3
  let c256_i32_430 : BitVec 32 := 256#32
  let v579 : BitVec 32 := Scalar.muli v7 c256_i32_430
  let v580 : BitVec 32 := Scalar.addi v336 v579
  let c768_i32 : BitVec 32 := 768#32
  ![v580.toNat, 768]
def k0_dev32 (d0 : Dev nD) : Nat :=
  let c0_i32_621 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_620 : BitVec 32 := 1#32
  let v873 : BitVec 32 := Scalar.muli v9 c1_i32_620
  let v874 : BitVec 32 := Scalar.addi c0_i32_621 v873
  v874.toNat
def k0_off40 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v41 : BitVec 32 := Scalar.muli c0_i32_29 v2
  let c1_i32_1 : BitVec 32 := 1#32
  let v4 : BitVec 32 := Scalar.shrsi v2 c1_i32_1
  let c1_i32_2 : BitVec 32 := 1#32
  let v5 : BitVec 32 := Scalar.andi v4 c1_i32_2
  let c1024_i32_116 : BitVec 32 := 1024#32
  let v159 : BitVec 32 := Scalar.muli v5 c1024_i32_116
  let v160 : BitVec 32 := Scalar.addi v41 v159
  let c2_i32 : BitVec 32 := 2#32
  let v6 : BitVec 32 := Scalar.shrsi v2 c2_i32
  let c1_i32_3 : BitVec 32 := 1#32
  let v7 : BitVec 32 := Scalar.andi v6 c1_i32_3
  let c512_i32_267 : BitVec 32 := 512#32
  let v356 : BitVec 32 := Scalar.muli v7 c512_i32_267
  let v357 : BitVec 32 := Scalar.addi v160 v356
  let c1_i32_0 : BitVec 32 := 1#32
  let v3 : BitVec 32 := Scalar.andi v2 c1_i32_0
  let v8 : BitVec 32 := Scalar.xori v3 v5
  let c256_i32_447 : BitVec 32 := 256#32
  let v605 : BitVec 32 := Scalar.muli v8 c256_i32_447
  let v606 : BitVec 32 := Scalar.addi v357 v605
  let c1024_i32_626 : BitVec 32 := 1024#32
  ![v606.toNat, 1024]
def k0_off41 (d0 : Dev nD) : Fin 2 → Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v42 : BitVec 32 := Scalar.muli c0_i32_30 v2
  let c2_i32 : BitVec 32 := 2#32
  let v6 : BitVec 32 := Scalar.shrsi v2 c2_i32
  let c1_i32_3 : BitVec 32 := 1#32
  let v7 : BitVec 32 := Scalar.andi v6 c1_i32_3
  let c1024_i32_124 : BitVec 32 := 1024#32
  let v171 : BitVec 32 := Scalar.muli v7 c1024_i32_124
  let v172 : BitVec 32 := Scalar.addi v42 v171
  let c1_i32_1 : BitVec 32 := 1#32
  let v4 : BitVec 32 := Scalar.shrsi v2 c1_i32_1
  let c1_i32_2 : BitVec 32 := 1#32
  let v5 : BitVec 32 := Scalar.andi v4 c1_i32_2
  let c512_i32_283 : BitVec 32 := 512#32
  let v377 : BitVec 32 := Scalar.muli v5 c512_i32_283
  let v378 : BitVec 32 := Scalar.addi v172 v377
  let c1_i32_0 : BitVec 32 := 1#32
  let v3 : BitVec 32 := Scalar.andi v2 c1_i32_0
  let v8 : BitVec 32 := Scalar.xori v3 v5
  let c256_i32_464 : BitVec 32 := 256#32
  let v631 : BitVec 32 := Scalar.muli v8 c256_i32_464
  let v632 : BitVec 32 := Scalar.addi v378 v631
  let v889 : Index := Scalar.indexCast v632
  let c0_634 : Index := 0#32
  ![v889.toNat, 0]
def k0_off42 (d0 : Dev nD) : Fin 2 → Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v42 : BitVec 32 := Scalar.muli c0_i32_30 v2
  let c2_i32 : BitVec 32 := 2#32
  let v6 : BitVec 32 := Scalar.shrsi v2 c2_i32
  let c1_i32_3 : BitVec 32 := 1#32
  let v7 : BitVec 32 := Scalar.andi v6 c1_i32_3
  let c1024_i32_124 : BitVec 32 := 1024#32
  let v171 : BitVec 32 := Scalar.muli v7 c1024_i32_124
  let v172 : BitVec 32 := Scalar.addi v42 v171
  let c1_i32_1 : BitVec 32 := 1#32
  let v4 : BitVec 32 := Scalar.shrsi v2 c1_i32_1
  let c1_i32_2 : BitVec 32 := 1#32
  let v5 : BitVec 32 := Scalar.andi v4 c1_i32_2
  let c512_i32_283 : BitVec 32 := 512#32
  let v377 : BitVec 32 := Scalar.muli v5 c512_i32_283
  let v378 : BitVec 32 := Scalar.addi v172 v377
  let c1_i32_0 : BitVec 32 := 1#32
  let v3 : BitVec 32 := Scalar.andi v2 c1_i32_0
  let v8 : BitVec 32 := Scalar.xori v3 v5
  let c256_i32_464 : BitVec 32 := 256#32
  let v631 : BitVec 32 := Scalar.muli v8 c256_i32_464
  let v632 : BitVec 32 := Scalar.addi v378 v631
  let v893 : BitVec 32 := Scalar.subi v632 v172
  let v894 : Index := Scalar.indexCast v893
  let c0_638 : Index := 0#32
  ![v894.toNat, 0]
def k0_off43 (d0 : Dev nD) : Fin 2 → Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v42 : BitVec 32 := Scalar.muli c0_i32_30 v2
  let c2_i32 : BitVec 32 := 2#32
  let v6 : BitVec 32 := Scalar.shrsi v2 c2_i32
  let c1_i32_3 : BitVec 32 := 1#32
  let v7 : BitVec 32 := Scalar.andi v6 c1_i32_3
  let c1024_i32_124 : BitVec 32 := 1024#32
  let v171 : BitVec 32 := Scalar.muli v7 c1024_i32_124
  let v172 : BitVec 32 := Scalar.addi v42 v171
  let c1_i32_1 : BitVec 32 := 1#32
  let v4 : BitVec 32 := Scalar.shrsi v2 c1_i32_1
  let c1_i32_2 : BitVec 32 := 1#32
  let v5 : BitVec 32 := Scalar.andi v4 c1_i32_2
  let c512_i32_283 : BitVec 32 := 512#32
  let v377 : BitVec 32 := Scalar.muli v5 c512_i32_283
  let v378 : BitVec 32 := Scalar.addi v172 v377
  let c1_i32_0 : BitVec 32 := 1#32
  let v3 : BitVec 32 := Scalar.andi v2 c1_i32_0
  let v8 : BitVec 32 := Scalar.xori v3 v5
  let c256_i32_464 : BitVec 32 := 256#32
  let v631 : BitVec 32 := Scalar.muli v8 c256_i32_464
  let v632 : BitVec 32 := Scalar.addi v378 v631
  let v898 : BitVec 32 := Scalar.subi v632 v378
  let v899 : Index := Scalar.indexCast v898
  let c0_639 : Index := 0#32
  ![v899.toNat, 0]
def k0_off44 (d0 : Dev nD) : Fin 2 → Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v42 : BitVec 32 := Scalar.muli c0_i32_30 v2
  let c2_i32 : BitVec 32 := 2#32
  let v6 : BitVec 32 := Scalar.shrsi v2 c2_i32
  let c1_i32_3 : BitVec 32 := 1#32
  let v7 : BitVec 32 := Scalar.andi v6 c1_i32_3
  let c1024_i32_124 : BitVec 32 := 1024#32
  let v171 : BitVec 32 := Scalar.muli v7 c1024_i32_124
  let v172 : BitVec 32 := Scalar.addi v42 v171
  let c1_i32_1 : BitVec 32 := 1#32
  let v4 : BitVec 32 := Scalar.shrsi v2 c1_i32_1
  let c1_i32_2 : BitVec 32 := 1#32
  let v5 : BitVec 32 := Scalar.andi v4 c1_i32_2
  let c512_i32_283 : BitVec 32 := 512#32
  let v377 : BitVec 32 := Scalar.muli v5 c512_i32_283
  let v378 : BitVec 32 := Scalar.addi v172 v377
  let c1_i32_0 : BitVec 32 := 1#32
  let v3 : BitVec 32 := Scalar.andi v2 c1_i32_0
  let v8 : BitVec 32 := Scalar.xori v3 v5
  let c256_i32_464 : BitVec 32 := 256#32
  let v631 : BitVec 32 := Scalar.muli v8 c256_i32_464
  let v632 : BitVec 32 := Scalar.addi v378 v631
  let v903 : BitVec 32 := Scalar.subi v632 v632
  let v904 : Index := Scalar.indexCast v903
  let c0_640 : Index := 0#32
  ![v904.toNat, 0]
def k0_off45 (d0 : Dev nD) : Fin 2 → Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v42 : BitVec 32 := Scalar.muli c0_i32_30 v2
  let c2_i32 : BitVec 32 := 2#32
  let v6 : BitVec 32 := Scalar.shrsi v2 c2_i32
  let c1_i32_3 : BitVec 32 := 1#32
  let v7 : BitVec 32 := Scalar.andi v6 c1_i32_3
  let c1024_i32_124 : BitVec 32 := 1024#32
  let v171 : BitVec 32 := Scalar.muli v7 c1024_i32_124
  let v172 : BitVec 32 := Scalar.addi v42 v171
  let c1_i32_1 : BitVec 32 := 1#32
  let v4 : BitVec 32 := Scalar.shrsi v2 c1_i32_1
  let c1_i32_2 : BitVec 32 := 1#32
  let v5 : BitVec 32 := Scalar.andi v4 c1_i32_2
  let c512_i32_283 : BitVec 32 := 512#32
  let v377 : BitVec 32 := Scalar.muli v5 c512_i32_283
  let v378 : BitVec 32 := Scalar.addi v172 v377
  let c1_i32_0 : BitVec 32 := 1#32
  let v3 : BitVec 32 := Scalar.andi v2 c1_i32_0
  let v8 : BitVec 32 := Scalar.xori v3 v5
  let c256_i32_464 : BitVec 32 := 256#32
  let v631 : BitVec 32 := Scalar.muli v8 c256_i32_464
  let v632 : BitVec 32 := Scalar.addi v378 v631
  let c0_i32_648 : BitVec 32 := 0#32
  ![v632.toNat, 0]
def k0_dev33 (d0 : Dev nD) : Nat :=
  let c0_i32_647 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_646 : BitVec 32 := 1#32
  let v913 : BitVec 32 := Scalar.muli v9 c1_i32_646
  let v914 : BitVec 32 := Scalar.addi c0_i32_647 v913
  v914.toNat
def k0_off46 (d0 : Dev nD) : Fin 2 → Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v42 : BitVec 32 := Scalar.muli c0_i32_30 v2
  let c2_i32 : BitVec 32 := 2#32
  let v6 : BitVec 32 := Scalar.shrsi v2 c2_i32
  let c1_i32_3 : BitVec 32 := 1#32
  let v7 : BitVec 32 := Scalar.andi v6 c1_i32_3
  let c1024_i32_124 : BitVec 32 := 1024#32
  let v171 : BitVec 32 := Scalar.muli v7 c1024_i32_124
  let v172 : BitVec 32 := Scalar.addi v42 v171
  let c1_i32_1 : BitVec 32 := 1#32
  let v4 : BitVec 32 := Scalar.shrsi v2 c1_i32_1
  let c1_i32_2 : BitVec 32 := 1#32
  let v5 : BitVec 32 := Scalar.andi v4 c1_i32_2
  let c512_i32_283 : BitVec 32 := 512#32
  let v377 : BitVec 32 := Scalar.muli v5 c512_i32_283
  let v378 : BitVec 32 := Scalar.addi v172 v377
  let c1_i32_0 : BitVec 32 := 1#32
  let v3 : BitVec 32 := Scalar.andi v2 c1_i32_0
  let v8 : BitVec 32 := Scalar.xori v3 v5
  let c256_i32_464 : BitVec 32 := 256#32
  let v631 : BitVec 32 := Scalar.muli v8 c256_i32_464
  let v632 : BitVec 32 := Scalar.addi v378 v631
  let c1280_i32 : BitVec 32 := 1280#32
  ![v632.toNat, 1280]
def k0_dev34 (d0 : Dev nD) : Nat :=
  let c0_i32_672 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_671 : BitVec 32 := 1#32
  let v953 : BitVec 32 := Scalar.muli v11 c1_i32_671
  let v954 : BitVec 32 := Scalar.addi c0_i32_672 v953
  v954.toNat
def k0_off47 (d0 : Dev nD) : Fin 2 → Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v43 : BitVec 32 := Scalar.muli c0_i32_31 v2
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1024_i32_132 : BitVec 32 := 1024#32
  let v183 : BitVec 32 := Scalar.muli v8 c1024_i32_132
  let v184 : BitVec 32 := Scalar.addi v43 v183
  let c512_i32_299 : BitVec 32 := 512#32
  let v398 : BitVec 32 := Scalar.muli v5 c512_i32_299
  let v399 : BitVec 32 := Scalar.addi v184 v398
  let c2_i32 : BitVec 32 := 2#32
  let v6 : BitVec 32 := Scalar.shrsi v2 c2_i32
  let c1_i32_3 : BitVec 32 := 1#32
  let v7 : BitVec 32 := Scalar.andi v6 c1_i32_3
  let c256_i32_481 : BitVec 32 := 256#32
  let v657 : BitVec 32 := Scalar.muli v7 c256_i32_481
  let v658 : BitVec 32 := Scalar.addi v399 v657
  let c1536_i32 : BitVec 32 := 1536#32
  ![v658.toNat, 1536]
def k0_dev35 (d0 : Dev nD) : Nat :=
  let c0_i32_697 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_696 : BitVec 32 := 1#32
  let v993 : BitVec 32 := Scalar.muli v10 c1_i32_696
  let v994 : BitVec 32 := Scalar.addi c0_i32_697 v993
  v994.toNat
def k0_off48 (d0 : Dev nD) : Fin 2 → Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v44 : BitVec 32 := Scalar.muli c0_i32_32 v2
  let c2_i32 : BitVec 32 := 2#32
  let v6 : BitVec 32 := Scalar.shrsi v2 c2_i32
  let c1_i32_3 : BitVec 32 := 1#32
  let v7 : BitVec 32 := Scalar.andi v6 c1_i32_3
  let c1024_i32_140 : BitVec 32 := 1024#32
  let v195 : BitVec 32 := Scalar.muli v7 c1024_i32_140
  let v196 : BitVec 32 := Scalar.addi v44 v195
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c512_i32_315 : BitVec 32 := 512#32
  let v419 : BitVec 32 := Scalar.muli v8 c512_i32_315
  let v420 : BitVec 32 := Scalar.addi v196 v419
  let c256_i32_498 : BitVec 32 := 256#32
  let v683 : BitVec 32 := Scalar.muli v5 c256_i32_498
  let v684 : BitVec 32 := Scalar.addi v420 v683
  let c1792_i32 : BitVec 32 := 1792#32
  ![v684.toNat, 1792]
def k0_off49 (d0 : Dev nD) : Fin 2 → Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : BitVec 32 := Scalar.muli c0_i32_25 v2
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1024_i32_80 : BitVec 32 := 1024#32
  let v111 : BitVec 32 := Scalar.muli v8 c1024_i32_80
  let v112 : BitVec 32 := Scalar.addi v37 v111
  let c512_i32_203 : BitVec 32 := 512#32
  let v272 : BitVec 32 := Scalar.muli v5 c512_i32_203
  let v273 : BitVec 32 := Scalar.addi v112 v272
  let c2_i32 : BitVec 32 := 2#32
  let v6 : BitVec 32 := Scalar.shrsi v2 c2_i32
  let c1_i32_3 : BitVec 32 := 1#32
  let v7 : BitVec 32 := Scalar.andi v6 c1_i32_3
  let c256_i32_379 : BitVec 32 := 256#32
  let v501 : BitVec 32 := Scalar.muli v7 c256_i32_379
  let v502 : BitVec 32 := Scalar.addi v273 v501
  let c256_i32_714 : BitVec 32 := 256#32
  let v1015 : BitVec 32 := Scalar.muli v7 c256_i32_714
  let v1016 : BitVec 32 := Scalar.subi v502 v1015
  let c0_i32_721 : BitVec 32 := 0#32
  ![v1016.toNat, 0]
def k0_dev36 (d0 : Dev nD) : Nat :=
  let c0_i32_720 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_719 : BitVec 32 := 1#32
  let v1017 : BitVec 32 := Scalar.muli v10 c1_i32_719
  let v1018 : BitVec 32 := Scalar.addi c0_i32_720 v1017
  v1018.toNat
def k0_off50 (d0 : Dev nD) : Fin 2 → Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : BitVec 32 := Scalar.muli c0_i32_25 v2
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1024_i32_80 : BitVec 32 := 1024#32
  let v111 : BitVec 32 := Scalar.muli v8 c1024_i32_80
  let v112 : BitVec 32 := Scalar.addi v37 v111
  let c512_i32_203 : BitVec 32 := 512#32
  let v272 : BitVec 32 := Scalar.muli v5 c512_i32_203
  let v273 : BitVec 32 := Scalar.addi v112 v272
  let c2_i32 : BitVec 32 := 2#32
  let v6 : BitVec 32 := Scalar.shrsi v2 c2_i32
  let c1_i32_3 : BitVec 32 := 1#32
  let v7 : BitVec 32 := Scalar.andi v6 c1_i32_3
  let c256_i32_379 : BitVec 32 := 256#32
  let v501 : BitVec 32 := Scalar.muli v7 c256_i32_379
  let v502 : BitVec 32 := Scalar.addi v273 v501
  let c1_i32_712 : BitVec 32 := 1#32
  let c2_i32_711 : BitVec 32 := 2#32
  let v1011 : BitVec 32 := Scalar.muli c2_i32_711 v7
  let v1012 : BitVec 32 := Scalar.subi c1_i32_712 v1011
  let c256_i32_713 : BitVec 32 := 256#32
  let v1013 : BitVec 32 := Scalar.muli v1012 c256_i32_713
  let v1014 : BitVec 32 := Scalar.addi v502 v1013
  let c0_i32_725 : BitVec 32 := 0#32
  ![v1014.toNat, 0]
def k0_off51 (d0 : Dev nD) : Fin 2 → Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : BitVec 32 := Scalar.muli c0_i32_25 v2
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1024_i32_80 : BitVec 32 := 1024#32
  let v111 : BitVec 32 := Scalar.muli v8 c1024_i32_80
  let v112 : BitVec 32 := Scalar.addi v37 v111
  let c512_i32_203 : BitVec 32 := 512#32
  let v272 : BitVec 32 := Scalar.muli v5 c512_i32_203
  let v273 : BitVec 32 := Scalar.addi v112 v272
  let c2_i32 : BitVec 32 := 2#32
  let v6 : BitVec 32 := Scalar.shrsi v2 c2_i32
  let c1_i32_3 : BitVec 32 := 1#32
  let v7 : BitVec 32 := Scalar.andi v6 c1_i32_3
  let c256_i32_379 : BitVec 32 := 256#32
  let v501 : BitVec 32 := Scalar.muli v7 c256_i32_379
  let v502 : BitVec 32 := Scalar.addi v273 v501
  let c1_i32_712 : BitVec 32 := 1#32
  let c2_i32_711 : BitVec 32 := 2#32
  let v1011 : BitVec 32 := Scalar.muli c2_i32_711 v7
  let v1012 : BitVec 32 := Scalar.subi c1_i32_712 v1011
  let c256_i32_713 : BitVec 32 := 256#32
  let v1013 : BitVec 32 := Scalar.muli v1012 c256_i32_713
  let v1014 : BitVec 32 := Scalar.addi v502 v1013
  let c0_i32_726 : BitVec 32 := 0#32
  ![v1014.toNat, 0]
def k0_off52 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : BitVec 32 := Scalar.muli c0_i32_26 v2
  let c1_i32_1 : BitVec 32 := 1#32
  let v4 : BitVec 32 := Scalar.shrsi v2 c1_i32_1
  let c1_i32_2 : BitVec 32 := 1#32
  let v5 : BitVec 32 := Scalar.andi v4 c1_i32_2
  let c1024_i32_89 : BitVec 32 := 1024#32
  let v123 : BitVec 32 := Scalar.muli v5 c1024_i32_89
  let v124 : BitVec 32 := Scalar.addi v38 v123
  let c2_i32 : BitVec 32 := 2#32
  let v6 : BitVec 32 := Scalar.shrsi v2 c2_i32
  let c1_i32_3 : BitVec 32 := 1#32
  let v7 : BitVec 32 := Scalar.andi v6 c1_i32_3
  let c512_i32_219 : BitVec 32 := 512#32
  let v293 : BitVec 32 := Scalar.muli v7 c512_i32_219
  let v294 : BitVec 32 := Scalar.addi v124 v293
  let c1_i32_0 : BitVec 32 := 1#32
  let v3 : BitVec 32 := Scalar.andi v2 c1_i32_0
  let v8 : BitVec 32 := Scalar.xori v3 v5
  let c256_i32_396 : BitVec 32 := 256#32
  let v527 : BitVec 32 := Scalar.muli v8 c256_i32_396
  let v528 : BitVec 32 := Scalar.addi v294 v527
  let c256_i32_738 : BitVec 32 := 256#32
  let v1039 : BitVec 32 := Scalar.muli v8 c256_i32_738
  let v1040 : BitVec 32 := Scalar.subi v528 v1039
  let c0_i32_745 : BitVec 32 := 0#32
  ![v1040.toNat, 0]
def k0_dev37 (d0 : Dev nD) : Nat :=
  let c0_i32_744 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_743 : BitVec 32 := 1#32
  let v1041 : BitVec 32 := Scalar.muli v11 c1_i32_743
  let v1042 : BitVec 32 := Scalar.addi c0_i32_744 v1041
  v1042.toNat
def k0_off53 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : BitVec 32 := Scalar.muli c0_i32_26 v2
  let c1_i32_1 : BitVec 32 := 1#32
  let v4 : BitVec 32 := Scalar.shrsi v2 c1_i32_1
  let c1_i32_2 : BitVec 32 := 1#32
  let v5 : BitVec 32 := Scalar.andi v4 c1_i32_2
  let c1024_i32_89 : BitVec 32 := 1024#32
  let v123 : BitVec 32 := Scalar.muli v5 c1024_i32_89
  let v124 : BitVec 32 := Scalar.addi v38 v123
  let c2_i32 : BitVec 32 := 2#32
  let v6 : BitVec 32 := Scalar.shrsi v2 c2_i32
  let c1_i32_3 : BitVec 32 := 1#32
  let v7 : BitVec 32 := Scalar.andi v6 c1_i32_3
  let c512_i32_219 : BitVec 32 := 512#32
  let v293 : BitVec 32 := Scalar.muli v7 c512_i32_219
  let v294 : BitVec 32 := Scalar.addi v124 v293
  let c1_i32_0 : BitVec 32 := 1#32
  let v3 : BitVec 32 := Scalar.andi v2 c1_i32_0
  let v8 : BitVec 32 := Scalar.xori v3 v5
  let c256_i32_396 : BitVec 32 := 256#32
  let v527 : BitVec 32 := Scalar.muli v8 c256_i32_396
  let v528 : BitVec 32 := Scalar.addi v294 v527
  let c1_i32_736 : BitVec 32 := 1#32
  let c2_i32_735 : BitVec 32 := 2#32
  let v1035 : BitVec 32 := Scalar.muli c2_i32_735 v8
  let v1036 : BitVec 32 := Scalar.subi c1_i32_736 v1035
  let c256_i32_737 : BitVec 32 := 256#32
  let v1037 : BitVec 32 := Scalar.muli v1036 c256_i32_737
  let v1038 : BitVec 32 := Scalar.addi v528 v1037
  let c256_i32_749 : BitVec 32 := 256#32
  ![v1038.toNat, 256]
def k0_off54 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : BitVec 32 := Scalar.muli c0_i32_26 v2
  let c1_i32_1 : BitVec 32 := 1#32
  let v4 : BitVec 32 := Scalar.shrsi v2 c1_i32_1
  let c1_i32_2 : BitVec 32 := 1#32
  let v5 : BitVec 32 := Scalar.andi v4 c1_i32_2
  let c1024_i32_89 : BitVec 32 := 1024#32
  let v123 : BitVec 32 := Scalar.muli v5 c1024_i32_89
  let v124 : BitVec 32 := Scalar.addi v38 v123
  let c2_i32 : BitVec 32 := 2#32
  let v6 : BitVec 32 := Scalar.shrsi v2 c2_i32
  let c1_i32_3 : BitVec 32 := 1#32
  let v7 : BitVec 32 := Scalar.andi v6 c1_i32_3
  let c512_i32_219 : BitVec 32 := 512#32
  let v293 : BitVec 32 := Scalar.muli v7 c512_i32_219
  let v294 : BitVec 32 := Scalar.addi v124 v293
  let c1_i32_0 : BitVec 32 := 1#32
  let v3 : BitVec 32 := Scalar.andi v2 c1_i32_0
  let v8 : BitVec 32 := Scalar.xori v3 v5
  let c256_i32_396 : BitVec 32 := 256#32
  let v527 : BitVec 32 := Scalar.muli v8 c256_i32_396
  let v528 : BitVec 32 := Scalar.addi v294 v527
  let c1_i32_736 : BitVec 32 := 1#32
  let c2_i32_735 : BitVec 32 := 2#32
  let v1035 : BitVec 32 := Scalar.muli c2_i32_735 v8
  let v1036 : BitVec 32 := Scalar.subi c1_i32_736 v1035
  let c256_i32_737 : BitVec 32 := 256#32
  let v1037 : BitVec 32 := Scalar.muli v1036 c256_i32_737
  let v1038 : BitVec 32 := Scalar.addi v528 v1037
  let c0_i32_750 : BitVec 32 := 0#32
  ![v1038.toNat, 0]
def k0_off55 (d0 : Dev nD) : Fin 2 → Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v39 : BitVec 32 := Scalar.muli c0_i32_27 v2
  let c2_i32 : BitVec 32 := 2#32
  let v6 : BitVec 32 := Scalar.shrsi v2 c2_i32
  let c1_i32_3 : BitVec 32 := 1#32
  let v7 : BitVec 32 := Scalar.andi v6 c1_i32_3
  let c1024_i32_98 : BitVec 32 := 1024#32
  let v135 : BitVec 32 := Scalar.muli v7 c1024_i32_98
  let v136 : BitVec 32 := Scalar.addi v39 v135
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c512_i32_235 : BitVec 32 := 512#32
  let v314 : BitVec 32 := Scalar.muli v8 c512_i32_235
  let v315 : BitVec 32 := Scalar.addi v136 v314
  let c256_i32_413 : BitVec 32 := 256#32
  let v553 : BitVec 32 := Scalar.muli v5 c256_i32_413
  let v554 : BitVec 32 := Scalar.addi v315 v553
  let c256_i32_762 : BitVec 32 := 256#32
  let v1063 : BitVec 32 := Scalar.muli v5 c256_i32_762
  let v1064 : BitVec 32 := Scalar.subi v554 v1063
  let c0_i32_769 : BitVec 32 := 0#32
  ![v1064.toNat, 0]
def k0_dev38 (d0 : Dev nD) : Nat :=
  let c0_i32_768 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_767 : BitVec 32 := 1#32
  let v1065 : BitVec 32 := Scalar.muli v9 c1_i32_767
  let v1066 : BitVec 32 := Scalar.addi c0_i32_768 v1065
  v1066.toNat
def k0_off56 (d0 : Dev nD) : Fin 2 → Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v39 : BitVec 32 := Scalar.muli c0_i32_27 v2
  let c2_i32 : BitVec 32 := 2#32
  let v6 : BitVec 32 := Scalar.shrsi v2 c2_i32
  let c1_i32_3 : BitVec 32 := 1#32
  let v7 : BitVec 32 := Scalar.andi v6 c1_i32_3
  let c1024_i32_98 : BitVec 32 := 1024#32
  let v135 : BitVec 32 := Scalar.muli v7 c1024_i32_98
  let v136 : BitVec 32 := Scalar.addi v39 v135
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c512_i32_235 : BitVec 32 := 512#32
  let v314 : BitVec 32 := Scalar.muli v8 c512_i32_235
  let v315 : BitVec 32 := Scalar.addi v136 v314
  let c256_i32_413 : BitVec 32 := 256#32
  let v553 : BitVec 32 := Scalar.muli v5 c256_i32_413
  let v554 : BitVec 32 := Scalar.addi v315 v553
  let c1_i32_760 : BitVec 32 := 1#32
  let c2_i32_759 : BitVec 32 := 2#32
  let v1059 : BitVec 32 := Scalar.muli c2_i32_759 v5
  let v1060 : BitVec 32 := Scalar.subi c1_i32_760 v1059
  let c256_i32_761 : BitVec 32 := 256#32
  let v1061 : BitVec 32 := Scalar.muli v1060 c256_i32_761
  let v1062 : BitVec 32 := Scalar.addi v554 v1061
  let c512_i32_773 : BitVec 32 := 512#32
  ![v1062.toNat, 512]
def k0_off57 (d0 : Dev nD) : Fin 2 → Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v39 : BitVec 32 := Scalar.muli c0_i32_27 v2
  let c2_i32 : BitVec 32 := 2#32
  let v6 : BitVec 32 := Scalar.shrsi v2 c2_i32
  let c1_i32_3 : BitVec 32 := 1#32
  let v7 : BitVec 32 := Scalar.andi v6 c1_i32_3
  let c1024_i32_98 : BitVec 32 := 1024#32
  let v135 : BitVec 32 := Scalar.muli v7 c1024_i32_98
  let v136 : BitVec 32 := Scalar.addi v39 v135
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c512_i32_235 : BitVec 32 := 512#32
  let v314 : BitVec 32 := Scalar.muli v8 c512_i32_235
  let v315 : BitVec 32 := Scalar.addi v136 v314
  let c256_i32_413 : BitVec 32 := 256#32
  let v553 : BitVec 32 := Scalar.muli v5 c256_i32_413
  let v554 : BitVec 32 := Scalar.addi v315 v553
  let c1_i32_760 : BitVec 32 := 1#32
  let c2_i32_759 : BitVec 32 := 2#32
  let v1059 : BitVec 32 := Scalar.muli c2_i32_759 v5
  let v1060 : BitVec 32 := Scalar.subi c1_i32_760 v1059
  let c256_i32_761 : BitVec 32 := 256#32
  let v1061 : BitVec 32 := Scalar.muli v1060 c256_i32_761
  let v1062 : BitVec 32 := Scalar.addi v554 v1061
  let c0_i32_774 : BitVec 32 := 0#32
  ![v1062.toNat, 0]
def k0_dev39 (d0 : Dev nD) : Nat :=
  let c0_i32_792 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_791 : BitVec 32 := 1#32
  let v1089 : BitVec 32 := Scalar.muli v10 c1_i32_791
  let v1090 : BitVec 32 := Scalar.addi c0_i32_792 v1089
  v1090.toNat
def k0_off58 (d0 : Dev nD) : Fin 2 → Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v40 : BitVec 32 := Scalar.muli c0_i32_28 v2
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1024_i32_107 : BitVec 32 := 1024#32
  let v147 : BitVec 32 := Scalar.muli v8 c1024_i32_107
  let v148 : BitVec 32 := Scalar.addi v40 v147
  let c512_i32_251 : BitVec 32 := 512#32
  let v335 : BitVec 32 := Scalar.muli v5 c512_i32_251
  let v336 : BitVec 32 := Scalar.addi v148 v335
  let c2_i32 : BitVec 32 := 2#32
  let v6 : BitVec 32 := Scalar.shrsi v2 c2_i32
  let c1_i32_3 : BitVec 32 := 1#32
  let v7 : BitVec 32 := Scalar.andi v6 c1_i32_3
  let c256_i32_430 : BitVec 32 := 256#32
  let v579 : BitVec 32 := Scalar.muli v7 c256_i32_430
  let v580 : BitVec 32 := Scalar.addi v336 v579
  let c1_i32_784 : BitVec 32 := 1#32
  let c2_i32_783 : BitVec 32 := 2#32
  let v1083 : BitVec 32 := Scalar.muli c2_i32_783 v7
  let v1084 : BitVec 32 := Scalar.subi c1_i32_784 v1083
  let c256_i32_785 : BitVec 32 := 256#32
  let v1085 : BitVec 32 := Scalar.muli v1084 c256_i32_785
  let v1086 : BitVec 32 := Scalar.addi v580 v1085
  let c768_i32_797 : BitVec 32 := 768#32
  ![v1086.toNat, 768]
def k0_dev40 (d0 : Dev nD) : Nat :=
  let c0_i32_816 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_815 : BitVec 32 := 1#32
  let v1113 : BitVec 32 := Scalar.muli v11 c1_i32_815
  let v1114 : BitVec 32 := Scalar.addi c0_i32_816 v1113
  v1114.toNat
def k0_off59 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v41 : BitVec 32 := Scalar.muli c0_i32_29 v2
  let c1_i32_1 : BitVec 32 := 1#32
  let v4 : BitVec 32 := Scalar.shrsi v2 c1_i32_1
  let c1_i32_2 : BitVec 32 := 1#32
  let v5 : BitVec 32 := Scalar.andi v4 c1_i32_2
  let c1024_i32_116 : BitVec 32 := 1024#32
  let v159 : BitVec 32 := Scalar.muli v5 c1024_i32_116
  let v160 : BitVec 32 := Scalar.addi v41 v159
  let c2_i32 : BitVec 32 := 2#32
  let v6 : BitVec 32 := Scalar.shrsi v2 c2_i32
  let c1_i32_3 : BitVec 32 := 1#32
  let v7 : BitVec 32 := Scalar.andi v6 c1_i32_3
  let c512_i32_267 : BitVec 32 := 512#32
  let v356 : BitVec 32 := Scalar.muli v7 c512_i32_267
  let v357 : BitVec 32 := Scalar.addi v160 v356
  let c1_i32_0 : BitVec 32 := 1#32
  let v3 : BitVec 32 := Scalar.andi v2 c1_i32_0
  let v8 : BitVec 32 := Scalar.xori v3 v5
  let c256_i32_447 : BitVec 32 := 256#32
  let v605 : BitVec 32 := Scalar.muli v8 c256_i32_447
  let v606 : BitVec 32 := Scalar.addi v357 v605
  let c1_i32_808 : BitVec 32 := 1#32
  let c2_i32_807 : BitVec 32 := 2#32
  let v1107 : BitVec 32 := Scalar.muli c2_i32_807 v8
  let v1108 : BitVec 32 := Scalar.subi c1_i32_808 v1107
  let c256_i32_809 : BitVec 32 := 256#32
  let v1109 : BitVec 32 := Scalar.muli v1108 c256_i32_809
  let v1110 : BitVec 32 := Scalar.addi v606 v1109
  let c1024_i32_821 : BitVec 32 := 1024#32
  ![v1110.toNat, 1024]
def k0_off60 (d0 : Dev nD) : Fin 2 → Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v42 : BitVec 32 := Scalar.muli c0_i32_30 v2
  let c2_i32 : BitVec 32 := 2#32
  let v6 : BitVec 32 := Scalar.shrsi v2 c2_i32
  let c1_i32_3 : BitVec 32 := 1#32
  let v7 : BitVec 32 := Scalar.andi v6 c1_i32_3
  let c1024_i32_124 : BitVec 32 := 1024#32
  let v171 : BitVec 32 := Scalar.muli v7 c1024_i32_124
  let v172 : BitVec 32 := Scalar.addi v42 v171
  let c1_i32_1 : BitVec 32 := 1#32
  let v4 : BitVec 32 := Scalar.shrsi v2 c1_i32_1
  let c1_i32_2 : BitVec 32 := 1#32
  let v5 : BitVec 32 := Scalar.andi v4 c1_i32_2
  let c512_i32_283 : BitVec 32 := 512#32
  let v377 : BitVec 32 := Scalar.muli v5 c512_i32_283
  let v378 : BitVec 32 := Scalar.addi v172 v377
  let c1_i32_0 : BitVec 32 := 1#32
  let v3 : BitVec 32 := Scalar.andi v2 c1_i32_0
  let v8 : BitVec 32 := Scalar.xori v3 v5
  let c256_i32_464 : BitVec 32 := 256#32
  let v631 : BitVec 32 := Scalar.muli v8 c256_i32_464
  let v632 : BitVec 32 := Scalar.addi v378 v631
  let c256_i32_834 : BitVec 32 := 256#32
  let v1135 : BitVec 32 := Scalar.muli v8 c256_i32_834
  let v1136 : BitVec 32 := Scalar.subi v632 v1135
  let c0_i32_841 : BitVec 32 := 0#32
  ![v1136.toNat, 0]
def k0_dev41 (d0 : Dev nD) : Nat :=
  let c0_i32_840 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_839 : BitVec 32 := 1#32
  let v1137 : BitVec 32 := Scalar.muli v10 c1_i32_839
  let v1138 : BitVec 32 := Scalar.addi c0_i32_840 v1137
  v1138.toNat
def k0_off61 (d0 : Dev nD) : Fin 2 → Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v42 : BitVec 32 := Scalar.muli c0_i32_30 v2
  let c2_i32 : BitVec 32 := 2#32
  let v6 : BitVec 32 := Scalar.shrsi v2 c2_i32
  let c1_i32_3 : BitVec 32 := 1#32
  let v7 : BitVec 32 := Scalar.andi v6 c1_i32_3
  let c1024_i32_124 : BitVec 32 := 1024#32
  let v171 : BitVec 32 := Scalar.muli v7 c1024_i32_124
  let v172 : BitVec 32 := Scalar.addi v42 v171
  let c1_i32_1 : BitVec 32 := 1#32
  let v4 : BitVec 32 := Scalar.shrsi v2 c1_i32_1
  let c1_i32_2 : BitVec 32 := 1#32
  let v5 : BitVec 32 := Scalar.andi v4 c1_i32_2
  let c512_i32_283 : BitVec 32 := 512#32
  let v377 : BitVec 32 := Scalar.muli v5 c512_i32_283
  let v378 : BitVec 32 := Scalar.addi v172 v377
  let c1_i32_0 : BitVec 32 := 1#32
  let v3 : BitVec 32 := Scalar.andi v2 c1_i32_0
  let v8 : BitVec 32 := Scalar.xori v3 v5
  let c256_i32_464 : BitVec 32 := 256#32
  let v631 : BitVec 32 := Scalar.muli v8 c256_i32_464
  let v632 : BitVec 32 := Scalar.addi v378 v631
  let c1_i32_832 : BitVec 32 := 1#32
  let c2_i32_831 : BitVec 32 := 2#32
  let v1131 : BitVec 32 := Scalar.muli c2_i32_831 v8
  let v1132 : BitVec 32 := Scalar.subi c1_i32_832 v1131
  let c256_i32_833 : BitVec 32 := 256#32
  let v1133 : BitVec 32 := Scalar.muli v1132 c256_i32_833
  let v1134 : BitVec 32 := Scalar.addi v632 v1133
  let c1280_i32_845 : BitVec 32 := 1280#32
  ![v1134.toNat, 1280]
def k0_off62 (d0 : Dev nD) : Fin 2 → Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v42 : BitVec 32 := Scalar.muli c0_i32_30 v2
  let c2_i32 : BitVec 32 := 2#32
  let v6 : BitVec 32 := Scalar.shrsi v2 c2_i32
  let c1_i32_3 : BitVec 32 := 1#32
  let v7 : BitVec 32 := Scalar.andi v6 c1_i32_3
  let c1024_i32_124 : BitVec 32 := 1024#32
  let v171 : BitVec 32 := Scalar.muli v7 c1024_i32_124
  let v172 : BitVec 32 := Scalar.addi v42 v171
  let c1_i32_1 : BitVec 32 := 1#32
  let v4 : BitVec 32 := Scalar.shrsi v2 c1_i32_1
  let c1_i32_2 : BitVec 32 := 1#32
  let v5 : BitVec 32 := Scalar.andi v4 c1_i32_2
  let c512_i32_283 : BitVec 32 := 512#32
  let v377 : BitVec 32 := Scalar.muli v5 c512_i32_283
  let v378 : BitVec 32 := Scalar.addi v172 v377
  let c1_i32_0 : BitVec 32 := 1#32
  let v3 : BitVec 32 := Scalar.andi v2 c1_i32_0
  let v8 : BitVec 32 := Scalar.xori v3 v5
  let c256_i32_464 : BitVec 32 := 256#32
  let v631 : BitVec 32 := Scalar.muli v8 c256_i32_464
  let v632 : BitVec 32 := Scalar.addi v378 v631
  let c1_i32_832 : BitVec 32 := 1#32
  let c2_i32_831 : BitVec 32 := 2#32
  let v1131 : BitVec 32 := Scalar.muli c2_i32_831 v8
  let v1132 : BitVec 32 := Scalar.subi c1_i32_832 v1131
  let c256_i32_833 : BitVec 32 := 256#32
  let v1133 : BitVec 32 := Scalar.muli v1132 c256_i32_833
  let v1134 : BitVec 32 := Scalar.addi v632 v1133
  let c0_i32_846 : BitVec 32 := 0#32
  ![v1134.toNat, 0]
def k0_dev42 (d0 : Dev nD) : Nat :=
  let c0_i32_864 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_863 : BitVec 32 := 1#32
  let v1161 : BitVec 32 := Scalar.muli v10 c1_i32_863
  let v1162 : BitVec 32 := Scalar.addi c0_i32_864 v1161
  v1162.toNat
def k0_off63 (d0 : Dev nD) : Fin 2 → Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v43 : BitVec 32 := Scalar.muli c0_i32_31 v2
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1024_i32_132 : BitVec 32 := 1024#32
  let v183 : BitVec 32 := Scalar.muli v8 c1024_i32_132
  let v184 : BitVec 32 := Scalar.addi v43 v183
  let c512_i32_299 : BitVec 32 := 512#32
  let v398 : BitVec 32 := Scalar.muli v5 c512_i32_299
  let v399 : BitVec 32 := Scalar.addi v184 v398
  let c2_i32 : BitVec 32 := 2#32
  let v6 : BitVec 32 := Scalar.shrsi v2 c2_i32
  let c1_i32_3 : BitVec 32 := 1#32
  let v7 : BitVec 32 := Scalar.andi v6 c1_i32_3
  let c256_i32_481 : BitVec 32 := 256#32
  let v657 : BitVec 32 := Scalar.muli v7 c256_i32_481
  let v658 : BitVec 32 := Scalar.addi v399 v657
  let c1_i32_856 : BitVec 32 := 1#32
  let c2_i32_855 : BitVec 32 := 2#32
  let v1155 : BitVec 32 := Scalar.muli c2_i32_855 v7
  let v1156 : BitVec 32 := Scalar.subi c1_i32_856 v1155
  let c256_i32_857 : BitVec 32 := 256#32
  let v1157 : BitVec 32 := Scalar.muli v1156 c256_i32_857
  let v1158 : BitVec 32 := Scalar.addi v658 v1157
  let c1536_i32_869 : BitVec 32 := 1536#32
  ![v1158.toNat, 1536]
def k0_dev43 (d0 : Dev nD) : Nat :=
  let c0_i32_888 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_887 : BitVec 32 := 1#32
  let v1185 : BitVec 32 := Scalar.muli v9 c1_i32_887
  let v1186 : BitVec 32 := Scalar.addi c0_i32_888 v1185
  v1186.toNat
def k0_off64 (d0 : Dev nD) : Fin 2 → Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v44 : BitVec 32 := Scalar.muli c0_i32_32 v2
  let c2_i32 : BitVec 32 := 2#32
  let v6 : BitVec 32 := Scalar.shrsi v2 c2_i32
  let c1_i32_3 : BitVec 32 := 1#32
  let v7 : BitVec 32 := Scalar.andi v6 c1_i32_3
  let c1024_i32_140 : BitVec 32 := 1024#32
  let v195 : BitVec 32 := Scalar.muli v7 c1024_i32_140
  let v196 : BitVec 32 := Scalar.addi v44 v195
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c512_i32_315 : BitVec 32 := 512#32
  let v419 : BitVec 32 := Scalar.muli v8 c512_i32_315
  let v420 : BitVec 32 := Scalar.addi v196 v419
  let c256_i32_498 : BitVec 32 := 256#32
  let v683 : BitVec 32 := Scalar.muli v5 c256_i32_498
  let v684 : BitVec 32 := Scalar.addi v420 v683
  let c1_i32_880 : BitVec 32 := 1#32
  let c2_i32_879 : BitVec 32 := 2#32
  let v1179 : BitVec 32 := Scalar.muli c2_i32_879 v5
  let v1180 : BitVec 32 := Scalar.subi c1_i32_880 v1179
  let c256_i32_881 : BitVec 32 := 256#32
  let v1181 : BitVec 32 := Scalar.muli v1180 c256_i32_881
  let v1182 : BitVec 32 := Scalar.addi v684 v1181
  let c1792_i32_893 : BitVec 32 := 1792#32
  ![v1182.toNat, 1792]
def k0_off65 (d0 : Dev nD) : Fin 2 → Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : BitVec 32 := Scalar.muli c0_i32_25 v2
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1024_i32_80 : BitVec 32 := 1024#32
  let v111 : BitVec 32 := Scalar.muli v8 c1024_i32_80
  let v112 : BitVec 32 := Scalar.addi v37 v111
  let c512_i32_203 : BitVec 32 := 512#32
  let v272 : BitVec 32 := Scalar.muli v5 c512_i32_203
  let v273 : BitVec 32 := Scalar.addi v112 v272
  let c2_i32 : BitVec 32 := 2#32
  let v6 : BitVec 32 := Scalar.shrsi v2 c2_i32
  let c1_i32_3 : BitVec 32 := 1#32
  let v7 : BitVec 32 := Scalar.andi v6 c1_i32_3
  let c256_i32_379 : BitVec 32 := 256#32
  let v501 : BitVec 32 := Scalar.muli v7 c256_i32_379
  let v502 : BitVec 32 := Scalar.addi v273 v501
  let c256_i32_714 : BitVec 32 := 256#32
  let v1015 : BitVec 32 := Scalar.muli v7 c256_i32_714
  let v1016 : BitVec 32 := Scalar.subi v502 v1015
  let c512_i32_906 : BitVec 32 := 512#32
  let v1207 : BitVec 32 := Scalar.muli v5 c512_i32_906
  let v1208 : BitVec 32 := Scalar.subi v1016 v1207
  let c0_i32_913 : BitVec 32 := 0#32
  ![v1208.toNat, 0]
def k0_dev44 (d0 : Dev nD) : Nat :=
  let c0_i32_912 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_911 : BitVec 32 := 1#32
  let v1209 : BitVec 32 := Scalar.muli v9 c1_i32_911
  let v1210 : BitVec 32 := Scalar.addi c0_i32_912 v1209
  v1210.toNat
def k0_off66 (d0 : Dev nD) : Fin 2 → Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : BitVec 32 := Scalar.muli c0_i32_25 v2
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1024_i32_80 : BitVec 32 := 1024#32
  let v111 : BitVec 32 := Scalar.muli v8 c1024_i32_80
  let v112 : BitVec 32 := Scalar.addi v37 v111
  let c512_i32_203 : BitVec 32 := 512#32
  let v272 : BitVec 32 := Scalar.muli v5 c512_i32_203
  let v273 : BitVec 32 := Scalar.addi v112 v272
  let c2_i32 : BitVec 32 := 2#32
  let v6 : BitVec 32 := Scalar.shrsi v2 c2_i32
  let c1_i32_3 : BitVec 32 := 1#32
  let v7 : BitVec 32 := Scalar.andi v6 c1_i32_3
  let c256_i32_379 : BitVec 32 := 256#32
  let v501 : BitVec 32 := Scalar.muli v7 c256_i32_379
  let v502 : BitVec 32 := Scalar.addi v273 v501
  let c256_i32_714 : BitVec 32 := 256#32
  let v1015 : BitVec 32 := Scalar.muli v7 c256_i32_714
  let v1016 : BitVec 32 := Scalar.subi v502 v1015
  let c1_i32_904 : BitVec 32 := 1#32
  let c2_i32_903 : BitVec 32 := 2#32
  let v1203 : BitVec 32 := Scalar.muli c2_i32_903 v5
  let v1204 : BitVec 32 := Scalar.subi c1_i32_904 v1203
  let c512_i32_905 : BitVec 32 := 512#32
  let v1205 : BitVec 32 := Scalar.muli v1204 c512_i32_905
  let v1206 : BitVec 32 := Scalar.addi v1016 v1205
  let c0_i32_917 : BitVec 32 := 0#32
  ![v1206.toNat, 0]
def k0_off67 (d0 : Dev nD) : Fin 2 → Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : BitVec 32 := Scalar.muli c0_i32_25 v2
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1024_i32_80 : BitVec 32 := 1024#32
  let v111 : BitVec 32 := Scalar.muli v8 c1024_i32_80
  let v112 : BitVec 32 := Scalar.addi v37 v111
  let c512_i32_203 : BitVec 32 := 512#32
  let v272 : BitVec 32 := Scalar.muli v5 c512_i32_203
  let v273 : BitVec 32 := Scalar.addi v112 v272
  let c2_i32 : BitVec 32 := 2#32
  let v6 : BitVec 32 := Scalar.shrsi v2 c2_i32
  let c1_i32_3 : BitVec 32 := 1#32
  let v7 : BitVec 32 := Scalar.andi v6 c1_i32_3
  let c256_i32_379 : BitVec 32 := 256#32
  let v501 : BitVec 32 := Scalar.muli v7 c256_i32_379
  let v502 : BitVec 32 := Scalar.addi v273 v501
  let c256_i32_714 : BitVec 32 := 256#32
  let v1015 : BitVec 32 := Scalar.muli v7 c256_i32_714
  let v1016 : BitVec 32 := Scalar.subi v502 v1015
  let c1_i32_904 : BitVec 32 := 1#32
  let c2_i32_903 : BitVec 32 := 2#32
  let v1203 : BitVec 32 := Scalar.muli c2_i32_903 v5
  let v1204 : BitVec 32 := Scalar.subi c1_i32_904 v1203
  let c512_i32_905 : BitVec 32 := 512#32
  let v1205 : BitVec 32 := Scalar.muli v1204 c512_i32_905
  let v1206 : BitVec 32 := Scalar.addi v1016 v1205
  let c0_i32_918 : BitVec 32 := 0#32
  ![v1206.toNat, 0]
def k0_off68 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : BitVec 32 := Scalar.muli c0_i32_26 v2
  let c1_i32_1 : BitVec 32 := 1#32
  let v4 : BitVec 32 := Scalar.shrsi v2 c1_i32_1
  let c1_i32_2 : BitVec 32 := 1#32
  let v5 : BitVec 32 := Scalar.andi v4 c1_i32_2
  let c1024_i32_89 : BitVec 32 := 1024#32
  let v123 : BitVec 32 := Scalar.muli v5 c1024_i32_89
  let v124 : BitVec 32 := Scalar.addi v38 v123
  let c2_i32 : BitVec 32 := 2#32
  let v6 : BitVec 32 := Scalar.shrsi v2 c2_i32
  let c1_i32_3 : BitVec 32 := 1#32
  let v7 : BitVec 32 := Scalar.andi v6 c1_i32_3
  let c512_i32_219 : BitVec 32 := 512#32
  let v293 : BitVec 32 := Scalar.muli v7 c512_i32_219
  let v294 : BitVec 32 := Scalar.addi v124 v293
  let c1_i32_0 : BitVec 32 := 1#32
  let v3 : BitVec 32 := Scalar.andi v2 c1_i32_0
  let v8 : BitVec 32 := Scalar.xori v3 v5
  let c256_i32_396 : BitVec 32 := 256#32
  let v527 : BitVec 32 := Scalar.muli v8 c256_i32_396
  let v528 : BitVec 32 := Scalar.addi v294 v527
  let c256_i32_738 : BitVec 32 := 256#32
  let v1039 : BitVec 32 := Scalar.muli v8 c256_i32_738
  let v1040 : BitVec 32 := Scalar.subi v528 v1039
  let c512_i32_930 : BitVec 32 := 512#32
  let v1231 : BitVec 32 := Scalar.muli v7 c512_i32_930
  let v1232 : BitVec 32 := Scalar.subi v1040 v1231
  let c0_i32_937 : BitVec 32 := 0#32
  ![v1232.toNat, 0]
def k0_dev45 (d0 : Dev nD) : Nat :=
  let c0_i32_936 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_935 : BitVec 32 := 1#32
  let v1233 : BitVec 32 := Scalar.muli v10 c1_i32_935
  let v1234 : BitVec 32 := Scalar.addi c0_i32_936 v1233
  v1234.toNat
def k0_off69 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : BitVec 32 := Scalar.muli c0_i32_26 v2
  let c1_i32_1 : BitVec 32 := 1#32
  let v4 : BitVec 32 := Scalar.shrsi v2 c1_i32_1
  let c1_i32_2 : BitVec 32 := 1#32
  let v5 : BitVec 32 := Scalar.andi v4 c1_i32_2
  let c1024_i32_89 : BitVec 32 := 1024#32
  let v123 : BitVec 32 := Scalar.muli v5 c1024_i32_89
  let v124 : BitVec 32 := Scalar.addi v38 v123
  let c2_i32 : BitVec 32 := 2#32
  let v6 : BitVec 32 := Scalar.shrsi v2 c2_i32
  let c1_i32_3 : BitVec 32 := 1#32
  let v7 : BitVec 32 := Scalar.andi v6 c1_i32_3
  let c512_i32_219 : BitVec 32 := 512#32
  let v293 : BitVec 32 := Scalar.muli v7 c512_i32_219
  let v294 : BitVec 32 := Scalar.addi v124 v293
  let c1_i32_0 : BitVec 32 := 1#32
  let v3 : BitVec 32 := Scalar.andi v2 c1_i32_0
  let v8 : BitVec 32 := Scalar.xori v3 v5
  let c256_i32_396 : BitVec 32 := 256#32
  let v527 : BitVec 32 := Scalar.muli v8 c256_i32_396
  let v528 : BitVec 32 := Scalar.addi v294 v527
  let c256_i32_738 : BitVec 32 := 256#32
  let v1039 : BitVec 32 := Scalar.muli v8 c256_i32_738
  let v1040 : BitVec 32 := Scalar.subi v528 v1039
  let c1_i32_928 : BitVec 32 := 1#32
  let c2_i32_927 : BitVec 32 := 2#32
  let v1227 : BitVec 32 := Scalar.muli c2_i32_927 v7
  let v1228 : BitVec 32 := Scalar.subi c1_i32_928 v1227
  let c512_i32_929 : BitVec 32 := 512#32
  let v1229 : BitVec 32 := Scalar.muli v1228 c512_i32_929
  let v1230 : BitVec 32 := Scalar.addi v1040 v1229
  let c256_i32_941 : BitVec 32 := 256#32
  ![v1230.toNat, 256]
def k0_off70 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : BitVec 32 := Scalar.muli c0_i32_26 v2
  let c1_i32_1 : BitVec 32 := 1#32
  let v4 : BitVec 32 := Scalar.shrsi v2 c1_i32_1
  let c1_i32_2 : BitVec 32 := 1#32
  let v5 : BitVec 32 := Scalar.andi v4 c1_i32_2
  let c1024_i32_89 : BitVec 32 := 1024#32
  let v123 : BitVec 32 := Scalar.muli v5 c1024_i32_89
  let v124 : BitVec 32 := Scalar.addi v38 v123
  let c2_i32 : BitVec 32 := 2#32
  let v6 : BitVec 32 := Scalar.shrsi v2 c2_i32
  let c1_i32_3 : BitVec 32 := 1#32
  let v7 : BitVec 32 := Scalar.andi v6 c1_i32_3
  let c512_i32_219 : BitVec 32 := 512#32
  let v293 : BitVec 32 := Scalar.muli v7 c512_i32_219
  let v294 : BitVec 32 := Scalar.addi v124 v293
  let c1_i32_0 : BitVec 32 := 1#32
  let v3 : BitVec 32 := Scalar.andi v2 c1_i32_0
  let v8 : BitVec 32 := Scalar.xori v3 v5
  let c256_i32_396 : BitVec 32 := 256#32
  let v527 : BitVec 32 := Scalar.muli v8 c256_i32_396
  let v528 : BitVec 32 := Scalar.addi v294 v527
  let c256_i32_738 : BitVec 32 := 256#32
  let v1039 : BitVec 32 := Scalar.muli v8 c256_i32_738
  let v1040 : BitVec 32 := Scalar.subi v528 v1039
  let c1_i32_928 : BitVec 32 := 1#32
  let c2_i32_927 : BitVec 32 := 2#32
  let v1227 : BitVec 32 := Scalar.muli c2_i32_927 v7
  let v1228 : BitVec 32 := Scalar.subi c1_i32_928 v1227
  let c512_i32_929 : BitVec 32 := 512#32
  let v1229 : BitVec 32 := Scalar.muli v1228 c512_i32_929
  let v1230 : BitVec 32 := Scalar.addi v1040 v1229
  let c0_i32_942 : BitVec 32 := 0#32
  ![v1230.toNat, 0]
def k0_off71 (d0 : Dev nD) : Fin 2 → Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v39 : BitVec 32 := Scalar.muli c0_i32_27 v2
  let c2_i32 : BitVec 32 := 2#32
  let v6 : BitVec 32 := Scalar.shrsi v2 c2_i32
  let c1_i32_3 : BitVec 32 := 1#32
  let v7 : BitVec 32 := Scalar.andi v6 c1_i32_3
  let c1024_i32_98 : BitVec 32 := 1024#32
  let v135 : BitVec 32 := Scalar.muli v7 c1024_i32_98
  let v136 : BitVec 32 := Scalar.addi v39 v135
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c512_i32_235 : BitVec 32 := 512#32
  let v314 : BitVec 32 := Scalar.muli v8 c512_i32_235
  let v315 : BitVec 32 := Scalar.addi v136 v314
  let c256_i32_413 : BitVec 32 := 256#32
  let v553 : BitVec 32 := Scalar.muli v5 c256_i32_413
  let v554 : BitVec 32 := Scalar.addi v315 v553
  let c256_i32_762 : BitVec 32 := 256#32
  let v1063 : BitVec 32 := Scalar.muli v5 c256_i32_762
  let v1064 : BitVec 32 := Scalar.subi v554 v1063
  let c512_i32_954 : BitVec 32 := 512#32
  let v1255 : BitVec 32 := Scalar.muli v8 c512_i32_954
  let v1256 : BitVec 32 := Scalar.subi v1064 v1255
  let c0_i32_961 : BitVec 32 := 0#32
  ![v1256.toNat, 0]
def k0_dev46 (d0 : Dev nD) : Nat :=
  let c0_i32_960 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_959 : BitVec 32 := 1#32
  let v1257 : BitVec 32 := Scalar.muli v11 c1_i32_959
  let v1258 : BitVec 32 := Scalar.addi c0_i32_960 v1257
  v1258.toNat
def k0_off72 (d0 : Dev nD) : Fin 2 → Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v39 : BitVec 32 := Scalar.muli c0_i32_27 v2
  let c2_i32 : BitVec 32 := 2#32
  let v6 : BitVec 32 := Scalar.shrsi v2 c2_i32
  let c1_i32_3 : BitVec 32 := 1#32
  let v7 : BitVec 32 := Scalar.andi v6 c1_i32_3
  let c1024_i32_98 : BitVec 32 := 1024#32
  let v135 : BitVec 32 := Scalar.muli v7 c1024_i32_98
  let v136 : BitVec 32 := Scalar.addi v39 v135
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c512_i32_235 : BitVec 32 := 512#32
  let v314 : BitVec 32 := Scalar.muli v8 c512_i32_235
  let v315 : BitVec 32 := Scalar.addi v136 v314
  let c256_i32_413 : BitVec 32 := 256#32
  let v553 : BitVec 32 := Scalar.muli v5 c256_i32_413
  let v554 : BitVec 32 := Scalar.addi v315 v553
  let c256_i32_762 : BitVec 32 := 256#32
  let v1063 : BitVec 32 := Scalar.muli v5 c256_i32_762
  let v1064 : BitVec 32 := Scalar.subi v554 v1063
  let c1_i32_952 : BitVec 32 := 1#32
  let c2_i32_951 : BitVec 32 := 2#32
  let v1251 : BitVec 32 := Scalar.muli c2_i32_951 v8
  let v1252 : BitVec 32 := Scalar.subi c1_i32_952 v1251
  let c512_i32_953 : BitVec 32 := 512#32
  let v1253 : BitVec 32 := Scalar.muli v1252 c512_i32_953
  let v1254 : BitVec 32 := Scalar.addi v1064 v1253
  let c512_i32_965 : BitVec 32 := 512#32
  ![v1254.toNat, 512]
def k0_off73 (d0 : Dev nD) : Fin 2 → Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v39 : BitVec 32 := Scalar.muli c0_i32_27 v2
  let c2_i32 : BitVec 32 := 2#32
  let v6 : BitVec 32 := Scalar.shrsi v2 c2_i32
  let c1_i32_3 : BitVec 32 := 1#32
  let v7 : BitVec 32 := Scalar.andi v6 c1_i32_3
  let c1024_i32_98 : BitVec 32 := 1024#32
  let v135 : BitVec 32 := Scalar.muli v7 c1024_i32_98
  let v136 : BitVec 32 := Scalar.addi v39 v135
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c512_i32_235 : BitVec 32 := 512#32
  let v314 : BitVec 32 := Scalar.muli v8 c512_i32_235
  let v315 : BitVec 32 := Scalar.addi v136 v314
  let c256_i32_413 : BitVec 32 := 256#32
  let v553 : BitVec 32 := Scalar.muli v5 c256_i32_413
  let v554 : BitVec 32 := Scalar.addi v315 v553
  let c256_i32_762 : BitVec 32 := 256#32
  let v1063 : BitVec 32 := Scalar.muli v5 c256_i32_762
  let v1064 : BitVec 32 := Scalar.subi v554 v1063
  let c1_i32_952 : BitVec 32 := 1#32
  let c2_i32_951 : BitVec 32 := 2#32
  let v1251 : BitVec 32 := Scalar.muli c2_i32_951 v8
  let v1252 : BitVec 32 := Scalar.subi c1_i32_952 v1251
  let c512_i32_953 : BitVec 32 := 512#32
  let v1253 : BitVec 32 := Scalar.muli v1252 c512_i32_953
  let v1254 : BitVec 32 := Scalar.addi v1064 v1253
  let c0_i32_966 : BitVec 32 := 0#32
  ![v1254.toNat, 0]
def k0_dev47 (d0 : Dev nD) : Nat :=
  let c0_i32_984 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_983 : BitVec 32 := 1#32
  let v1281 : BitVec 32 := Scalar.muli v9 c1_i32_983
  let v1282 : BitVec 32 := Scalar.addi c0_i32_984 v1281
  v1282.toNat
def k0_off74 (d0 : Dev nD) : Fin 2 → Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v40 : BitVec 32 := Scalar.muli c0_i32_28 v2
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1024_i32_107 : BitVec 32 := 1024#32
  let v147 : BitVec 32 := Scalar.muli v8 c1024_i32_107
  let v148 : BitVec 32 := Scalar.addi v40 v147
  let c512_i32_251 : BitVec 32 := 512#32
  let v335 : BitVec 32 := Scalar.muli v5 c512_i32_251
  let v336 : BitVec 32 := Scalar.addi v148 v335
  let c2_i32 : BitVec 32 := 2#32
  let v6 : BitVec 32 := Scalar.shrsi v2 c2_i32
  let c1_i32_3 : BitVec 32 := 1#32
  let v7 : BitVec 32 := Scalar.andi v6 c1_i32_3
  let c256_i32_430 : BitVec 32 := 256#32
  let v579 : BitVec 32 := Scalar.muli v7 c256_i32_430
  let v580 : BitVec 32 := Scalar.addi v336 v579
  let c256_i32_786 : BitVec 32 := 256#32
  let v1087 : BitVec 32 := Scalar.muli v7 c256_i32_786
  let v1088 : BitVec 32 := Scalar.subi v580 v1087
  let c1_i32_976 : BitVec 32 := 1#32
  let c2_i32_975 : BitVec 32 := 2#32
  let v1275 : BitVec 32 := Scalar.muli c2_i32_975 v5
  let v1276 : BitVec 32 := Scalar.subi c1_i32_976 v1275
  let c512_i32_977 : BitVec 32 := 512#32
  let v1277 : BitVec 32 := Scalar.muli v1276 c512_i32_977
  let v1278 : BitVec 32 := Scalar.addi v1088 v1277
  let c768_i32_989 : BitVec 32 := 768#32
  ![v1278.toNat, 768]
def k0_dev48 (d0 : Dev nD) : Nat :=
  let c0_i32_1008 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_1007 : BitVec 32 := 1#32
  let v1305 : BitVec 32 := Scalar.muli v10 c1_i32_1007
  let v1306 : BitVec 32 := Scalar.addi c0_i32_1008 v1305
  v1306.toNat
def k0_off75 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v41 : BitVec 32 := Scalar.muli c0_i32_29 v2
  let c1_i32_1 : BitVec 32 := 1#32
  let v4 : BitVec 32 := Scalar.shrsi v2 c1_i32_1
  let c1_i32_2 : BitVec 32 := 1#32
  let v5 : BitVec 32 := Scalar.andi v4 c1_i32_2
  let c1024_i32_116 : BitVec 32 := 1024#32
  let v159 : BitVec 32 := Scalar.muli v5 c1024_i32_116
  let v160 : BitVec 32 := Scalar.addi v41 v159
  let c2_i32 : BitVec 32 := 2#32
  let v6 : BitVec 32 := Scalar.shrsi v2 c2_i32
  let c1_i32_3 : BitVec 32 := 1#32
  let v7 : BitVec 32 := Scalar.andi v6 c1_i32_3
  let c512_i32_267 : BitVec 32 := 512#32
  let v356 : BitVec 32 := Scalar.muli v7 c512_i32_267
  let v357 : BitVec 32 := Scalar.addi v160 v356
  let c1_i32_0 : BitVec 32 := 1#32
  let v3 : BitVec 32 := Scalar.andi v2 c1_i32_0
  let v8 : BitVec 32 := Scalar.xori v3 v5
  let c256_i32_447 : BitVec 32 := 256#32
  let v605 : BitVec 32 := Scalar.muli v8 c256_i32_447
  let v606 : BitVec 32 := Scalar.addi v357 v605
  let c256_i32_810 : BitVec 32 := 256#32
  let v1111 : BitVec 32 := Scalar.muli v8 c256_i32_810
  let v1112 : BitVec 32 := Scalar.subi v606 v1111
  let c1_i32_1000 : BitVec 32 := 1#32
  let c2_i32_999 : BitVec 32 := 2#32
  let v1299 : BitVec 32 := Scalar.muli c2_i32_999 v7
  let v1300 : BitVec 32 := Scalar.subi c1_i32_1000 v1299
  let c512_i32_1001 : BitVec 32 := 512#32
  let v1301 : BitVec 32 := Scalar.muli v1300 c512_i32_1001
  let v1302 : BitVec 32 := Scalar.addi v1112 v1301
  let c1024_i32_1013 : BitVec 32 := 1024#32
  ![v1302.toNat, 1024]
def k0_off76 (d0 : Dev nD) : Fin 2 → Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v42 : BitVec 32 := Scalar.muli c0_i32_30 v2
  let c2_i32 : BitVec 32 := 2#32
  let v6 : BitVec 32 := Scalar.shrsi v2 c2_i32
  let c1_i32_3 : BitVec 32 := 1#32
  let v7 : BitVec 32 := Scalar.andi v6 c1_i32_3
  let c1024_i32_124 : BitVec 32 := 1024#32
  let v171 : BitVec 32 := Scalar.muli v7 c1024_i32_124
  let v172 : BitVec 32 := Scalar.addi v42 v171
  let c1_i32_1 : BitVec 32 := 1#32
  let v4 : BitVec 32 := Scalar.shrsi v2 c1_i32_1
  let c1_i32_2 : BitVec 32 := 1#32
  let v5 : BitVec 32 := Scalar.andi v4 c1_i32_2
  let c512_i32_283 : BitVec 32 := 512#32
  let v377 : BitVec 32 := Scalar.muli v5 c512_i32_283
  let v378 : BitVec 32 := Scalar.addi v172 v377
  let c1_i32_0 : BitVec 32 := 1#32
  let v3 : BitVec 32 := Scalar.andi v2 c1_i32_0
  let v8 : BitVec 32 := Scalar.xori v3 v5
  let c256_i32_464 : BitVec 32 := 256#32
  let v631 : BitVec 32 := Scalar.muli v8 c256_i32_464
  let v632 : BitVec 32 := Scalar.addi v378 v631
  let c256_i32_834 : BitVec 32 := 256#32
  let v1135 : BitVec 32 := Scalar.muli v8 c256_i32_834
  let v1136 : BitVec 32 := Scalar.subi v632 v1135
  let c512_i32_1026 : BitVec 32 := 512#32
  let v1327 : BitVec 32 := Scalar.muli v5 c512_i32_1026
  let v1328 : BitVec 32 := Scalar.subi v1136 v1327
  let c0_i32_1033 : BitVec 32 := 0#32
  ![v1328.toNat, 0]
def k0_dev49 (d0 : Dev nD) : Nat :=
  let c0_i32_1032 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_1031 : BitVec 32 := 1#32
  let v1329 : BitVec 32 := Scalar.muli v11 c1_i32_1031
  let v1330 : BitVec 32 := Scalar.addi c0_i32_1032 v1329
  v1330.toNat
def k0_off77 (d0 : Dev nD) : Fin 2 → Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v42 : BitVec 32 := Scalar.muli c0_i32_30 v2
  let c2_i32 : BitVec 32 := 2#32
  let v6 : BitVec 32 := Scalar.shrsi v2 c2_i32
  let c1_i32_3 : BitVec 32 := 1#32
  let v7 : BitVec 32 := Scalar.andi v6 c1_i32_3
  let c1024_i32_124 : BitVec 32 := 1024#32
  let v171 : BitVec 32 := Scalar.muli v7 c1024_i32_124
  let v172 : BitVec 32 := Scalar.addi v42 v171
  let c1_i32_1 : BitVec 32 := 1#32
  let v4 : BitVec 32 := Scalar.shrsi v2 c1_i32_1
  let c1_i32_2 : BitVec 32 := 1#32
  let v5 : BitVec 32 := Scalar.andi v4 c1_i32_2
  let c512_i32_283 : BitVec 32 := 512#32
  let v377 : BitVec 32 := Scalar.muli v5 c512_i32_283
  let v378 : BitVec 32 := Scalar.addi v172 v377
  let c1_i32_0 : BitVec 32 := 1#32
  let v3 : BitVec 32 := Scalar.andi v2 c1_i32_0
  let v8 : BitVec 32 := Scalar.xori v3 v5
  let c256_i32_464 : BitVec 32 := 256#32
  let v631 : BitVec 32 := Scalar.muli v8 c256_i32_464
  let v632 : BitVec 32 := Scalar.addi v378 v631
  let c256_i32_834 : BitVec 32 := 256#32
  let v1135 : BitVec 32 := Scalar.muli v8 c256_i32_834
  let v1136 : BitVec 32 := Scalar.subi v632 v1135
  let c1_i32_1024 : BitVec 32 := 1#32
  let c2_i32_1023 : BitVec 32 := 2#32
  let v1323 : BitVec 32 := Scalar.muli c2_i32_1023 v5
  let v1324 : BitVec 32 := Scalar.subi c1_i32_1024 v1323
  let c512_i32_1025 : BitVec 32 := 512#32
  let v1325 : BitVec 32 := Scalar.muli v1324 c512_i32_1025
  let v1326 : BitVec 32 := Scalar.addi v1136 v1325
  let c1280_i32_1037 : BitVec 32 := 1280#32
  ![v1326.toNat, 1280]
def k0_off78 (d0 : Dev nD) : Fin 2 → Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v42 : BitVec 32 := Scalar.muli c0_i32_30 v2
  let c2_i32 : BitVec 32 := 2#32
  let v6 : BitVec 32 := Scalar.shrsi v2 c2_i32
  let c1_i32_3 : BitVec 32 := 1#32
  let v7 : BitVec 32 := Scalar.andi v6 c1_i32_3
  let c1024_i32_124 : BitVec 32 := 1024#32
  let v171 : BitVec 32 := Scalar.muli v7 c1024_i32_124
  let v172 : BitVec 32 := Scalar.addi v42 v171
  let c1_i32_1 : BitVec 32 := 1#32
  let v4 : BitVec 32 := Scalar.shrsi v2 c1_i32_1
  let c1_i32_2 : BitVec 32 := 1#32
  let v5 : BitVec 32 := Scalar.andi v4 c1_i32_2
  let c512_i32_283 : BitVec 32 := 512#32
  let v377 : BitVec 32 := Scalar.muli v5 c512_i32_283
  let v378 : BitVec 32 := Scalar.addi v172 v377
  let c1_i32_0 : BitVec 32 := 1#32
  let v3 : BitVec 32 := Scalar.andi v2 c1_i32_0
  let v8 : BitVec 32 := Scalar.xori v3 v5
  let c256_i32_464 : BitVec 32 := 256#32
  let v631 : BitVec 32 := Scalar.muli v8 c256_i32_464
  let v632 : BitVec 32 := Scalar.addi v378 v631
  let c256_i32_834 : BitVec 32 := 256#32
  let v1135 : BitVec 32 := Scalar.muli v8 c256_i32_834
  let v1136 : BitVec 32 := Scalar.subi v632 v1135
  let c1_i32_1024 : BitVec 32 := 1#32
  let c2_i32_1023 : BitVec 32 := 2#32
  let v1323 : BitVec 32 := Scalar.muli c2_i32_1023 v5
  let v1324 : BitVec 32 := Scalar.subi c1_i32_1024 v1323
  let c512_i32_1025 : BitVec 32 := 512#32
  let v1325 : BitVec 32 := Scalar.muli v1324 c512_i32_1025
  let v1326 : BitVec 32 := Scalar.addi v1136 v1325
  let c0_i32_1038 : BitVec 32 := 0#32
  ![v1326.toNat, 0]
def k0_dev50 (d0 : Dev nD) : Nat :=
  let c0_i32_1056 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_1055 : BitVec 32 := 1#32
  let v1353 : BitVec 32 := Scalar.muli v9 c1_i32_1055
  let v1354 : BitVec 32 := Scalar.addi c0_i32_1056 v1353
  v1354.toNat
def k0_off79 (d0 : Dev nD) : Fin 2 → Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v43 : BitVec 32 := Scalar.muli c0_i32_31 v2
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1024_i32_132 : BitVec 32 := 1024#32
  let v183 : BitVec 32 := Scalar.muli v8 c1024_i32_132
  let v184 : BitVec 32 := Scalar.addi v43 v183
  let c512_i32_299 : BitVec 32 := 512#32
  let v398 : BitVec 32 := Scalar.muli v5 c512_i32_299
  let v399 : BitVec 32 := Scalar.addi v184 v398
  let c2_i32 : BitVec 32 := 2#32
  let v6 : BitVec 32 := Scalar.shrsi v2 c2_i32
  let c1_i32_3 : BitVec 32 := 1#32
  let v7 : BitVec 32 := Scalar.andi v6 c1_i32_3
  let c256_i32_481 : BitVec 32 := 256#32
  let v657 : BitVec 32 := Scalar.muli v7 c256_i32_481
  let v658 : BitVec 32 := Scalar.addi v399 v657
  let c256_i32_858 : BitVec 32 := 256#32
  let v1159 : BitVec 32 := Scalar.muli v7 c256_i32_858
  let v1160 : BitVec 32 := Scalar.subi v658 v1159
  let c1_i32_1048 : BitVec 32 := 1#32
  let c2_i32_1047 : BitVec 32 := 2#32
  let v1347 : BitVec 32 := Scalar.muli c2_i32_1047 v5
  let v1348 : BitVec 32 := Scalar.subi c1_i32_1048 v1347
  let c512_i32_1049 : BitVec 32 := 512#32
  let v1349 : BitVec 32 := Scalar.muli v1348 c512_i32_1049
  let v1350 : BitVec 32 := Scalar.addi v1160 v1349
  let c1536_i32_1061 : BitVec 32 := 1536#32
  ![v1350.toNat, 1536]
def k0_dev51 (d0 : Dev nD) : Nat :=
  let c0_i32_1080 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_1079 : BitVec 32 := 1#32
  let v1377 : BitVec 32 := Scalar.muli v11 c1_i32_1079
  let v1378 : BitVec 32 := Scalar.addi c0_i32_1080 v1377
  v1378.toNat
def k0_off80 (d0 : Dev nD) : Fin 2 → Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v44 : BitVec 32 := Scalar.muli c0_i32_32 v2
  let c2_i32 : BitVec 32 := 2#32
  let v6 : BitVec 32 := Scalar.shrsi v2 c2_i32
  let c1_i32_3 : BitVec 32 := 1#32
  let v7 : BitVec 32 := Scalar.andi v6 c1_i32_3
  let c1024_i32_140 : BitVec 32 := 1024#32
  let v195 : BitVec 32 := Scalar.muli v7 c1024_i32_140
  let v196 : BitVec 32 := Scalar.addi v44 v195
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c512_i32_315 : BitVec 32 := 512#32
  let v419 : BitVec 32 := Scalar.muli v8 c512_i32_315
  let v420 : BitVec 32 := Scalar.addi v196 v419
  let c256_i32_498 : BitVec 32 := 256#32
  let v683 : BitVec 32 := Scalar.muli v5 c256_i32_498
  let v684 : BitVec 32 := Scalar.addi v420 v683
  let c256_i32_882 : BitVec 32 := 256#32
  let v1183 : BitVec 32 := Scalar.muli v5 c256_i32_882
  let v1184 : BitVec 32 := Scalar.subi v684 v1183
  let c1_i32_1072 : BitVec 32 := 1#32
  let c2_i32_1071 : BitVec 32 := 2#32
  let v1371 : BitVec 32 := Scalar.muli c2_i32_1071 v8
  let v1372 : BitVec 32 := Scalar.subi c1_i32_1072 v1371
  let c512_i32_1073 : BitVec 32 := 512#32
  let v1373 : BitVec 32 := Scalar.muli v1372 c512_i32_1073
  let v1374 : BitVec 32 := Scalar.addi v1184 v1373
  let c1792_i32_1085 : BitVec 32 := 1792#32
  ![v1374.toNat, 1792]
def k0_off81 (d0 : Dev nD) : Fin 2 → Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : BitVec 32 := Scalar.muli c0_i32_25 v2
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1024_i32_80 : BitVec 32 := 1024#32
  let v111 : BitVec 32 := Scalar.muli v8 c1024_i32_80
  let v112 : BitVec 32 := Scalar.addi v37 v111
  let c512_i32_203 : BitVec 32 := 512#32
  let v272 : BitVec 32 := Scalar.muli v5 c512_i32_203
  let v273 : BitVec 32 := Scalar.addi v112 v272
  let c2_i32 : BitVec 32 := 2#32
  let v6 : BitVec 32 := Scalar.shrsi v2 c2_i32
  let c1_i32_3 : BitVec 32 := 1#32
  let v7 : BitVec 32 := Scalar.andi v6 c1_i32_3
  let c256_i32_379 : BitVec 32 := 256#32
  let v501 : BitVec 32 := Scalar.muli v7 c256_i32_379
  let v502 : BitVec 32 := Scalar.addi v273 v501
  let c256_i32_714 : BitVec 32 := 256#32
  let v1015 : BitVec 32 := Scalar.muli v7 c256_i32_714
  let v1016 : BitVec 32 := Scalar.subi v502 v1015
  let c512_i32_906 : BitVec 32 := 512#32
  let v1207 : BitVec 32 := Scalar.muli v5 c512_i32_906
  let v1208 : BitVec 32 := Scalar.subi v1016 v1207
  let c1_i32_1096 : BitVec 32 := 1#32
  let c2_i32_1095 : BitVec 32 := 2#32
  let v1395 : BitVec 32 := Scalar.muli c2_i32_1095 v8
  let v1396 : BitVec 32 := Scalar.subi c1_i32_1096 v1395
  let c1024_i32_1097 : BitVec 32 := 1024#32
  let v1397 : BitVec 32 := Scalar.muli v1396 c1024_i32_1097
  let v1398 : BitVec 32 := Scalar.addi v1208 v1397
  let c0_i32_1100 : BitVec 32 := 0#32
  ![v1398.toNat, 0]
def k0_off82 (d0 : Dev nD) : Fin 2 → Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : BitVec 32 := Scalar.muli c0_i32_25 v2
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1024_i32_80 : BitVec 32 := 1024#32
  let v111 : BitVec 32 := Scalar.muli v8 c1024_i32_80
  let v112 : BitVec 32 := Scalar.addi v37 v111
  let c512_i32_203 : BitVec 32 := 512#32
  let v272 : BitVec 32 := Scalar.muli v5 c512_i32_203
  let v273 : BitVec 32 := Scalar.addi v112 v272
  let c2_i32 : BitVec 32 := 2#32
  let v6 : BitVec 32 := Scalar.shrsi v2 c2_i32
  let c1_i32_3 : BitVec 32 := 1#32
  let v7 : BitVec 32 := Scalar.andi v6 c1_i32_3
  let c256_i32_379 : BitVec 32 := 256#32
  let v501 : BitVec 32 := Scalar.muli v7 c256_i32_379
  let v502 : BitVec 32 := Scalar.addi v273 v501
  let c256_i32_714 : BitVec 32 := 256#32
  let v1015 : BitVec 32 := Scalar.muli v7 c256_i32_714
  let v1016 : BitVec 32 := Scalar.subi v502 v1015
  let c512_i32_906 : BitVec 32 := 512#32
  let v1207 : BitVec 32 := Scalar.muli v5 c512_i32_906
  let v1208 : BitVec 32 := Scalar.subi v1016 v1207
  let c1_i32_1096 : BitVec 32 := 1#32
  let c2_i32_1095 : BitVec 32 := 2#32
  let v1395 : BitVec 32 := Scalar.muli c2_i32_1095 v8
  let v1396 : BitVec 32 := Scalar.subi c1_i32_1096 v1395
  let c1024_i32_1097 : BitVec 32 := 1024#32
  let v1397 : BitVec 32 := Scalar.muli v1396 c1024_i32_1097
  let v1398 : BitVec 32 := Scalar.addi v1208 v1397
  let c0_i32_1101 : BitVec 32 := 0#32
  ![v1398.toNat, 0]
def k0_off83 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : BitVec 32 := Scalar.muli c0_i32_26 v2
  let c1_i32_1 : BitVec 32 := 1#32
  let v4 : BitVec 32 := Scalar.shrsi v2 c1_i32_1
  let c1_i32_2 : BitVec 32 := 1#32
  let v5 : BitVec 32 := Scalar.andi v4 c1_i32_2
  let c1024_i32_89 : BitVec 32 := 1024#32
  let v123 : BitVec 32 := Scalar.muli v5 c1024_i32_89
  let v124 : BitVec 32 := Scalar.addi v38 v123
  let c2_i32 : BitVec 32 := 2#32
  let v6 : BitVec 32 := Scalar.shrsi v2 c2_i32
  let c1_i32_3 : BitVec 32 := 1#32
  let v7 : BitVec 32 := Scalar.andi v6 c1_i32_3
  let c512_i32_219 : BitVec 32 := 512#32
  let v293 : BitVec 32 := Scalar.muli v7 c512_i32_219
  let v294 : BitVec 32 := Scalar.addi v124 v293
  let c1_i32_0 : BitVec 32 := 1#32
  let v3 : BitVec 32 := Scalar.andi v2 c1_i32_0
  let v8 : BitVec 32 := Scalar.xori v3 v5
  let c256_i32_396 : BitVec 32 := 256#32
  let v527 : BitVec 32 := Scalar.muli v8 c256_i32_396
  let v528 : BitVec 32 := Scalar.addi v294 v527
  let c256_i32_738 : BitVec 32 := 256#32
  let v1039 : BitVec 32 := Scalar.muli v8 c256_i32_738
  let v1040 : BitVec 32 := Scalar.subi v528 v1039
  let c512_i32_930 : BitVec 32 := 512#32
  let v1231 : BitVec 32 := Scalar.muli v7 c512_i32_930
  let v1232 : BitVec 32 := Scalar.subi v1040 v1231
  let c1_i32_1111 : BitVec 32 := 1#32
  let c2_i32_1110 : BitVec 32 := 2#32
  let v1409 : BitVec 32 := Scalar.muli c2_i32_1110 v5
  let v1410 : BitVec 32 := Scalar.subi c1_i32_1111 v1409
  let c1024_i32_1112 : BitVec 32 := 1024#32
  let v1411 : BitVec 32 := Scalar.muli v1410 c1024_i32_1112
  let v1412 : BitVec 32 := Scalar.addi v1232 v1411
  let c256_i32_1115 : BitVec 32 := 256#32
  ![v1412.toNat, 256]
def k0_off84 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : BitVec 32 := Scalar.muli c0_i32_26 v2
  let c1_i32_1 : BitVec 32 := 1#32
  let v4 : BitVec 32 := Scalar.shrsi v2 c1_i32_1
  let c1_i32_2 : BitVec 32 := 1#32
  let v5 : BitVec 32 := Scalar.andi v4 c1_i32_2
  let c1024_i32_89 : BitVec 32 := 1024#32
  let v123 : BitVec 32 := Scalar.muli v5 c1024_i32_89
  let v124 : BitVec 32 := Scalar.addi v38 v123
  let c2_i32 : BitVec 32 := 2#32
  let v6 : BitVec 32 := Scalar.shrsi v2 c2_i32
  let c1_i32_3 : BitVec 32 := 1#32
  let v7 : BitVec 32 := Scalar.andi v6 c1_i32_3
  let c512_i32_219 : BitVec 32 := 512#32
  let v293 : BitVec 32 := Scalar.muli v7 c512_i32_219
  let v294 : BitVec 32 := Scalar.addi v124 v293
  let c1_i32_0 : BitVec 32 := 1#32
  let v3 : BitVec 32 := Scalar.andi v2 c1_i32_0
  let v8 : BitVec 32 := Scalar.xori v3 v5
  let c256_i32_396 : BitVec 32 := 256#32
  let v527 : BitVec 32 := Scalar.muli v8 c256_i32_396
  let v528 : BitVec 32 := Scalar.addi v294 v527
  let c256_i32_738 : BitVec 32 := 256#32
  let v1039 : BitVec 32 := Scalar.muli v8 c256_i32_738
  let v1040 : BitVec 32 := Scalar.subi v528 v1039
  let c512_i32_930 : BitVec 32 := 512#32
  let v1231 : BitVec 32 := Scalar.muli v7 c512_i32_930
  let v1232 : BitVec 32 := Scalar.subi v1040 v1231
  let c1_i32_1111 : BitVec 32 := 1#32
  let c2_i32_1110 : BitVec 32 := 2#32
  let v1409 : BitVec 32 := Scalar.muli c2_i32_1110 v5
  let v1410 : BitVec 32 := Scalar.subi c1_i32_1111 v1409
  let c1024_i32_1112 : BitVec 32 := 1024#32
  let v1411 : BitVec 32 := Scalar.muli v1410 c1024_i32_1112
  let v1412 : BitVec 32 := Scalar.addi v1232 v1411
  let c0_i32_1116 : BitVec 32 := 0#32
  ![v1412.toNat, 0]
def k0_off85 (d0 : Dev nD) : Fin 2 → Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v39 : BitVec 32 := Scalar.muli c0_i32_27 v2
  let c2_i32 : BitVec 32 := 2#32
  let v6 : BitVec 32 := Scalar.shrsi v2 c2_i32
  let c1_i32_3 : BitVec 32 := 1#32
  let v7 : BitVec 32 := Scalar.andi v6 c1_i32_3
  let c1024_i32_98 : BitVec 32 := 1024#32
  let v135 : BitVec 32 := Scalar.muli v7 c1024_i32_98
  let v136 : BitVec 32 := Scalar.addi v39 v135
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c512_i32_235 : BitVec 32 := 512#32
  let v314 : BitVec 32 := Scalar.muli v8 c512_i32_235
  let v315 : BitVec 32 := Scalar.addi v136 v314
  let c256_i32_413 : BitVec 32 := 256#32
  let v553 : BitVec 32 := Scalar.muli v5 c256_i32_413
  let v554 : BitVec 32 := Scalar.addi v315 v553
  let c256_i32_762 : BitVec 32 := 256#32
  let v1063 : BitVec 32 := Scalar.muli v5 c256_i32_762
  let v1064 : BitVec 32 := Scalar.subi v554 v1063
  let c512_i32_954 : BitVec 32 := 512#32
  let v1255 : BitVec 32 := Scalar.muli v8 c512_i32_954
  let v1256 : BitVec 32 := Scalar.subi v1064 v1255
  let c1_i32_1126 : BitVec 32 := 1#32
  let c2_i32_1125 : BitVec 32 := 2#32
  let v1423 : BitVec 32 := Scalar.muli c2_i32_1125 v7
  let v1424 : BitVec 32 := Scalar.subi c1_i32_1126 v1423
  let c1024_i32_1127 : BitVec 32 := 1024#32
  let v1425 : BitVec 32 := Scalar.muli v1424 c1024_i32_1127
  let v1426 : BitVec 32 := Scalar.addi v1256 v1425
  let c512_i32_1130 : BitVec 32 := 512#32
  ![v1426.toNat, 512]
def k0_off86 (d0 : Dev nD) : Fin 2 → Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v39 : BitVec 32 := Scalar.muli c0_i32_27 v2
  let c2_i32 : BitVec 32 := 2#32
  let v6 : BitVec 32 := Scalar.shrsi v2 c2_i32
  let c1_i32_3 : BitVec 32 := 1#32
  let v7 : BitVec 32 := Scalar.andi v6 c1_i32_3
  let c1024_i32_98 : BitVec 32 := 1024#32
  let v135 : BitVec 32 := Scalar.muli v7 c1024_i32_98
  let v136 : BitVec 32 := Scalar.addi v39 v135
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c512_i32_235 : BitVec 32 := 512#32
  let v314 : BitVec 32 := Scalar.muli v8 c512_i32_235
  let v315 : BitVec 32 := Scalar.addi v136 v314
  let c256_i32_413 : BitVec 32 := 256#32
  let v553 : BitVec 32 := Scalar.muli v5 c256_i32_413
  let v554 : BitVec 32 := Scalar.addi v315 v553
  let c256_i32_762 : BitVec 32 := 256#32
  let v1063 : BitVec 32 := Scalar.muli v5 c256_i32_762
  let v1064 : BitVec 32 := Scalar.subi v554 v1063
  let c512_i32_954 : BitVec 32 := 512#32
  let v1255 : BitVec 32 := Scalar.muli v8 c512_i32_954
  let v1256 : BitVec 32 := Scalar.subi v1064 v1255
  let c1_i32_1126 : BitVec 32 := 1#32
  let c2_i32_1125 : BitVec 32 := 2#32
  let v1423 : BitVec 32 := Scalar.muli c2_i32_1125 v7
  let v1424 : BitVec 32 := Scalar.subi c1_i32_1126 v1423
  let c1024_i32_1127 : BitVec 32 := 1024#32
  let v1425 : BitVec 32 := Scalar.muli v1424 c1024_i32_1127
  let v1426 : BitVec 32 := Scalar.addi v1256 v1425
  let c0_i32_1131 : BitVec 32 := 0#32
  ![v1426.toNat, 0]
def k0_off87 (d0 : Dev nD) : Fin 2 → Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v40 : BitVec 32 := Scalar.muli c0_i32_28 v2
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1024_i32_107 : BitVec 32 := 1024#32
  let v147 : BitVec 32 := Scalar.muli v8 c1024_i32_107
  let v148 : BitVec 32 := Scalar.addi v40 v147
  let c512_i32_251 : BitVec 32 := 512#32
  let v335 : BitVec 32 := Scalar.muli v5 c512_i32_251
  let v336 : BitVec 32 := Scalar.addi v148 v335
  let c2_i32 : BitVec 32 := 2#32
  let v6 : BitVec 32 := Scalar.shrsi v2 c2_i32
  let c1_i32_3 : BitVec 32 := 1#32
  let v7 : BitVec 32 := Scalar.andi v6 c1_i32_3
  let c256_i32_430 : BitVec 32 := 256#32
  let v579 : BitVec 32 := Scalar.muli v7 c256_i32_430
  let v580 : BitVec 32 := Scalar.addi v336 v579
  let c256_i32_786 : BitVec 32 := 256#32
  let v1087 : BitVec 32 := Scalar.muli v7 c256_i32_786
  let v1088 : BitVec 32 := Scalar.subi v580 v1087
  let c512_i32_978 : BitVec 32 := 512#32
  let v1279 : BitVec 32 := Scalar.muli v5 c512_i32_978
  let v1280 : BitVec 32 := Scalar.subi v1088 v1279
  let c1_i32_1141 : BitVec 32 := 1#32
  let c2_i32_1140 : BitVec 32 := 2#32
  let v1437 : BitVec 32 := Scalar.muli c2_i32_1140 v8
  let v1438 : BitVec 32 := Scalar.subi c1_i32_1141 v1437
  let c1024_i32_1142 : BitVec 32 := 1024#32
  let v1439 : BitVec 32 := Scalar.muli v1438 c1024_i32_1142
  let v1440 : BitVec 32 := Scalar.addi v1280 v1439
  let c768_i32_1145 : BitVec 32 := 768#32
  ![v1440.toNat, 768]
def k0_off88 (d0 : Dev nD) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v41 : BitVec 32 := Scalar.muli c0_i32_29 v2
  let c1_i32_1 : BitVec 32 := 1#32
  let v4 : BitVec 32 := Scalar.shrsi v2 c1_i32_1
  let c1_i32_2 : BitVec 32 := 1#32
  let v5 : BitVec 32 := Scalar.andi v4 c1_i32_2
  let c1024_i32_116 : BitVec 32 := 1024#32
  let v159 : BitVec 32 := Scalar.muli v5 c1024_i32_116
  let v160 : BitVec 32 := Scalar.addi v41 v159
  let c2_i32 : BitVec 32 := 2#32
  let v6 : BitVec 32 := Scalar.shrsi v2 c2_i32
  let c1_i32_3 : BitVec 32 := 1#32
  let v7 : BitVec 32 := Scalar.andi v6 c1_i32_3
  let c512_i32_267 : BitVec 32 := 512#32
  let v356 : BitVec 32 := Scalar.muli v7 c512_i32_267
  let v357 : BitVec 32 := Scalar.addi v160 v356
  let c1_i32_0 : BitVec 32 := 1#32
  let v3 : BitVec 32 := Scalar.andi v2 c1_i32_0
  let v8 : BitVec 32 := Scalar.xori v3 v5
  let c256_i32_447 : BitVec 32 := 256#32
  let v605 : BitVec 32 := Scalar.muli v8 c256_i32_447
  let v606 : BitVec 32 := Scalar.addi v357 v605
  let c256_i32_810 : BitVec 32 := 256#32
  let v1111 : BitVec 32 := Scalar.muli v8 c256_i32_810
  let v1112 : BitVec 32 := Scalar.subi v606 v1111
  let c512_i32_1002 : BitVec 32 := 512#32
  let v1303 : BitVec 32 := Scalar.muli v7 c512_i32_1002
  let v1304 : BitVec 32 := Scalar.subi v1112 v1303
  let c1_i32_1156 : BitVec 32 := 1#32
  let c2_i32_1155 : BitVec 32 := 2#32
  let v1451 : BitVec 32 := Scalar.muli c2_i32_1155 v5
  let v1452 : BitVec 32 := Scalar.subi c1_i32_1156 v1451
  let c1024_i32_1157 : BitVec 32 := 1024#32
  let v1453 : BitVec 32 := Scalar.muli v1452 c1024_i32_1157
  let v1454 : BitVec 32 := Scalar.addi v1304 v1453
  let c1024_i32_1160 : BitVec 32 := 1024#32
  ![v1454.toNat, 1024]
def k0_off89 (d0 : Dev nD) : Fin 2 → Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v42 : BitVec 32 := Scalar.muli c0_i32_30 v2
  let c2_i32 : BitVec 32 := 2#32
  let v6 : BitVec 32 := Scalar.shrsi v2 c2_i32
  let c1_i32_3 : BitVec 32 := 1#32
  let v7 : BitVec 32 := Scalar.andi v6 c1_i32_3
  let c1024_i32_124 : BitVec 32 := 1024#32
  let v171 : BitVec 32 := Scalar.muli v7 c1024_i32_124
  let v172 : BitVec 32 := Scalar.addi v42 v171
  let c1_i32_1 : BitVec 32 := 1#32
  let v4 : BitVec 32 := Scalar.shrsi v2 c1_i32_1
  let c1_i32_2 : BitVec 32 := 1#32
  let v5 : BitVec 32 := Scalar.andi v4 c1_i32_2
  let c512_i32_283 : BitVec 32 := 512#32
  let v377 : BitVec 32 := Scalar.muli v5 c512_i32_283
  let v378 : BitVec 32 := Scalar.addi v172 v377
  let c1_i32_0 : BitVec 32 := 1#32
  let v3 : BitVec 32 := Scalar.andi v2 c1_i32_0
  let v8 : BitVec 32 := Scalar.xori v3 v5
  let c256_i32_464 : BitVec 32 := 256#32
  let v631 : BitVec 32 := Scalar.muli v8 c256_i32_464
  let v632 : BitVec 32 := Scalar.addi v378 v631
  let c256_i32_834 : BitVec 32 := 256#32
  let v1135 : BitVec 32 := Scalar.muli v8 c256_i32_834
  let v1136 : BitVec 32 := Scalar.subi v632 v1135
  let c512_i32_1026 : BitVec 32 := 512#32
  let v1327 : BitVec 32 := Scalar.muli v5 c512_i32_1026
  let v1328 : BitVec 32 := Scalar.subi v1136 v1327
  let c1_i32_1171 : BitVec 32 := 1#32
  let c2_i32_1170 : BitVec 32 := 2#32
  let v1465 : BitVec 32 := Scalar.muli c2_i32_1170 v7
  let v1466 : BitVec 32 := Scalar.subi c1_i32_1171 v1465
  let c1024_i32_1172 : BitVec 32 := 1024#32
  let v1467 : BitVec 32 := Scalar.muli v1466 c1024_i32_1172
  let v1468 : BitVec 32 := Scalar.addi v1328 v1467
  let c1280_i32_1175 : BitVec 32 := 1280#32
  ![v1468.toNat, 1280]
def k0_off90 (d0 : Dev nD) : Fin 2 → Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v42 : BitVec 32 := Scalar.muli c0_i32_30 v2
  let c2_i32 : BitVec 32 := 2#32
  let v6 : BitVec 32 := Scalar.shrsi v2 c2_i32
  let c1_i32_3 : BitVec 32 := 1#32
  let v7 : BitVec 32 := Scalar.andi v6 c1_i32_3
  let c1024_i32_124 : BitVec 32 := 1024#32
  let v171 : BitVec 32 := Scalar.muli v7 c1024_i32_124
  let v172 : BitVec 32 := Scalar.addi v42 v171
  let c1_i32_1 : BitVec 32 := 1#32
  let v4 : BitVec 32 := Scalar.shrsi v2 c1_i32_1
  let c1_i32_2 : BitVec 32 := 1#32
  let v5 : BitVec 32 := Scalar.andi v4 c1_i32_2
  let c512_i32_283 : BitVec 32 := 512#32
  let v377 : BitVec 32 := Scalar.muli v5 c512_i32_283
  let v378 : BitVec 32 := Scalar.addi v172 v377
  let c1_i32_0 : BitVec 32 := 1#32
  let v3 : BitVec 32 := Scalar.andi v2 c1_i32_0
  let v8 : BitVec 32 := Scalar.xori v3 v5
  let c256_i32_464 : BitVec 32 := 256#32
  let v631 : BitVec 32 := Scalar.muli v8 c256_i32_464
  let v632 : BitVec 32 := Scalar.addi v378 v631
  let c256_i32_834 : BitVec 32 := 256#32
  let v1135 : BitVec 32 := Scalar.muli v8 c256_i32_834
  let v1136 : BitVec 32 := Scalar.subi v632 v1135
  let c512_i32_1026 : BitVec 32 := 512#32
  let v1327 : BitVec 32 := Scalar.muli v5 c512_i32_1026
  let v1328 : BitVec 32 := Scalar.subi v1136 v1327
  let c1_i32_1171 : BitVec 32 := 1#32
  let c2_i32_1170 : BitVec 32 := 2#32
  let v1465 : BitVec 32 := Scalar.muli c2_i32_1170 v7
  let v1466 : BitVec 32 := Scalar.subi c1_i32_1171 v1465
  let c1024_i32_1172 : BitVec 32 := 1024#32
  let v1467 : BitVec 32 := Scalar.muli v1466 c1024_i32_1172
  let v1468 : BitVec 32 := Scalar.addi v1328 v1467
  let c0_i32_1176 : BitVec 32 := 0#32
  ![v1468.toNat, 0]
def k0_off91 (d0 : Dev nD) : Fin 2 → Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v43 : BitVec 32 := Scalar.muli c0_i32_31 v2
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c1024_i32_132 : BitVec 32 := 1024#32
  let v183 : BitVec 32 := Scalar.muli v8 c1024_i32_132
  let v184 : BitVec 32 := Scalar.addi v43 v183
  let c512_i32_299 : BitVec 32 := 512#32
  let v398 : BitVec 32 := Scalar.muli v5 c512_i32_299
  let v399 : BitVec 32 := Scalar.addi v184 v398
  let c2_i32 : BitVec 32 := 2#32
  let v6 : BitVec 32 := Scalar.shrsi v2 c2_i32
  let c1_i32_3 : BitVec 32 := 1#32
  let v7 : BitVec 32 := Scalar.andi v6 c1_i32_3
  let c256_i32_481 : BitVec 32 := 256#32
  let v657 : BitVec 32 := Scalar.muli v7 c256_i32_481
  let v658 : BitVec 32 := Scalar.addi v399 v657
  let c256_i32_858 : BitVec 32 := 256#32
  let v1159 : BitVec 32 := Scalar.muli v7 c256_i32_858
  let v1160 : BitVec 32 := Scalar.subi v658 v1159
  let c512_i32_1050 : BitVec 32 := 512#32
  let v1351 : BitVec 32 := Scalar.muli v5 c512_i32_1050
  let v1352 : BitVec 32 := Scalar.subi v1160 v1351
  let c1_i32_1186 : BitVec 32 := 1#32
  let c2_i32_1185 : BitVec 32 := 2#32
  let v1479 : BitVec 32 := Scalar.muli c2_i32_1185 v8
  let v1480 : BitVec 32 := Scalar.subi c1_i32_1186 v1479
  let c1024_i32_1187 : BitVec 32 := 1024#32
  let v1481 : BitVec 32 := Scalar.muli v1480 c1024_i32_1187
  let v1482 : BitVec 32 := Scalar.addi v1352 v1481
  let c1536_i32_1190 : BitVec 32 := 1536#32
  ![v1482.toNat, 1536]
def k0_off92 (d0 : Dev nD) : Fin 2 → Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v44 : BitVec 32 := Scalar.muli c0_i32_32 v2
  let c2_i32 : BitVec 32 := 2#32
  let v6 : BitVec 32 := Scalar.shrsi v2 c2_i32
  let c1_i32_3 : BitVec 32 := 1#32
  let v7 : BitVec 32 := Scalar.andi v6 c1_i32_3
  let c1024_i32_140 : BitVec 32 := 1024#32
  let v195 : BitVec 32 := Scalar.muli v7 c1024_i32_140
  let v196 : BitVec 32 := Scalar.addi v44 v195
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c512_i32_315 : BitVec 32 := 512#32
  let v419 : BitVec 32 := Scalar.muli v8 c512_i32_315
  let v420 : BitVec 32 := Scalar.addi v196 v419
  let c256_i32_498 : BitVec 32 := 256#32
  let v683 : BitVec 32 := Scalar.muli v5 c256_i32_498
  let v684 : BitVec 32 := Scalar.addi v420 v683
  let c256_i32_882 : BitVec 32 := 256#32
  let v1183 : BitVec 32 := Scalar.muli v5 c256_i32_882
  let v1184 : BitVec 32 := Scalar.subi v684 v1183
  let c512_i32_1074 : BitVec 32 := 512#32
  let v1375 : BitVec 32 := Scalar.muli v8 c512_i32_1074
  let v1376 : BitVec 32 := Scalar.subi v1184 v1375
  let c1_i32_1201 : BitVec 32 := 1#32
  let c2_i32_1200 : BitVec 32 := 2#32
  let v1493 : BitVec 32 := Scalar.muli c2_i32_1200 v7
  let v1494 : BitVec 32 := Scalar.subi c1_i32_1201 v1493
  let c1024_i32_1202 : BitVec 32 := 1024#32
  let v1495 : BitVec 32 := Scalar.muli v1494 c1024_i32_1202
  let v1496 : BitVec 32 := Scalar.addi v1376 v1495
  let c1792_i32_1205 : BitVec 32 := 1792#32
  ![v1496.toNat, 1792]
-- ==== ReferenceIdeal.lean ====
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Program.lean ====
module

public import proofs.«01_k».proof.Proof.Gen.KernelIdeal.Skeleton
public import proofs.«01_k».proof.Proof.Gen.KernelIdeal.Points

/-! # The kernel's body as one program over its eight column parts

The printed body runs its effects part by part, written out. Here the same effects are written once for
a part `i` and a halving round `k`, the printed offsets picked from tables by the part. -/

@[expose] public section

noncomputable section

namespace Cert.KernelIdeal.Hand

open Idealize.ShloMosaic Idealize.ShloMosaic.TcCoe
open Idealize.SL Idealize.SL.Sem
open Cert.KernelIdeal.Gen

variable {F : FTy → Type} [FloatOps F]

/-! ## Shapes and buffers -/

/-- The block exchanged in halving round `k`: 1024, 512, 256 rows. -/
abbrev hs (k : Fin 3) : Shape := ⟨2, ![1024 / 2 ^ k.val, 256]⟩
/-- The block gathered in doubling round `t`: 256, 512, 1024 rows. -/
abbrev ags (t : Fin 3) : Shape := ⟨2, ![256 * 2 ^ t.val, 256]⟩
/-- The block of the result copied out in copy `t`: 256, 256, 512, 1024 rows. -/
abbrev cps (t : Fin 4) : Shape := ⟨2, ![256 * 2 ^ (t.val - 1), 256]⟩

/-- Part `i`'s staging buffer of halving round `k`. -/
def sbM : (i : Fin 8) → (k : Fin 3) → Memref sig .tc .vmem (hs k) .bf16
  | 0, 0 => Memref.whole cc0_scratch4 | 0, 1 => Memref.whole cc0_scratch5 | 0, 2 => Memref.whole cc0_scratch6
  | 1, 0 => Memref.whole cc0_scratch11 | 1, 1 => Memref.whole cc0_scratch12 | 1, 2 => Memref.whole cc0_scratch13
  | 2, 0 => Memref.whole cc0_scratch18 | 2, 1 => Memref.whole cc0_scratch19 | 2, 2 => Memref.whole cc0_scratch20
  | 3, 0 => Memref.whole cc0_scratch25 | 3, 1 => Memref.whole cc0_scratch26 | 3, 2 => Memref.whole cc0_scratch27
  | 4, 0 => Memref.whole cc0_scratch32 | 4, 1 => Memref.whole cc0_scratch33 | 4, 2 => Memref.whole cc0_scratch34
  | 5, 0 => Memref.whole cc0_scratch39 | 5, 1 => Memref.whole cc0_scratch40 | 5, 2 => Memref.whole cc0_scratch41
  | 6, 0 => Memref.whole cc0_scratch46 | 6, 1 => Memref.whole cc0_scratch47 | 6, 2 => Memref.whole cc0_scratch48
  | 7, 0 => Memref.whole cc0_scratch53 | 7, 1 => Memref.whole cc0_scratch54 | 7, 2 => Memref.whole cc0_scratch55
/-- Part `i`'s landing buffer of halving round `k`. -/
def rvM : (i : Fin 8) → (k : Fin 3) → Memref sig .tc .vmem (hs k) .bf16
  | 0, 0 => Memref.whole cc0_scratch7 | 0, 1 => Memref.whole cc0_scratch8 | 0, 2 => Memref.whole cc0_scratch9
  | 1, 0 => Memref.whole cc0_scratch14 | 1, 1 => Memref.whole cc0_scratch15 | 1, 2 => Memref.whole cc0_scratch16
  | 2, 0 => Memref.whole cc0_scratch21 | 2, 1 => Memref.whole cc0_scratch22 | 2, 2 => Memref.whole cc0_scratch23
  | 3, 0 => Memref.whole cc0_scratch28 | 3, 1 => Memref.whole cc0_scratch29 | 3, 2 => Memref.whole cc0_scratch30
  | 4, 0 => Memref.whole cc0_scratch35 | 4, 1 => Memref.whole cc0_scratch36 | 4, 2 => Memref.whole cc0_scratch37
  | 5, 0 => Memref.whole cc0_scratch42 | 5, 1 => Memref.whole cc0_scratch43 | 5, 2 => Memref.whole cc0_scratch44
  | 6, 0 => Memref.whole cc0_scratch49 | 6, 1 => Memref.whole cc0_scratch50 | 6, 2 => Memref.whole cc0_scratch51
  | 7, 0 => Memref.whole cc0_scratch56 | 7, 1 => Memref.whole cc0_scratch57 | 7, 2 => Memref.whole cc0_scratch58
/-- Part `i`'s gathered block of columns. -/
def agM : (i : Fin 8) → Memref sig .tc .vmem S2048x256 .bf16
  | 0 => Memref.whole cc0_scratch10 | 1 => Memref.whole cc0_scratch17 | 2 => Memref.whole cc0_scratch24 | 3 => Memref.whole cc0_scratch31 | 4 => Memref.whole cc0_scratch38 | 5 => Memref.whole cc0_scratch45 | 6 => Memref.whole cc0_scratch52 | 7 => Memref.whole cc0_scratch59

/-- The send and receive semaphores of part `i`'s exchange `k` (three of the halving, three of the doubling). -/
theorem inb_sem (i : Fin 8) (k : Fin 6) : ∀ a, (![i.val, k.val] : Fin 2 → Nat) a + S1x1.size a ≤ S8x6.size a := by
  revert i k; decide
theorem inb_io (i : Fin 8) (k : Fin 4) : ∀ a, (![i.val, k.val] : Fin 2 → Nat) a + S1x1.size a ≤ S8x4.size a := by
  revert i k; decide
def sendSem (i : Fin 8) (k : Fin 6) : DmaSem sig :=
  ((cc0_scratch60.slice (Rect.unit (s := S8x6) ![i.val, k.val] S1x1.size (inb_sem i k))).squeeze S_ squeezes_S1x1_S_).sem
def recvSem (i : Fin 8) (k : Fin 6) : DmaSem sig :=
  ((cc0_scratch61.slice (Rect.unit (s := S8x6) ![i.val, k.val] S1x1.size (inb_sem i k))).squeeze S_ squeezes_S1x1_S_).sem
/-- The semaphore of part `i`'s copy `t` into the result. -/
def ioSem (i : Fin 8) (t : Fin 4) : DmaSem sig :=
  ((cc0_scratch63.slice (Rect.unit (s := S8x4) ![i.val, t.val] S1x1.size (inb_io i t))).squeeze S_ squeezes_S1x1_S_).sem

/-! ## The printed offsets, by part -/

/-- The device across direction 0 (`x`), 1 (`y`) or 2 (`z`). -/
def across (d : Fin 3) (c : Dev nD) : Dev nD :=
  match d with
  | 0 => ⟨k0_dev1 c, k0_dev1_lt c⟩
  | 1 => ⟨k0_dev2 c, k0_dev2_lt c⟩
  | 2 => ⟨k0_dev3 c, k0_dev3_lt c⟩

/-- Part `i`'s direction in halving round `k`. -/
def dir : Fin 8 → Fin 3 → Fin 3
  | 0 => ![0, 1, 2] | 1 => ![1, 2, 0] | 2 => ![2, 0, 1] | 3 => ![0, 1, 2]
  | 4 => ![1, 2, 0] | 5 => ![2, 1, 0] | 6 => ![0, 1, 2] | 7 => ![2, 0, 1]

/-- The rows part `i` gives away in halving round `k`. -/
def giveOff : Fin 3 → Fin 8 → Dev nD → Fin 2 → Nat
  | 0 => fun | 0 | 3 | 6 => k0_off1 | 1 | 4 => (k0_off2 · 1#32) | 2 | 5 | 7 => (k0_off2 · 2#32)
  | 1 => fun | 0 | 3 | 6 => k0_off3 | 1 | 4 => (k0_off4 · 1#32 2#32) | 5 => (k0_off4 · 2#32 1#32) | 2 | 7 => k0_off5
  | 2 => fun | 0 | 3 | 6 => k0_off9 | 1 | 4 => k0_off10 | 5 => k0_off12 | 2 | 7 => k0_off11
/-- The rows part `i` keeps after the halving. -/
def keepOff : Fin 8 → Dev nD → Fin 2 → Nat
  | 0 | 3 | 6 => k0_off21 | 1 | 4 => k0_off27 | 5 => k0_off41 | 2 | 7 => k0_off33
/-- The rows of the first landing buffer given away in the second round. -/
def rv10Off : Fin 8 → Dev nD → Fin 2 → Nat
  | 0 | 3 | 6 => k0_off6 | 1 | 4 => (k0_off7 · 1#32 2#32) | 5 => (k0_off7 · 2#32 1#32) | 2 | 7 => k0_off8
/-- The rows of the first landing buffer given away in the third round. -/
def rv20Off : Fin 8 → Dev nD → Fin 2 → Nat
  | 0 | 3 | 6 => k0_off13 | 1 | 4 => k0_off15 | 5 => k0_off19 | 2 | 7 => k0_off17
/-- The rows of the second landing buffer given away in the third round. -/
def rv21Off : Fin 8 → Dev nD → Fin 2 → Nat
  | 0 | 3 | 6 => k0_off14 | 1 | 4 => k0_off16 | 5 => k0_off20 | 2 | 7 => k0_off18
/-- The rows of landing buffer `k` kept. -/
def rvOff : Fin 3 → Fin 8 → Dev nD → Fin 2 → Nat
  | 0 => fun | 0 | 3 | 6 => k0_off22 | 1 | 4 => k0_off28 | 5 => k0_off42 | 2 | 7 => k0_off34
  | 1 => fun | 0 | 3 | 6 => k0_off23 | 1 | 4 => k0_off29 | 5 => k0_off43 | 2 | 7 => k0_off35
  | 2 => fun | 0 | 3 | 6 => k0_off24 | 1 | 4 => k0_off30 | 5 => k0_off44 | 2 | 7 => k0_off36
/-- The rows of the gathered block sent in doubling round `t`. -/
def agOff : Fin 3 → Fin 8 → Dev nD → Fin 2 → Nat
  | 0 => fun | 0 | 3 | 6 => k0_off25 | 1 | 4 => k0_off31 | 5 => k0_off45 | 2 | 7 => k0_off37
  | 1 => fun | 0 | 3 | 6 => k0_off49 | 1 | 4 => k0_off52 | 5 => k0_off60 | 2 | 7 => k0_off55
  | 2 => fun | 0 | 3 | 6 => k0_off65 | 1 | 4 => k0_off68 | 5 => k0_off76 | 2 | 7 => k0_off71
/-- The rows of the gathered block copied out in copy `t`. -/
def cpOff : Fin 4 → Fin 8 → Dev nD → Fin 2 → Nat
  | 0 => fun | 0 | 3 | 6 => k0_off25 | 1 | 4 => k0_off31 | 5 => k0_off45 | 2 | 7 => k0_off37
  | 1 => fun | 0 | 3 | 6 => k0_off51 | 1 | 4 => k0_off54 | 5 => k0_off62 | 2 | 7 => k0_off57
  | 2 => fun | 0 | 3 | 6 => k0_off67 | 1 | 4 => k0_off70 | 5 => k0_off78 | 2 | 7 => k0_off73
  | 3 => fun | 0 | 3 | 6 => k0_off82 | 1 | 4 => k0_off84 | 5 => k0_off90 | 2 | 7 => k0_off86
/-- The block of the result copy `t` of part `i` writes. -/
def outOff : Fin 4 → Fin 8 → Dev nD → Fin 2 → Nat
  | 0 => fun | 0 => k0_off26 | 1 => k0_off32 | 2 => k0_off38 | 3 => k0_off39 | 4 => k0_off40 | 5 => k0_off46 | 6 => k0_off47 | 7 => k0_off48
  | 1 => fun | 0 => k0_off50 | 1 => k0_off53 | 2 => k0_off56 | 3 => k0_off58 | 4 => k0_off59 | 5 => k0_off61 | 6 => k0_off63 | 7 => k0_off64
  | 2 => fun | 0 => k0_off66 | 1 => k0_off69 | 2 => k0_off72 | 3 => k0_off74 | 4 => k0_off75 | 5 => k0_off77 | 6 => k0_off79 | 7 => k0_off80
  | 3 => fun | 0 => k0_off81 | 1 => k0_off83 | 2 => k0_off85 | 3 => k0_off87 | 4 => k0_off88 | 5 => k0_off89 | 6 => k0_off91 | 7 => k0_off92

/-! ## What the offsets are -/

/-- Device `c`'s bit in direction `d`. -/
def bit : Fin 3 → Dev nD → Nat
  | 0, c => (c.val + c.val / 2) % 2
  | 1, c => c.val / 2 % 2
  | 2, c => c.val / 4 % 2
/-- The first row part `i` still holds after `k` halving rounds. -/
def lo (k : Nat) (i : Fin 8) (c : Dev nD) : Nat :=
  ((List.finRange 3).filter (·.val < k)).foldl (fun s j => s + bit (dir i j) c * (1024 / 2 ^ j.val)) 0
/-- The first row given away in round `k`. -/
def give (k : Fin 3) (i : Fin 8) (c : Dev nD) : Nat := lo k.val i c + (1 - bit (dir i k) c) * (1024 / 2 ^ k.val)
/-- The first row of copy `t`. -/
def cpLo : Fin 4 → Fin 8 → Dev nD → Nat
  | 0 => lo 3 | 1 => give 2 | 2 => give 1 | 3 => give 0

theorem giveOff_eq : ∀ k i c a, giveOff k i c a = ![give k i c, 0] a := by decide +kernel
theorem keepOff_eq : ∀ i c a, keepOff i c a = ![lo 3 i c, 0] a := by decide +kernel
theorem rv10Off_eq : ∀ i c a, rv10Off i c a = ![give 1 i c - lo 1 i c, 0] a := by decide +kernel
theorem rv20Off_eq : ∀ i c a, rv20Off i c a = ![give 2 i c - lo 1 i c, 0] a := by decide +kernel
theorem rv21Off_eq : ∀ i c a, rv21Off i c a = ![give 2 i c - lo 2 i c, 0] a := by decide +kernel
theorem rvOff_eq : ∀ k i c a, rvOff k i c a = ![lo 3 i c - lo (k.val + 1) i c, 0] a := by decide +kernel
theorem agOff_eq : ∀ t i c a, agOff t i c a = ![lo (3 - t.val) i c, 0] a := by decide +kernel
theorem cpOff_eq : ∀ t i c a, cpOff t i c a = ![cpLo t i c, 0] a := by decide +kernel
theorem outOff_eq : ∀ t i c a, outOff t i c a = ![cpLo t i c, 256 * i.val] a := by decide +kernel

theorem give_inb : ∀ k i c a, giveOff k i c a + (hs k).size a ≤ S2048x256.size a := by decide +kernel
theorem keep_inb : ∀ i c a, keepOff i c a + S256x256.size a ≤ S2048x256.size a := by decide +kernel
theorem rv10_inb : ∀ i c a, rv10Off i c a + (hs 1).size a ≤ (hs 0).size a := by decide +kernel
theorem rv20_inb : ∀ i c a, rv20Off i c a + (hs 2).size a ≤ (hs 0).size a := by decide +kernel
theorem rv21_inb : ∀ i c a, rv21Off i c a + (hs 2).size a ≤ (hs 1).size a := by decide +kernel
theorem rv_inb : ∀ k i c a, rvOff k i c a + S256x256.size a ≤ (hs k).size a := by decide +kernel
theorem ag_inb : ∀ t i c a, agOff t i c a + (ags t).size a ≤ S2048x256.size a := by decide +kernel
theorem cp_inb : ∀ t i c a, cpOff t i c a + (cps t).size a ≤ S2048x256.size a := by decide +kernel
theorem out_inb : ∀ t i c a, outOff t i c a + (cps t).size a ≤ S2048x2048.size a := by decide +kernel
theorem col_inb : ∀ (i : Fin 8) (a), (![0, 256 * i.val] : Fin 2 → Nat) a + S256x256.size a ≤ S256x2048.size a := by decide
theorem whole_inb : ∀ (k : Fin 3) (a), (![0, 0] : Fin 2 → Nat) a + (hs k).size a ≤ (hs k).size a := by decide

theorem ag_words : ∀ t i c, (Rect.unit (s := S2048x256) (agOff t i c) (ags t).size (ag_inb t i c)).WholeWords (EltTy.packing .bf16) := by decide +kernel
theorem cp_words : ∀ t i c, (Rect.unit (s := S2048x256) (cpOff t i c) (cps t).size (cp_inb t i c)).WholeWords (EltTy.packing .bf16) := by decide +kernel
theorem out_words : ∀ t i c, (Rect.unit (s := S2048x2048) (outOff t i c) (cps t).size (out_inb t i c)).WholeWords (EltTy.packing .bf16) := by decide +kernel
theorem keep_packed : ∀ i c, (Rect.unit (s := S2048x256) (keepOff i c) S256x256.size (keep_inb i c)).PackedRows (EltTy.packing .bf16) := by decide +kernel
theorem whole_packed : ∀ k, (Rect.unit (s := hs k) ![0, 0] (hs k).size (whole_inb k)).PackedRows (EltTy.packing .bf16) := by decide +kernel
theorem hs_pos : ∀ k, 0 < (hs k).numel := by decide

end Cert.KernelIdeal.Hand

end
-- ==== Proof.Body.lean ====
module

public import proofs.«01_k».proof.Proof.Program

/-! # The body, written once for a part -/

@[expose] public section

noncomputable section

namespace Cert.KernelIdeal.Hand

open Idealize.ShloMosaic Idealize.ShloMosaic.TcCoe
open Idealize.SL Idealize.SL.Sem
open Cert.KernelIdeal.Gen

variable {F : FTy → Type} [FloatOps F]

variable (F) in
abbrev P (α : Type) := Prog (TpuEff nD τ sig (Elt F) Λ₀ .tc) α

abbrev xH : Memref sig .tc .hbm S2048x256 .f32 := Memref.whole main_arg0
abbrev wH : Memref sig .tc .hbm S256x2048 .f32 := Memref.whole main_arg1
abbrev outM : Memref sig .tc .hbm S2048x2048 .bf16 := Memref.whole main_v1
abbrev x32 : Memref sig .tc .vmem S2048x256 .f32 := Memref.whole cc0_scratch0
abbrev w32 : Memref sig .tc .vmem S256x2048 .f32 := Memref.whole cc0_scratch1
abbrev xM : Memref sig .tc .vmem S2048x256 .bf16 := Memref.whole cc0_scratch2
abbrev wM : Memref sig .tc .vmem S256x2048 .bf16 := Memref.whole cc0_scratch3
def inSem0 : DmaSem sig := ((cc0_scratch62.slice (Rect.unit (s := S2) ![0] S1.size inb_S2_S1_0)).squeeze S_ squeezes_S1_S_).sem
def inSem1 : DmaSem sig := ((cc0_scratch62.slice (Rect.unit (s := S2) ![1] S1.size inb_S2_S1_1)).squeeze S_ squeezes_S1_S_).sem

theorem sb_whole : ∀ i k, (sbM i k).IsWhole
  | 0, 0 | 0, 1 | 0, 2 | 1, 0 | 1, 1 | 1, 2 | 2, 0 | 2, 1 | 2, 2 | 3, 0 | 3, 1 | 3, 2
  | 4, 0 | 4, 1 | 4, 2 | 5, 0 | 5, 1 | 5, 2 | 6, 0 | 6, 1 | 6, 2 | 7, 0 | 7, 1 | 7, 2 => Memref.isWhole_whole _
theorem rv_whole : ∀ i k, (rvM i k).IsWhole
  | 0, 0 | 0, 1 | 0, 2 | 1, 0 | 1, 1 | 1, 2 | 2, 0 | 2, 1 | 2, 2 | 3, 0 | 3, 1 | 3, 2
  | 4, 0 | 4, 1 | 4, 2 | 5, 0 | 5, 1 | 5, 2 | 6, 0 | 6, 1 | 6, 2 | 7, 0 | 7, 1 | 7, 2 => Memref.isWhole_whole _
theorem ag_whole : ∀ i, (agM i).IsWhole
  | 0 | 1 | 2 | 3 | 4 | 5 | 6 | 7 => Memref.isWhole_whole _

/-- Part `i`'s slice of the gathered block sent in doubling round `t`. -/
abbrev agS (t : Fin 3) (i : Fin 8) (c : Dev nD) : Memref sig .tc .vmem (ags t) .bf16 :=
  (agM i).slice (Rect.unit (s := S2048x256) (agOff t i c) (ags t).size (ag_inb t i c)) (fun _ => rfl)
/-- Its slice copied out in copy `t`, and where in the result. -/
abbrev cpS (t : Fin 4) (i : Fin 8) (c : Dev nD) : Memref sig .tc .vmem (cps t) .bf16 :=
  (agM i).slice (Rect.unit (s := S2048x256) (cpOff t i c) (cps t).size (cp_inb t i c)) (fun _ => rfl)
abbrev outS (t : Fin 4) (i : Fin 8) (c : Dev nD) : Memref sig .tc .hbm (cps t) .bf16 :=
  outM.slice (Rect.unit (s := S2048x2048) (outOff t i c) (cps t).size (out_inb t i c)) (fun _ => rfl)

/-! ## Values -/

/-- A block of rows of `x` times a block of columns of `w`, from zero. -/
def pDot : (k : Fin 3) → Vec F (hs k) .bf16 → Vec F S256x256 .bf16 → FVec F (hs k) .f32
  | 0 => k0_pay3 | 1 => k0_pay19 | 2 => k0_pay35

/-! ## The pieces -/

/-- One product of round `k`. -/
def dot1 (c : Dev nD) (k : Fin 3) (i : Fin 8) : P F (FVec F (hs k) .f32) := do
  let a : Vec F (hs k) .bf16 ← Prog.lift (.load xM (Rect.unit (s := S2048x256) (giveOff k i c) (hs k).size (give_inb k i c)).toLoadRect (View.loadsAt_vmem (hs_pos k)))
  let b : Vec F S256x256 .bf16 ← Prog.lift (.load wM (Rect.unit (s := S256x2048) ![0, 256 * i.val] S256x256.size (col_inb i)).toLoadRect (View.loadsAt_vmem h_S256x256))
  pure (pDot k a b)

/-- The eight products of round `k`. -/
def dots (c : Dev nD) (k : Fin 3) : P F (Fin 8 → FVec F (hs k) .f32) := do
  let v0 ← dot1 c k 0
  let v1 ← dot1 c k 1
  let v2 ← dot1 c k 2
  let v3 ← dot1 c k 3
  let v4 ← dot1 c k 4
  let v5 ← dot1 c k 5
  let v6 ← dot1 c k 6
  let v7 ← dot1 c k 7
  pure (fun | 0 => v0 | 1 => v1 | 2 => v2 | 3 => v3 | 4 => v4 | 5 => v5 | 6 => v6 | 7 => v7)

/-- For each part in turn. -/
def each (f : Fin 8 → P F PUnit) : P F PUnit := do
  f 0; f 1; f 2; f 3; f 4; f 5; f 6; f 7

/-- Store `v` in the staging buffer of round `k` and send it to the partner. -/
def put (c : Dev nD) (k : Fin 3) (i : Fin 8) (v : FVec F (hs k) .bf16) : P F PUnit := do
  let _ : Vec F (hs k) .bf16 ← Prog.lift (.load (sbM i k) (Rect.unit (s := hs k) ![0, 0] (hs k).size (whole_inb k)).toLoadRect (View.loadsAt_vmem (hs_pos k)))
  Prog.lift (.store (sbM i k) (Rect.unit (s := hs k) ![0, 0] (hs k).size (whole_inb k)) v Finset.univ
    (View.stores_vmem (hs_pos k) ((sb_whole i k).storeExact_slice rfl _ (whole_packed k)) (fun _ => rfl)) (.inl rfl))
  Prog.lift (.enqueueDma (sbM i k) (.remote (Dev.tc (across (dir i k) c)) (rvM i k) (.dma (sendSem i (k.castLE (by decide))))) (.dma (recvSem i (k.castLE (by decide))))
    (sb_whole i k).wordExact (rv_whole i k).wordExact ⟨⟨rfl, Or.inl rfl⟩, trivial⟩)

/-- Wait for the block of round `k`. -/
def get (k : Fin 3) (i : Fin 8) : P F PUnit :=
  Prog.lift (.waitDma2 (recvSem i (k.castLE (by decide))) (sbM i k) (rvM i k) (sb_whole i k).wordExact (rv_whole i k).wordExact)

def rs0 (c : Dev nD) (v : Fin 8 → FVec F (hs 0) .f32) (i : Fin 8) : P F PUnit := put c 0 i (k0_pay11 (v i))

def rs1 (c : Dev nD) (v : Fin 8 → FVec F (hs 1) .f32) (i : Fin 8) : P F PUnit := do
  get 0 i
  let a : Vec F (hs 1) .bf16 ← Prog.lift (.load (rvM i 0) (Rect.unit (s := hs 0) (rv10Off i c) (hs 1).size (rv10_inb i c)).toLoadRect (View.loadsAt_vmem (hs_pos 1)))
  put c 1 i (k0_pay27 (v i) a)

def rs2 (c : Dev nD) (v : Fin 8 → FVec F (hs 2) .f32) (i : Fin 8) : P F PUnit := do
  get 1 i
  let a : Vec F (hs 2) .bf16 ← Prog.lift (.load (rvM i 0) (Rect.unit (s := hs 0) (rv20Off i c) (hs 2).size (rv20_inb i c)).toLoadRect (View.loadsAt_vmem (hs_pos 2)))
  let b : Vec F (hs 2) .bf16 ← Prog.lift (.load (rvM i 1) (Rect.unit (s := hs 1) (rv21Off i c) (hs 2).size (rv21_inb i c)).toLoadRect (View.loadsAt_vmem (hs_pos 2)))
  put c 2 i (k0_pay43 (v i) a b)

/-- Send the gathered rows of round `t` to the partner. -/
def give1 (c : Dev nD) (t : Fin 3) (i : Fin 8) : P F PUnit :=
  Prog.lift (.enqueueDma (agS t i c) (.remote (Dev.tc (across (dir i t.rev) c)) (agS t i c) (.dma (sendSem i (t.natAdd 3)))) (.dma (recvSem i (t.natAdd 3)))
    ((ag_whole i).wordExact_slice rfl _ (ag_words t i c)) ((ag_whole i).wordExact_slice rfl _ (ag_words t i c)) ⟨⟨rfl, Or.inl rfl⟩, trivial⟩)

/-- Wait for the partner's rows of round `t`. -/
def take1 (c : Dev nD) (t : Fin 3) (i : Fin 8) : P F PUnit :=
  Prog.lift (.waitDma2 (recvSem i (t.natAdd 3)) (agS t i c) (agS t i c)
    ((ag_whole i).wordExact_slice rfl _ (ag_words t i c)) ((ag_whole i).wordExact_slice rfl _ (ag_words t i c)))

/-- Copy the rows of copy `t` out. -/
def out1 (c : Dev nD) (t : Fin 4) (i : Fin 8) : P F PUnit :=
  Prog.lift (.enqueueDma (cpS t i c) (.here (outS t i c)) (.dma (ioSem i t))
    ((ag_whole i).wordExact_slice rfl _ (cp_words t i c)) ((Memref.isWhole_whole _).wordExact_slice rfl _ (out_words t i c)) ⟨Or.inl rfl, trivial⟩)

def fin1 (c : Dev nD) (i : Fin 8) : P F PUnit := do
  get 2 i
  let x : Vec F S256x256 .bf16 ← Prog.lift (.load xM (Rect.unit (s := S2048x256) (keepOff i c) S256x256.size (keep_inb i c)).toLoadRect (View.loadsAt_vmem h_S256x256))
  let w : Vec F S256x256 .bf16 ← Prog.lift (.load wM (Rect.unit (s := S256x2048) ![0, 256 * i.val] S256x256.size (col_inb i)).toLoadRect (View.loadsAt_vmem h_S256x256))
  let a : Vec F S256x256 .bf16 ← Prog.lift (.load (rvM i 0) (Rect.unit (s := hs 0) (rvOff 0 i c) S256x256.size (rv_inb 0 i c)).toLoadRect (View.loadsAt_vmem h_S256x256))
  let b : Vec F S256x256 .bf16 ← Prog.lift (.load (rvM i 1) (Rect.unit (s := hs 1) (rvOff 1 i c) S256x256.size (rv_inb 1 i c)).toLoadRect (View.loadsAt_vmem h_S256x256))
  let d : Vec F S256x256 .bf16 ← Prog.lift (.load (rvM i 2) (Rect.unit (s := hs 2) (rvOff 2 i c) S256x256.size (rv_inb 2 i c)).toLoadRect (View.loadsAt_vmem h_S256x256))
  let _ : Vec F S256x256 .bf16 ← Prog.lift (.load (agM i) (Rect.unit (s := S2048x256) (keepOff i c) S256x256.size (keep_inb i c)).toLoadRect (View.loadsAt_vmem h_S256x256))
  Prog.lift (.store (agM i) (Rect.unit (s := S2048x256) (keepOff i c) S256x256.size (keep_inb i c)) (k0_pay58 x w a b d) Finset.univ
    (View.stores_vmem h_S256x256 ((ag_whole i).storeExact_slice rfl _ (keep_packed i c)) (fun _ => rfl)) (.inl rfl))
  give1 c 0 i
  out1 c 0 i

def ag1 (c : Dev nD) (i : Fin 8) : P F PUnit := do take1 c 0 i; give1 c 1 i; out1 c 1 i
def ag2 (c : Dev nD) (i : Fin 8) : P F PUnit := do take1 c 1 i; give1 c 2 i; out1 c 2 i
def ag3 (c : Dev nD) (i : Fin 8) : P F PUnit := do take1 c 2 i; out1 c 3 i

/-- Wait for copy `t` of part `i`. -/
def outW (c : Dev nD) (t : Fin 4) (i : Fin 8) : P F PUnit :=
  Prog.lift (.waitDma2 (ioSem i t) (cpS t i c) (outS t i c)
    ((ag_whole i).wordExact_slice rfl _ (cp_words t i c)) ((Memref.isWhole_whole _).wordExact_slice rfl _ (out_words t i c)))

/-- Wait until part `i`'s block of halving round `k` has left. -/
def leftW (k : Fin 3) (i : Fin 8) : P F PUnit :=
  Prog.lift (.waitDma2 (sendSem i (k.castLE (by decide))) (rvM i k) (sbM i k) (rv_whole i k).wordExact (sb_whole i k).wordExact)
/-- Wait until part `i`'s rows of doubling round `t` have left. -/
def goneW (c : Dev nD) (t : Fin 3) (i : Fin 8) : P F PUnit :=
  Prog.lift (.waitDma2 (sendSem i (t.natAdd 3)) (agS t i c) (agS t i c)
    ((ag_whole i).wordExact_slice rfl _ (ag_words t i c)) ((ag_whole i).wordExact_slice rfl _ (ag_words t i c)))

def doneW (c : Dev nD) (i : Fin 8) : P F PUnit := do
  leftW 0 i; leftW 1 i; leftW 2 i; goneW c 0 i; goneW c 1 i; goneW c 2 i

abbrev bar : Sem sig := (SemArray.scalar (sig.barrier 0 rfl) : Sems sig S_).sem

/-- Load the two inputs and meet the three partners. -/
def start (c : Dev nD) : P F PUnit := do
  Prog.lift (.enqueueDma xH (.here x32) (.dma inSem0) (Memref.isWhole_whole _).wordExact (Memref.isWhole_whole _).wordExact ⟨Or.inl rfl, trivial⟩)
  Prog.lift (.enqueueDma wH (.here w32) (.dma inSem1) (Memref.isWhole_whole _).wordExact (Memref.isWhole_whole _).wordExact ⟨Or.inl rfl, trivial⟩)
  semSignalWord (across 0 c) bar 1#32
  semSignalWord (across 1 c) bar 1#32
  semSignalWord (across 2 c) bar 1#32
  semWaitWord bar 3#32
  Prog.lift (.waitDma2 inSem0 xH x32 (Memref.isWhole_whole _).wordExact (Memref.isWhole_whole _).wordExact)
  Prog.lift (.waitDma2 inSem1 wH w32 (Memref.isWhole_whole _).wordExact (Memref.isWhole_whole _).wordExact)
  let x : Vec F S2048x256 .f32 ← Prog.lift (.load x32 (Rect.unit (s := S2048x256) ![0, 0] S2048x256.size inb_S2048x256_S2048x256_0_0).toLoadRect (View.loadsAt_vmem h_S2048x256))
  let _ : Vec F S2048x256 .bf16 ← Prog.lift (.load xM (Rect.unit (s := S2048x256) ![0, 0] S2048x256.size inb_S2048x256_S2048x256_0_0).toLoadRect (View.loadsAt_vmem h_S2048x256))
  Prog.lift (.store xM (Rect.unit (s := S2048x256) ![0, 0] S2048x256.size inb_S2048x256_S2048x256_0_0) (k0_pay1 x) Finset.univ
    (View.stores_vmem h_S2048x256 ((Memref.isWhole_whole _).storeExact_slice rfl _ packedbf16_S2048x256_S2048x256_0_0) (fun _ => rfl)) (.inl rfl))
  let w : Vec F S256x2048 .f32 ← Prog.lift (.load w32 (Rect.unit (s := S256x2048) ![0, 0] S256x2048.size inb_S256x2048_S256x2048_0_0).toLoadRect (View.loadsAt_vmem h_S256x2048))
  let _ : Vec F S256x2048 .bf16 ← Prog.lift (.load wM (Rect.unit (s := S256x2048) ![0, 0] S256x2048.size inb_S256x2048_S256x2048_0_0).toLoadRect (View.loadsAt_vmem h_S256x2048))
  Prog.lift (.store wM (Rect.unit (s := S256x2048) ![0, 0] S256x2048.size inb_S256x2048_S256x2048_0_0) (k0_pay2 w) Finset.univ
    (View.stores_vmem h_S256x2048 ((Memref.isWhole_whole _).storeExact_slice rfl _ packedbf16_S256x2048_S256x2048_0_0) (fun _ => rfl)) (.inl rfl))

/-- The whole body at device `c`. -/
def bodyAt (c : Dev nD) : P F PUnit := do
  start c
  let v0 ← dots c 0
  each (rs0 c v0)
  let v1 ← dots c 1
  each (rs1 c v1)
  let v2 ← dots c 2
  each (rs2 c v2)
  each (fin1 c)
  each (ag1 c)
  each (ag2 c)
  each (ag3 c)
  each (outW c 0)
  each (outW c 1)
  each (outW c 2)
  each (outW c 3)
  each (doneW c)

end Cert.KernelIdeal.Hand

end
-- ==== Proof.Values.lean ====
module

public import proofs.«01_k».proof.Proof.Body

/-! # What every buffer holds

The contents the body leaves in each buffer, over any floats: what a part sends in each halving round,
what it receives, the block of sums a device finishes with, and the gathered columns every device ends with. -/

@[expose] public section

noncomputable section

namespace Cert.KernelIdeal.Hand

open Idealize.ShloMosaic Idealize.ShloMosaic.TcCoe
open Idealize.SL Idealize.SL.Sem
open Cert.KernelIdeal.Gen

variable {F : FTy → Type} [FloatOps F]

/-! ## Where the rows are -/

theorem across_across : ∀ d c, across d (across d c) = c := by decide +kernel
/-- The rows a partner keeps are the rows given to it. -/
theorem keep_partner : ∀ (t : Fin 3) i c, lo (3 - t.val) i (across (dir i t.rev) c) = give t.rev i c := by decide +kernel
/-- Two neighbouring blocks make the block of the next round. -/
theorem keep_step : ∀ (t : Fin 3) i c,
    (lo (2 - t.val) i c = lo (3 - t.val) i c ∧ give t.rev i c = lo (3 - t.val) i c + 256 * 2 ^ t.val)
      ∨ (lo (2 - t.val) i c = give t.rev i c ∧ lo (3 - t.val) i c = give t.rev i c + 256 * 2 ^ t.val) := by decide +kernel
theorem lo_zero : ∀ i c, lo 0 i c = 0 := by decide +kernel
/-- The device that sums block `b` of part `i`. -/
def owner (i : Fin 8) (b : Fin 8) : Dev nD := ((List.finRange 8).find? fun c => lo 3 i c = 256 * b.val).getD 0
theorem lo_lt : ∀ i c, lo 3 i c / 256 < 8 := by decide +kernel
theorem lo_mul : ∀ i c, lo 3 i c = 256 * (lo 3 i c / 256) := by decide +kernel
theorem owner_lo : ∀ i c, owner i ⟨lo 3 i c / 256, lo_lt i c⟩ = c := by decide +kernel
theorem lo_owner : ∀ i b, lo 3 i (owner i b) = 256 * b.val := by decide +kernel
/-- The four copies of a part tile the rows: they do not meet, -/
theorem cp_apart : ∀ (t t' : Fin 4) i c, t ≠ t' →
    cpLo t i c + 256 * 2 ^ (t.val - 1) ≤ cpLo t' i c ∨ cpLo t' i c + 256 * 2 ^ (t'.val - 1) ≤ cpLo t i c := by decide +kernel
/-- and every block of rows is in one. -/
theorem cp_cover : ∀ i c (b : Fin 8), ∃ t : Fin 4, cpLo t i c ≤ 256 * b.val ∧ 256 * b.val + 256 ≤ cpLo t i c + 256 * 2 ^ (t.val - 1) := by decide +kernel

/-! ## The rectangles -/

abbrev giveR (k : Fin 3) (i : Fin 8) (c : Dev nD) : Rect S2048x256 := Rect.unit (giveOff k i c) (hs k).size (give_inb k i c)
abbrev colR (i : Fin 8) : Rect S256x2048 := Rect.unit ![0, 256 * i.val] S256x256.size (col_inb i)
abbrev keepR (i : Fin 8) (c : Dev nD) : Rect S2048x256 := Rect.unit (keepOff i c) S256x256.size (keep_inb i c)
abbrev rv10R (i : Fin 8) (c : Dev nD) : Rect (hs 0) := Rect.unit (rv10Off i c) (hs 1).size (rv10_inb i c)
abbrev rv20R (i : Fin 8) (c : Dev nD) : Rect (hs 0) := Rect.unit (rv20Off i c) (hs 2).size (rv20_inb i c)
abbrev rv21R (i : Fin 8) (c : Dev nD) : Rect (hs 1) := Rect.unit (rv21Off i c) (hs 2).size (rv21_inb i c)
abbrev rvR (k : Fin 3) (i : Fin 8) (c : Dev nD) : Rect (hs k) := Rect.unit (rvOff k i c) S256x256.size (rv_inb k i c)
abbrev agR (t : Fin 3) (i : Fin 8) (c : Dev nD) : Rect S2048x256 := Rect.unit (agOff t i c) (ags t).size (ag_inb t i c)
abbrev cpR (t : Fin 4) (i : Fin 8) (c : Dev nD) : Rect S2048x256 := Rect.unit (cpOff t i c) (cps t).size (cp_inb t i c)
abbrev outR (t : Fin 4) (i : Fin 8) (c : Dev nD) : Rect S2048x2048 := Rect.unit (outOff t i c) (cps t).size (out_inb t i c)

/-- What a rectangle reads. -/
abbrev cut {s : Shape} {α : Type} (r : Rect s) (v : s.Idx → α) : r.shape.Idx → α := fun j => v (r.emb j)

/-! ## The contents -/

variable (m : (ℓ : Loc nD τ sig) → Buf (Elt F) ℓ)

def xin (c : Dev nD) : Vec F S2048x256 .f32 := m ((c : Thread nD τ).loc main_arg0)
def win (c : Dev nD) : Vec F S256x2048 .f32 := m ((c : Thread nD τ).loc main_arg1)
def xb (c : Dev nD) : Vec F S2048x256 .bf16 := k0_pay1 (xin m c)
def wb (c : Dev nD) : Vec F S256x2048 .bf16 := k0_pay2 (win m c)

/-- Round `k`'s product of the rows given away. -/
def prod (k : Fin 3) (c : Dev nD) (i : Fin 8) : FVec F (hs k) .f32 := pDot k (cut (giveR k i c) (xb m c)) (cut (colR i) (wb m c))

/-- What device `c` sends in the three halving rounds. -/
def sent0 (c : Dev nD) (i : Fin 8) : Vec F (hs 0) .bf16 := k0_pay11 (prod m 0 c i)
def sent1 (c : Dev nD) (i : Fin 8) : Vec F (hs 1) .bf16 :=
  k0_pay27 (prod m 1 c i) (cut (rv10R i c) (sent0 m (across (dir i 0) c) i))
def sent2 (c : Dev nD) (i : Fin 8) : Vec F (hs 2) .bf16 :=
  k0_pay43 (prod m 2 c i) (cut (rv20R i c) (sent0 m (across (dir i 0) c) i)) (cut (rv21R i c) (sent1 m (across (dir i 1) c) i))
def sent : (k : Fin 3) → Dev nD → (i : Fin 8) → Vec F (hs k) .bf16
  | 0 => sent0 m | 1 => sent1 m | 2 => sent2 m
/-- What it receives. -/
def got (k : Fin 3) (c : Dev nD) (i : Fin 8) : Vec F (hs k) .bf16 := sent m k (across (dir i k) c) i

/-- The block of sums it finishes with. -/
def fin (c : Dev nD) (i : Fin 8) : Vec F S256x256 .bf16 :=
  k0_pay58 (cut (keepR i c) (xb m c)) (cut (colR i) (wb m c)) (cut (rvR 0 i c) (got m 0 c i)) (cut (rvR 1 i c) (got m 1 c i)) (cut (rvR 2 i c) (got m 2 c i))

abbrev pair {d : Fin 2 → Nat} (a b : Nat) (ha : a < d 0) (hb : b < d 1) : (⟨2, d⟩ : Shape).Idx
  | 0 => ⟨a, ha⟩ | 1 => ⟨b, hb⟩

/-- Part `i`'s columns, gathered: the same on every device. -/
def cols (i : Fin 8) : Vec F S2048x256 .bf16 := fun j =>
  fin m (owner i ⟨(j 0).val / 256, by have : (j 0).val < 2048 := (j 0).isLt; omega⟩) i
    (pair ((j 0).val % 256) (j 1).val (Nat.mod_lt _ (by decide)) (j 1).isLt)
/-- The result: the same on every device. -/
def res : Vec F S2048x2048 .bf16 := fun j =>
  cols m ⟨(j 1).val / 256, by have : (j 1).val < 2048 := (j 1).isLt; omega⟩ (pair (j 0).val ((j 1).val % 256) (j 0).isLt (Nat.mod_lt _ (by decide)))

/-- Buffer contents that read as part `i`'s columns. -/
def agC (i : Fin 8) : (agM i).view.ty.Contents (Elt F) := (agM i).view.write (Elt F) (fun _ => Classical.arbitrary _) (cols m i) Finset.univ
theorem read_agC (i : Fin 8) : (agM i).view.read (Elt F) (agC m i) = cols m i := View.read_write_univ _ _

/-! ## Regions of the gathered block and of the result -/

/-- The rows `[a, a + n)`. -/
def rows (a n : Nat) : Finset S2048x256.Idx := Finset.univ.filter fun j => a ≤ (j 0).val ∧ (j 0).val < a + n
def agSet (i : Fin 8) (a n : Nat) : Finset (agM i).view.ty.Idx := (rows a n).map (agM i).view.emb

theorem set_rows {off : Fin 2 → Nat} {n a : Nat} {inb : ∀ x, off x + (⟨2, ![n, 256]⟩ : Shape).size x ≤ S2048x256.size x} (h : ∀ x, off x = ![a, 0] x) :
    (Rect.unit (s := S2048x256) off (⟨2, ![n, 256]⟩ : Shape).size inb).set = rows a n := by
  ext j
  rw [Rect.mem_set_unit, rows, Finset.mem_filter]
  have h0 := h 0; have h1 := h 1
  simp only [Matrix.cons_val_zero, Matrix.cons_val_one] at h0 h1
  have hj : (j 1).val < 256 := (j 1).isLt
  constructor
  · intro H
    have := H 0
    exact ⟨Finset.mem_univ _, by rw [← h0]; exact this.1, by have := this.2; rw [h0] at this; exact this⟩
  · rintro ⟨-, h2, h3⟩
    refine Fin.forall_fin_two.mpr ⟨⟨by rw [h0]; exact h2, by rw [h0]; exact h3⟩, ⟨by rw [h1]; exact Nat.zero_le _, by rw [h1]; show (j 1).val < 0 + 256; omega⟩⟩

theorem agS_set (t : Fin 3) (i : Fin 8) (c : Dev nD) : (agS t i c).view.set = agSet i (lo (3 - t.val) i c) (256 * 2 ^ t.val) := by
  show ((agM i).view.slice (agR t i c)).set = _
  rw [View.set_slice, agSet, set_rows (agOff_eq t i c)]
theorem cpS_set (t : Fin 4) (i : Fin 8) (c : Dev nD) : (cpS t i c).view.set = agSet i (cpLo t i c) (256 * 2 ^ (t.val - 1)) := by
  show ((agM i).view.slice (cpR t i c)).set = _
  rw [View.set_slice, agSet, set_rows (cpOff_eq t i c)]
theorem keep_set (i : Fin 8) (c : Dev nD) : ((agM i).view.slice (keepR i c)).set = agSet i (lo 3 i c) 256 := by
  rw [View.set_slice, agSet, set_rows (keepOff_eq i c)]

theorem agSet_disjoint {i : Fin 8} {a n a' n' : Nat} (h : a + n ≤ a' ∨ a' + n' ≤ a) : Disjoint (agSet i a n) (agSet i a' n') := by
  unfold agSet
  rw [Finset.disjoint_map, Finset.disjoint_left]
  intro j hj hj'
  simp only [rows, Finset.mem_filter, Finset.mem_univ, true_and] at hj hj'
  omega
theorem agSet_union {i : Fin 8} {a n : Nat} : agSet i a n ∪ agSet i (a + n) n = agSet i a (n * 2) := by
  unfold agSet
  rw [← Finset.map_union]
  congr 1
  ext j
  simp only [rows, Finset.mem_filter, Finset.mem_univ, true_and, Finset.mem_union]
  omega
theorem rows_all : rows 0 2048 = Finset.univ := by
  refine Finset.filter_true_of_mem fun j _ => ?_
  have : (j 0).val < 2048 := (j 0).isLt
  exact ⟨Nat.zero_le _, by rw [Nat.zero_add]; exact this⟩
theorem agSet_all (i : Fin 8) : agSet i 0 2048 = (agM i).view.set := by
  rw [agSet, rows_all, View.set]
/-- A kept block and the block received beside it are the block kept next. -/
theorem agSet_step (t : Fin 3) (i : Fin 8) (c : Dev nD) :
    agSet i (lo (3 - t.val) i c) (256 * 2 ^ t.val) ∪ agSet i (give t.rev i c) (256 * 2 ^ t.val) = agSet i (lo (2 - t.val) i c) (256 * 2 ^ (t.val + 1)) := by
  rw [pow_succ, ← mul_assoc]
  rcases keep_step t i c with ⟨h1, h2⟩ | ⟨h1, h2⟩
  · rw [h2, agSet_union, h1]
  · rw [h2, Finset.union_comm, agSet_union, h1]
theorem agSet_apart (t : Fin 3) (i : Fin 8) (c : Dev nD) :
    Disjoint (agSet i (lo (3 - t.val) i c) (256 * 2 ^ t.val)) (agSet i (give t.rev i c) (256 * 2 ^ t.val)) := by
  refine agSet_disjoint ?_
  rcases keep_step t i c with ⟨h1, h2⟩ | ⟨h1, h2⟩ <;> omega

/-- The block of the result copy `t` of part `i` writes. -/
def outSet (t : Fin 4) (i : Fin 8) (c : Dev nD) : Finset S2048x2048.Idx := (outR t i c).set
theorem mem_outSet {t : Fin 4} {i : Fin 8} {c : Dev nD} {j : S2048x2048.Idx} :
    j ∈ outSet t i c ↔ (cpLo t i c ≤ (j 0).val ∧ (j 0).val < cpLo t i c + 256 * 2 ^ (t.val - 1)) ∧ (256 * i.val ≤ (j 1).val ∧ (j 1).val < 256 * i.val + 256) := by
  unfold outSet
  rw [Rect.mem_set_unit]
  have h0 : outOff t i c 0 = cpLo t i c := outOff_eq t i c 0
  have h1 : outOff t i c 1 = 256 * i.val := outOff_eq t i c 1
  constructor
  · intro H
    have a := H 0; have b := H 1
    rw [h0] at a; rw [h1] at b
    exact ⟨a, b⟩
  · rintro ⟨a, b⟩
    exact Fin.forall_fin_two.mpr ⟨by rw [h0]; exact a, by rw [h1]; exact b⟩
theorem outS_set (t : Fin 4) (i : Fin 8) (c : Dev nD) : (outS t i c).view.set = outSet t i c := View.set_slice_whole _ _

theorem outSet_disjoint (c : Dev nD) (x y : Fin 8 × Fin 4) (h : x ≠ y) : Disjoint (outSet x.2 x.1 c) (outSet y.2 y.1 c) := by
  rw [Finset.disjoint_left]
  intro j hj hj'
  rw [mem_outSet] at hj hj'
  by_cases hi : x.1 = y.1
  · have ht : x.2 ≠ y.2 := fun e => h (Prod.ext hi e)
    have := cp_apart x.2 y.2 x.1 c ht
    rw [← hi] at hj'
    omega
  · have : x.1.val ≠ y.1.val := fun e => hi (Fin.ext e)
    omega
theorem outSet_cover (c : Dev nD) : (Finset.univ : Finset (Fin 8 × Fin 4)).biUnion (fun x => outSet x.2 x.1 c) = Finset.univ := by
  ext j
  simp only [Finset.mem_biUnion, Finset.mem_univ, true_and, iff_true]
  have h0 : (j 0).val < 2048 := (j 0).isLt
  have h1 : (j 1).val < 2048 := (j 1).isLt
  obtain ⟨t, ht1, ht2⟩ := cp_cover ⟨(j 1).val / 256, by omega⟩ c ⟨(j 0).val / 256, by omega⟩
  refine ⟨(⟨(j 1).val / 256, by omega⟩, t), mem_outSet.mpr ⟨⟨?_, ?_⟩, ?_, ?_⟩⟩ <;> dsimp only at ht1 ht2 ⊢ <;> omega

/-! ## What lands where -/

/-- The block of sums stored in the gathered block reads as the columns do. -/
theorem fin_cols (c : Dev nD) (i : Fin 8) (j : (keepR i c).shape.Idx) : fin m c i j = cols m i ((keepR i c).emb j) := by
  have h0 : (((keepR i c).emb j) 0).val = lo 3 i c + (j 0).val := by
    show keepOff i c 0 + 1 * (j 0).val = _
    rw [show keepOff i c 0 = lo 3 i c from keepOff_eq i c 0, Nat.one_mul]
  have h1 : (((keepR i c).emb j) 1).val = (j 1).val := by
    show keepOff i c 1 + 1 * (j 1).val = _
    rw [show keepOff i c 1 = 0 from keepOff_eq i c 1, Nat.one_mul, Nat.zero_add]
  have hj : (j 0).val < 256 := (j 0).isLt
  have hm := lo_mul i c
  unfold cols
  have ho : owner i ⟨(((keepR i c).emb j) 0).val / 256, by have : (((keepR i c).emb j) 0).val < 2048 := (((keepR i c).emb j) 0).isLt; omega⟩ = c := by
    refine Eq.trans (congrArg (owner i) (Fin.ext ?_)) (owner_lo i c)
    show _ / 256 = _ / 256
    omega
  rw [ho]
  refine congrArg (fin m c i) (funext (Fin.forall_fin_two.mpr ⟨Fin.ext ?_, Fin.ext ?_⟩))
  · show (j 0).val = _ % 256
    omega
  · exact h1.symm

/-- What a copy reads of the columns is what the result has there. -/
theorem cols_res (t : Fin 4) (i : Fin 8) (c : Dev nD) (x : (cps t).Idx) : cols m i ((cpR t i c).emb x) = res m ((outR t i c).emb x) := by
  have a0 : (((cpR t i c).emb x) 0).val = cpLo t i c + (x 0).val := by
    show cpOff t i c 0 + 1 * (x 0).val = _
    rw [show cpOff t i c 0 = cpLo t i c from cpOff_eq t i c 0, Nat.one_mul]
  have a1 : (((cpR t i c).emb x) 1).val = (x 1).val := by
    show cpOff t i c 1 + 1 * (x 1).val = _
    rw [show cpOff t i c 1 = 0 from cpOff_eq t i c 1, Nat.one_mul, Nat.zero_add]
  have b0 : (((outR t i c).emb x) 0).val = cpLo t i c + (x 0).val := by
    show outOff t i c 0 + 1 * (x 0).val = _
    rw [show outOff t i c 0 = cpLo t i c from outOff_eq t i c 0, Nat.one_mul]
  have b1 : (((outR t i c).emb x) 1).val = 256 * i.val + (x 1).val := by
    show outOff t i c 1 + 1 * (x 1).val = _
    rw [show outOff t i c 1 = 256 * i.val from outOff_eq t i c 1, Nat.one_mul]
  have hx : (x 1).val < 256 := (x 1).isLt
  unfold res
  have hi : (⟨(((outR t i c).emb x) 1).val / 256, by have : (((outR t i c).emb x) 1).val < 2048 := (((outR t i c).emb x) 1).isLt; omega⟩ : Fin 8) = i :=
    Fin.ext (by show _ / 256 = _; omega)
  rw [hi]
  refine congrArg (cols m i) (funext (Fin.forall_fin_two.mpr ⟨Fin.ext ?_, Fin.ext ?_⟩))
  · show _ = (((outR t i c).emb x) 0).val; omega
  · show _ = (((outR t i c).emb x) 1).val % 256; omega

end Cert.KernelIdeal.Hand

end
-- ==== Proof.BodyEq.lean ====
module

public import proofs.«01_k».proof.Proof.Body

@[expose] public section

noncomputable section

namespace Cert.KernelIdeal.Hand

open Idealize.ShloMosaic Idealize.ShloMosaic.TcCoe
open Idealize.SL Idealize.SL.Sem
open Cert.KernelIdeal.Gen

variable {F : FTy → Type} [FloatOps F]

/-- Two programs that start with the same effect agree when what follows does. -/
theorem op_congr {E : Type → Type} {α β : Type} {e : E β} {k k' : β → Prog E α} (h : ∀ x, k x = k' x) :
    Prog.op e k = Prog.op e k' := congrArg _ (funext h)

set_option maxRecDepth 65536 in
set_option maxHeartbeats 4000000 in
/-- The printed body is this program at the device it reads. -/
theorem body_eq (t : Fin cfg0.N) : bodyAt0 (F := F) t = Prog.lift .deviceId >>= bodyAt := by
  repeat refine op_congr fun _ => ?_
  rfl

end Cert.KernelIdeal.Hand

end
-- ==== Proof.Sched.lean ====
module

public import proofs.«01_k».proof.Proof.Values
public import proofs.«01_k».proof.Proof.BodyEq
public import proofs.«01_k».proof.Proof.Gen.KernelIdeal.Launch
public import Idealize.ShloMosaic.Lib.Pipeline.Launch
public import Idealize.ShloMosaic.Lib.Pipeline.Kit
public import Idealize.ShloMosaic.Lib.Tactic
public import Mathlib.Algebra.BigOperators.Intervals

/-! # The cells, what each hands over, and what a device owes

Every semaphore is a cell used for one round. A part has sixteen: the departures and arrivals of its six
exchanges and its four copies. A device has two more for its inputs, and its barrier. -/

@[expose] public section

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The cells -/

/-- The kinds of a part's cells: departure and arrival of a halving round, of a doubling round, and a copy. -/
inductive Kp where
  | sh (k : Fin 3) | rh (k : Fin 3) | sg (t : Fin 3) | rg (t : Fin 3) | io (t : Fin 4)
deriving DecidableEq

def Kp.code : Kp ≃ (Fin 3 ⊕ Fin 3) ⊕ (Fin 3 ⊕ Fin 3) ⊕ Fin 4 where
  toFun | .sh k => .inl (.inl k) | .rh k => .inl (.inr k) | .sg t => .inr (.inl (.inl t)) | .rg t => .inr (.inl (.inr t)) | .io t => .inr (.inr t)
  invFun | .inl (.inl k) => .sh k | .inl (.inr k) => .rh k | .inr (.inl (.inl t)) => .sg t | .inr (.inl (.inr t)) => .rg t | .inr (.inr t) => .io t
  left_inv x := by cases x <;> rfl
  right_inv x := by rcases x with (_ | _) | (_ | _) | _ <;> rfl
instance : Fintype Kp := Fintype.ofEquiv _ Kp.code.symm

abbrev Own : Type := (Fin 8 × Kp) ⊕ Fin 2
/-- A device's cells; the last is its barrier. -/
abbrev J : Type := Own ⊕ Unit

def partSem (i : Fin 8) : Kp → DmaSem sig
  | .sh k => sendSem i (k.castLE (by decide)) | .rh k => recvSem i (k.castLE (by decide))
  | .sg t => sendSem i (t.natAdd 3) | .rg t => recvSem i (t.natAdd 3) | .io t => ioSem i t
def inSem : Fin 2 → DmaSem sig | 0 => inSem0 | 1 => inSem1
def ownSem : Own → SemLoc sig
  | .inl (i, κ) => .dma (partSem i κ)
  | .inr a => .dma (inSem a)
def semOf : J → SemLoc sig
  | .inl o => ownSem o
  | .inr () => .reg bar

/-- Which cell a semaphore is. -/
def decode : SemLoc sig → Option J
  | .reg _ => some (.inr ())
  | .dma s =>
    let v := s.val
    if v < 48 then
      some (.inl (.inl (⟨v / 6 % 8, Nat.mod_lt _ (by decide)⟩,
        if v % 6 < 3 then .sh ⟨v % 6 % 3, Nat.mod_lt _ (by decide)⟩ else .sg ⟨v % 6 % 3, Nat.mod_lt _ (by decide)⟩)))
    else if v < 96 then
      some (.inl (.inl (⟨v / 6 % 8, Nat.mod_lt _ (by decide)⟩,
        if v % 6 < 3 then .rh ⟨v % 6 % 3, Nat.mod_lt _ (by decide)⟩ else .rg ⟨v % 6 % 3, Nat.mod_lt _ (by decide)⟩)))
    else if v < 98 then some (.inl (.inr ⟨v % 2, Nat.mod_lt _ (by decide)⟩))
    else some (.inl (.inl (⟨(v - 98) / 4 % 8, Nat.mod_lt _ (by decide)⟩, .io ⟨(v - 98) % 4, Nat.mod_lt _ (by decide)⟩)))

theorem decode_semOf : ∀ j, decode (semOf j) = some j := by decide +kernel
theorem semOf_injective : Function.Injective semOf := fun a b h => by
  have := congrArg decode h
  rw [decode_semOf, decode_semOf] at this
  exact Option.some.inj this

abbrev kcell (cj : Dev nD × J) : GSem nD τ sig := ((cj.1 : Thread nD τ), semOf cj.2)
/-- Cell `κ` of part `i` of device `c`. -/
abbrev pj (i : Fin 8) (κ : Kp) : J := .inl (.inl (i, κ))
abbrev pcell (c : Dev nD) (i : Fin 8) (κ : Kp) : GSem nD τ sig := kcell (c, pj i κ)
abbrev icell (c : Dev nD) (a : Fin 2) : GSem nD τ sig := kcell (c, .inl (.inr a))
abbrev bcell (c : Dev nD) : GSem nD τ sig := kcell (c, .inr ())

theorem kcell_injective : Function.Injective kcell := by
  rintro ⟨c, k⟩ ⟨c', k'⟩ h
  have h1 : c = c' := congrArg (fun g : GSem nD τ sig => g.1.1) h
  have h2 : semOf k = semOf k' := congrArg Prod.snd h
  rw [h1, semOf_injective h2]

/-! ## The credits -/

def cH (k : Fin 3) : ℕ := (rvM 0 k).view.dmaCredit
def cG (t : Fin 3) : ℕ := (agS t 0 0).view.dmaCredit
def cO (t : Fin 4) : ℕ := (outS t 0 0).view.dmaCredit
def cI : Fin 2 → ℕ | 0 => (x32).view.dmaCredit | 1 => (w32).view.dmaCredit
theorem rv_credit : ∀ i k, (rvM i k).view.dmaCredit = cH k := by decide +kernel
theorem sb_credit : ∀ i k, (sbM i k).view.dmaCredit = cH k := by decide +kernel
theorem ag_credit : ∀ t i c, (agS t i c).view.dmaCredit = cG t := by decide +kernel
theorem out_credit : ∀ t i c, (outS t i c).view.dmaCredit = cO t := by decide +kernel
theorem cH_pos : ∀ k, 0 < cH k := by decide +kernel
theorem cG_pos : ∀ k, 0 < cG k := by decide +kernel
theorem cO_pos : ∀ k, 0 < cO k := by decide +kernel
theorem cI_pos : ∀ k, 0 < cI k := by decide +kernel

def amt : J → ℕ
  | .inl (.inl (_, .sh k)) => cH k | .inl (.inl (_, .rh k)) => cH k
  | .inl (.inl (_, .sg t)) => cG t | .inl (.inl (_, .rg t)) => cG t
  | .inl (.inl (_, .io t)) => cO t
  | .inl (.inr a) => cI a
  | .inr () => 1
theorem amt_pos : ∀ j, 0 < amt j
  | .inl (.inl (_, .sh k)) => cH_pos k | .inl (.inl (_, .rh k)) => cH_pos k
  | .inl (.inl (_, .sg t)) => cG_pos t | .inl (.inl (_, .rg t)) => cG_pos t
  | .inl (.inl (_, .io t)) => cO_pos t
  | .inl (.inr a) => cI_pos a
  | .inr () => Nat.one_pos

/-! ## What is handed over -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The four shares of a gathered row: one for each doubling round that may send it, one for its copy out. -/
def shr : Fin 4 → PosShare TreeShare
  | 0 => fullShare.left.left | 1 => fullShare.left.right | 2 => fullShare.right.left | 3 => fullShare.right.right

/-- Rows of part `i`'s gathered block at device `c`. -/
def agPt (c : Dev nD) (i : Fin 8) (S : Finset (agM i).view.ty.Idx) (q : PosShare TreeShare) (f : (agM i).view.ty.Contents (Elt F)) : sProp 𝕄 :=
  (agM i).view.loc (c : Thread nD τ) ↦[S]{q} f
/-- The rows kept before doubling round `t`, and those received in it. -/
abbrev keptS (t : Fin 3) (i : Fin 8) (c : Dev nD) : Finset (agM i).view.ty.Idx := agSet i (lo (3 - t.val) i c) (256 * 2 ^ t.val)
abbrev recdS (t : Fin 3) (i : Fin 8) (c : Dev nD) : Finset (agM i).view.ty.Idx := agSet i (give t.rev i c) (256 * 2 ^ t.val)
abbrev cpdS (t : Fin 4) (i : Fin 8) (c : Dev nD) : Finset (agM i).view.ty.Idx := agSet i (cpLo t i c) (256 * 2 ^ (t.val - 1))
/-- A block of the result at device `c`. -/
def outPt (c : Dev nD) (i : Fin 8) (t : Fin 4) (f : Vec F S2048x2048 .bf16) : sProp 𝕄 :=
  (c : Thread nD τ).loc main_v1 ↦[outSet t i c]{fullShare} f
def sbAny (c : Dev nD) (i : Fin 8) (k : Fin 3) : sProp 𝕄 :=
  iprop(∃ f, (sbM i k).view.loc (c : Thread nD τ) ↦[(sbM i k).view.set]{fullShare} f)
def rvAny (c : Dev nD) (i : Fin 8) (k : Fin 3) : sProp 𝕄 :=
  iprop(∃ f, (rvM i k).view.loc (c : Thread nD τ) ↦[(rvM i k).view.set]{fullShare} f)
def recdAny (c : Dev nD) (i : Fin 8) (t : Fin 3) : sProp 𝕄 := iprop(∃ f, agPt c i (recdS t i c) fullShare f)

/-- The direction of an exchange, read backwards: the halving round of part `i` in direction `d`. -/
def dirInv (i : Fin 8) (d : Fin 3) : Fin 3 := if dir i 0 = d then 0 else if dir i 1 = d then 1 else 2
theorem dir_dirInv : ∀ i d, dir i (dirInv i d) = d := by decide +kernel
theorem dirInv_dir : ∀ i k, dirInv i (dir i k) = k := by decide +kernel

/-- What a device hands its partner of halving round `k` for part `i`: where that round's block lands, and
    where the rows of the doubling round that mirrors it land. -/
def lend (c : Dev nD) (i : Fin 8) (k : Fin 3) : sProp 𝕄 := iprop(rvAny c i k ∗ recdAny c i k.rev)

variable (m : (ℓ : Loc nD τ sig) → Buf (Elt F) ℓ)

def inPt (c : Dev nD) : Fin 2 → sProp 𝕄
  | 0 => iprop(((c : Thread nD τ).loc main_arg0 ↦{fullShare} m ((c : Thread nD τ).loc main_arg0)) ∗ ((c : Thread nD τ).loc cc0_scratch0 ↦{fullShare} xin m c))
  | 1 => iprop(((c : Thread nD τ).loc main_arg1 ↦{fullShare} m ((c : Thread nD τ).loc main_arg1)) ∗ ((c : Thread nD τ).loc cc0_scratch1 ↦{fullShare} win m c))

def pay (c : Dev nD) : J → Fin 3 → sProp 𝕄
  | .inl (.inl (i, .sh k)), _ => sbAny c i k
  | .inl (.inl (i, .rh k)), _ => owns (c : Thread nD τ) (rvM i k) fullShare (got m k c i)
  | .inl (.inl (i, .sg t)), _ => agPt c i (keptS t i c) (shr (t.castLE (by decide))) (agC m i)
  | .inl (.inl (i, .rg t)), _ => agPt c i (recdS t i c) fullShare (agC m i)
  | .inl (.inl (i, .io t)), _ => iprop(outPt c i t (res m) ∗ agPt c i (cpdS t i c) (shr 3) (agC m i))
  | .inl (.inr a), _ => inPt m c a
  | .inr (), d => bigSep Finset.univ fun i : Fin 8 => lend (across d c) i (dirInv i d)

instance pay_storable (c : Dev nD) (j : J) (d : Fin 3) : BI.Storable (upEmb : UEmb _ 𝕄) (pay m c j d) := by
  rcases j with (⟨i, κ⟩ | a) | u
  · cases κ <;> unfold pay <;> simp only [sbAny, owns, agPt, outPt] <;> infer_instance
  · fin_cases a <;> unfold pay inPt <;> infer_instance
  · unfold pay; simp only [lend, rvAny, recdAny, agPt]; infer_instance

def dts : J → Finset (Fin 3)
  | .inl _ => {0}
  | .inr () => Finset.univ

/-- The schedule: one round in every cell. -/
def Rd : Rounds.Schedule (GSem nD τ sig) (Fin 3) 𝕄 where
  duties g r := if r = 0 ∧ g.1.2 = .tc then (decode g.2).elim ∅ dts else ∅
  unitless _ := False
  amount g _ _ := (decode g.2).elim 1 amt
  payload g _ d := (decode g.2).elim iprop(emp) (fun j => pay m g.1.1 j d)
  amount_pos g _ _ _ := by
    cases h : decode g.2 with
    | none => exact Nat.one_pos
    | some j => exact amt_pos j

instance Rd_payload_storable (g : GSem nD τ sig) (r : ℕ) (d : Fin 3) : BI.Storable (upEmb : UEmb _ 𝕄) ((Rd (F := F) m).payload g r d) := by
  show BI.Storable upEmb ((decode g.2).elim iprop(emp) (fun j => pay m g.1.1 j d))
  cases decode g.2 with
  | none => exact inferInstanceAs (BI.Storable upEmb iprop(emp))
  | some j => exact pay_storable m _ j d

theorem Rd_duties (c : Dev nD) (j : J) : (Rd (F := F) m).duties (kcell (c, j)) 0 = dts j := by
  dsimp only [Rd]; rw [if_pos ⟨rfl, rfl⟩, decode_semOf]; rfl
theorem Rd_later (g : GSem nD τ sig) : ∀ r, 1 ≤ r → (Rd (F := F) m).duties g r = ∅ :=
  fun r hr => by dsimp only [Rd]; exact if_neg fun h => by omega
theorem Rd_amount (c : Dev nD) (j : J) (d : Fin 3) : (Rd (F := F) m).amount (kcell (c, j)) 0 d = amt j := by
  dsimp only [Rd]; rw [decode_semOf]; rfl
theorem Rd_payload (c : Dev nD) (j : J) (d : Fin 3) : (Rd (F := F) m).payload (kcell (c, j)) 0 d = pay m c j d := by
  dsimp only [Rd]; rw [decode_semOf]; rfl
theorem Rd_expect_own (c : Dev nD) (o : Own) : (Rd (F := F) m).expect (kcell (c, .inl o)) 0 = amt (.inl o) := by
  unfold Schedule.expect Schedule.amountOf; rw [Rd_duties]; show Finset.sum {0} _ = _; rw [Finset.sum_singleton, Rd_amount]
theorem Rd_expect_bar (c : Dev nD) : (Rd (F := F) m).expect (bcell c) 0 = 3 := by
  unfold Schedule.expect Schedule.amountOf; rw [Rd_duties, Finset.sum_congr rfl fun d _ => Rd_amount m c (.inr ()) d]; rfl
theorem Rd_rest_own (c : Dev nD) (o : Own) :
    bigSep ((Rd (F := F) m).duties (kcell (c, .inl o)) 0 \ ∅) (fun d => (Rd (F := F) m).payload (kcell (c, .inl o)) 0 d) = pay m c (.inl o) 0 := by
  rw [Finset.sdiff_empty, Rd_duties]; show bigSep {0} _ = _; rw [bigSep_singleton, Rd_payload]
theorem Rd_rest_bar (c : Dev nD) :
    bigSep ((Rd (F := F) m).duties (bcell c) 0 \ ∅) (fun d => (Rd (F := F) m).payload (bcell c) 0 d) = bigSep Finset.univ fun d : Fin 3 => pay m c (.inr ()) d := by
  rw [Finset.sdiff_empty, Rd_duties]; exact bigSep_congr fun d _ => Rd_payload m c (.inr ()) d

/-! ## What a device owes, and the levels -/

/-- Whose cell device `c` pays: its partner's for an arrival, its own for anything else. -/
def tgt (c : Dev nD) (i : Fin 8) : Kp → Dev nD
  | .rh k => across (dir i k) c
  | .rg t => across (dir i t.rev) c
  | _ => c
theorem tgt_tgt (c : Dev nD) (i : Fin 8) : ∀ κ, tgt (tgt c i κ) i κ = c
  | .rh _ => across_across _ _ | .rg _ => across_across _ _ | .sh _ => rfl | .sg _ => rfl | .io _ => rfl

/-- The arrivals in the order they are paid: eight parts for each of the six exchanges. -/
def arrK (e : ℕ) : Kp := if e < 3 then .rh ⟨e % 3, Nat.mod_lt _ (by decide)⟩ else .rg ⟨e % 3, Nat.mod_lt _ (by decide)⟩
def arrI (n : ℕ) : Fin 8 := ⟨n % 8, Nat.mod_lt _ (by decide)⟩
/-- The `n`th arrival device `c` pays. -/
def arr (c : Dev nD) (n : ℕ) : CellTallies nD τ sig Unit :=
  tallyAt (pcell (tgt c (arrI n) (arrK (n / 8))) (arrI n) (arrK (n / 8))) () (amt (pj (arrI n) (arrK (n / 8))))
/-- What it owes once `n` are paid. -/
def owe (c : Dev nD) (n : ℕ) : CellTallies nD τ sig Unit := ∑ j ∈ Finset.Ico n 48, arr c j
theorem owe_step (c : Dev nD) (n : ℕ) (h : n < 48) : owe c n = owe c (n + 1) + arr c n := by
  unfold owe; rw [Finset.sum_eq_sum_Ico_succ_bot h, add_comm]
theorem owe_end (c : Dev nD) : owe c 48 = 0 := by unfold owe; rw [Finset.Ico_self, Finset.sum_empty]
/-- At launch it owes its three partners' barriers a unit each, too. -/
def owe₀ (c : Dev nD) : CellTallies nD τ sig Unit :=
  ((owe c 0 + tallyAt (bcell (across 2 c)) () 1) + tallyAt (bcell (across 1 c)) () 1) + tallyAt (bcell (across 0 c)) () 1

def L (g : GSem nD τ sig) : Finset Unit := if g.1.2 = .tc then {()} else ∅
def lvJ : J → ℕ
  | .inl (.inl (i, .rh k)) => 8 * k.val + i.val + 1
  | .inl (.inl (i, .rg t)) => 8 * (t.val + 3) + i.val + 1
  | _ => 0
def lv (g : GSem nD τ sig) (_ : Unit) : ℕ := (decode g.2).elim 0 lvJ
theorem L_of_ne (g : GSem nD τ sig) (h : g.1.2 ≠ .tc) : L g = ∅ := if_neg h
theorem lv_kcell (c : Dev nD) (j : J) (u : Unit) : lv (kcell (c, j)) u = lvJ j := by unfold lv; rw [decode_semOf]; rfl
theorem lv_arr : ∀ n, n < 48 → lvJ (pj (arrI n) (arrK (n / 8))) = n + 1 := by decide +kernel

theorem owe_pos {c : Dev nD} {n : ℕ} {g : GSem nD τ sig} {u : Unit} (h : 0 < owe c n g u) :
    ∃ j, n ≤ j ∧ j < 48 ∧ g = pcell (tgt c (arrI j) (arrK (j / 8))) (arrI j) (arrK (j / 8)) := by
  unfold owe at h
  rw [Finset.sum_apply, Finsupp.finset_sum_apply] at h
  obtain ⟨j, hj, hp⟩ := Finset.exists_ne_zero_of_sum_ne_zero (Nat.pos_iff_ne_zero.mp h)
  obtain ⟨h1, h2⟩ := Finset.mem_Ico.mp hj
  refine ⟨j, h1, h2, ?_⟩
  by_contra hn
  unfold arr at hp
  rw [tallyAt_apply, if_neg (fun h' => hn h'.1)] at hp
  exact hp rfl

/-- A cell below everything still owed may be waited on. -/
theorem may (c : Dev nD) (j : J) (n : ℕ) (h : lvJ j ≤ n) :
    (levAts L lv : sProp 𝕄) ⊢ MayWait (c : Thread nD τ) (semOf j) () (owe c n) :=
  MayOwe.of_cut (L := L) (lev := lv) n (fun p hp => by rw [Finset.mem_singleton.mp hp]; exact Finset.mem_singleton_self _)
    (fun g u hg => by obtain ⟨i, -, -, rfl⟩ := owe_pos hg; exact Finset.mem_singleton_self _)
    (fun p hp => by rw [Finset.mem_singleton.mp hp]; exact (lv_kcell c j ()).trans_le h)
    (fun g u hg => by
      obtain ⟨i, h1, h2, rfl⟩ := owe_pos hg
      rw [lv_kcell, lv_arr i h2]; omega)

end Cert.KernelIdeal.Hand

end
-- ==== Proof.Pieces.lean ====
module

public import proofs.«01_k».proof.Proof.Sched

/-! # One effect at a time

A load, a store, a send, a copy and a wait, each stated once over any cell, and what each does to what a
device owes. -/

@[expose] public section

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program of device `c`. -/
abbrev wpT (c : Dev nD) {α : Type} (p : P F α) (Q : α → sProp 𝕄) : sProp 𝕄 :=
  wp frame (wpE (defs₀ (F := F)) 𝒱₀ (c : Thread nD τ) none) Set.univ p Q

variable (m : (ℓ : Loc nD τ sig) → Buf (Elt F) ℓ) (K : Dev nD × J → ℕ)

/-- What every device knows of every cell. -/
def recs : sProp 𝕄 :=
  iprop((bigSep Finset.univ fun cj : Dev nD × J => cellInv ER (Rd m) (K cj) (kcell cj))
    ∗ (bigSep Finset.univ fun cj : Dev nD × J => reached ER (kcell cj) 0) ∗ levAts L lv)
instance recs_persistent : BI.Persistent (recs m K) := by unfold recs; infer_instance

theorem recs_inv (cj : Dev nD × J) : recs m K ⊢ cellInv ER (Rd m) (K cj) (kcell cj) := by
  have h : (bigSep Finset.univ fun cj : Dev nD × J => (cellInv ER (Rd m) (K cj) (kcell cj) : sProp 𝕄)) ⊢ cellInv ER (Rd m) (K cj) (kcell cj) := bigSep_elim (Finset.mem_univ cj)
  unfold recs; iintro ⟨#H, -, -⟩; iapply h; iexact H
theorem recs_reached (cj : Dev nD × J) : recs m K ⊢ reached ER (kcell cj) 0 := by
  have h : (bigSep Finset.univ fun cj : Dev nD × J => (reached ER (kcell cj) 0 : sProp 𝕄)) ⊢ reached ER (kcell cj) 0 := bigSep_elim (Finset.mem_univ cj)
  unfold recs; iintro ⟨-, #H, -⟩; iapply h; iexact H
theorem recs_lev : recs m K ⊢ levAts L lv := by unfold recs; iintro ⟨-, -, #H⟩; iexact H

/-- Device `c` has paid `n` arrivals. -/
def ow (c : Dev nD) (n : ℕ) : sProp 𝕄 := iprop(∃ W, owes (c : Thread nD τ) (owe c n) W)

abbrev tok (c : Dev nD) (j : J) (d : Fin 3) : sProp 𝕄 := dutyTok ER (kcell (c, j)) 0 d
abbrev pos (c : Dev nD) (j : J) : sProp 𝕄 := atPos ER (kcell (c, j)) 0 ∅ 0
abbrev crd (c : Dev nD) (j : J) : sProp 𝕄 := cred (tallyAt (kcell (c, j)) () (amt j))
abbrev zero (c : Dev nD) (j : J) : sProp 𝕄 := semVal (kcell (c, j)) 0

/-- Writing what `g` holds at a view's elements makes them `g`'s. -/
theorem pts_write {κ : Kind} {sp : Space} {s : Shape} {e : EltTy} (v : View sig κ sp s e)
    (f g : v.ty.Contents (Elt F)) (w : s.Idx → Elt F e) (h : w = v.read (Elt F) g) (i : v.ty.Idx) (hi : i ∈ v.set) :
    v.write (Elt F) f w Finset.univ i = g i := by
  rw [h, View.write_read_eq_piecewise, View.setOn_univ, Finset.piecewise_eq_of_mem _ _ _ hi]

theorem mem_own (c : Dev nD) (o : Own) : (0 : Fin 3) ∈ (Rd (F := F) m).duties (kcell (c, .inl o)) 0 := by
  rw [Rd_duties]; exact Finset.mem_singleton_self _

/-- A wait for a whole cell: what was handed over comes, and the cell is spent. -/
theorem wait_own (c : Dev nD) (o : Own) (n : ℕ) (hl : lvJ (.inl o) ≤ n) {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (semOf (.inl o)) (amt (.inl o)) Q)
    (R : sProp 𝕄) (hR : pay m c (.inl o) 0 = R) {α : Type} {k : PUnit → P F α} {Q : α → sProp 𝕄} :
    iprop(recs m K ∗ crd c (.inl o) ∗ pos c (.inl o) ∗ ow c n
        ∗ ((R ∗ zero c (.inl o) ∗ ow c n) -∗ wpT c (k ⟨⟩) Q))
      ⊢ wpT c (.op w k) Q := by
  unfold ow
  iintro ⟨#HR, Hc, Ha, ⟨%W, HO⟩, Hk⟩
  iapply (Rounds.wp_wait_rest_token 𝒱₀ ER (Rd m) (c : Thread nD τ) none (sm := semOf (.inl o)) (κ := K (c, .inl o)) hw (Set.mem_univ _) ()
      (O := owe c n) (W := W) (R := 0) (m := 0) (T := ∅) (by rw [Nat.zero_add]; exact (Rd_expect_own m c o).symm)) $$ [Hc HO Ha]
  · isplitr; · iapply (recs_inv m K (c, .inl o)); iexact HR
    isplitl [Hc]; · iexact Hc
    isplitl [HO]; · iexact HO
    isplitr
    · iapply (may (F := F) c (.inl o) n hl); iapply (recs_lev m K); iexact HR
    iexact Ha
  iintro ⟨HO, Ha, -, Hp⟩
  ihave Hp' := (Entails.of_eq ((Rd_rest_own m c o).trans hR)) $$ Hp
  imod (Rounds.cell_close ER (Rd m) (Set.mem_univ (K (c, .inl o))) (fun h => h) (R := 0 + 1) (Rd_later m (kcell (c, .inl o)))) $$ [Ha] with Hz
  · isplitr; · iapply (recs_inv m K (c, .inl o)); iexact HR
    iexact Ha
  iapply Hk
  isplitl [Hp']; · iexact Hp'
  isplitl [Hz]; · iexact Hz
  iexists _; iexact HO

/-- A send: the departure cell is paid with the source, the arrival cell with the destination. -/
theorem send_own (c c' : Dev nD) (o o' : Own) (n : ℕ) (hn : n < 48) (harr : arr c n = tallyAt (kcell (c', .inl o')) () (amt (.inl o')))
    (ho : amt (.inl o) = amt (.inl o')) {s : Shape} {e : EltTy} {sp sp' : Space} {src : Memref sig .tc sp s e} {dst : Memref sig .tc sp' s e}
    {hsc : dst.view.ref.isScScratch = false} {hsrc : src.view.WordExact} {hdst : dst.view.WordExact}
    {hsem : DmaTarget.Typed sp (semOf (.inl o')) (.remote (Dev.tc c' : Thread nD τ) dst (semOf (.inl o)) hsc)}
    (q : PosShare TreeShare) (fs : src.view.ty.Contents (Elt F)) (fd : dst.view.ty.Contents (Elt F))
    (hN : dst.view.amount (semOf (.inl o')) = amt (.inl o'))
    (hp : (src.view.loc (c : Thread nD τ) ↦[src.view.set]{q} fs) ⊢ pay m c (.inl o) 0)
    (hp' : (dst.view.loc (c' : Thread nD τ) ↦[dst.view.set]{fullShare} (dst.view.write (Elt F) fd (src.view.read (Elt F) fs) Finset.univ)) ⊢ pay m c' (.inl o') 0)
    {α : Type} {k : PUnit → P F α} {Q : α → sProp 𝕄} :
    iprop(recs m K ∗ (src.view.loc (c : Thread nD τ) ↦[src.view.set]{q} fs) ∗ (dst.view.loc (c' : Thread nD τ) ↦[dst.view.set]{fullShare} fd)
        ∗ tok c (.inl o) 0 ∗ tok c' (.inl o') 0 ∗ ow c n
        ∗ ((crd c (.inl o) ∗ ow c (n + 1)) -∗ wpT c (k ⟨⟩) Q))
      ⊢ wpT c (.op (.enqueueDma src (.remote (Dev.tc c' : Thread nD τ) dst (semOf (.inl o)) hsc) (semOf (.inl o')) hsrc hdst hsem) k) Q := by
  unfold ow
  iintro ⟨#HR, Hs, Hd, Ht, Ht', ⟨%W, HO⟩, Hk⟩
  iapply (Rounds.wp_send_pointsTo 𝒱₀ ER (Rd m) (c : Thread nD τ) none (c' := (c' : Thread nD τ)) (κ₁ := K (c, .inl o)) (κ₂ := K (c', .inl o')) (q := q) (fs := fs)
    (r₁ := 0) (r₂ := 0) (d₁ := 0) (d₂ := 0) (fd := fd)
    (mem_own m c o)
    (mem_own m c' o')
    () () (amt (.inl o')) hN ((Rd_amount m c (.inl o) 0).trans ho) (Rd_amount m c' (.inl o') 0) (O₀ := owe c n) (owe c (n + 1)) (by rw [owe_step c n hn, harr]) (W := W)
    (hp.trans (Entails.of_eq (Rd_payload m c (.inl o) 0).symm)) (hp'.trans (Entails.of_eq (Rd_payload m c' (.inl o') 0).symm))) $$ [Hs Hd Ht Ht' HO]
  · isplitr; · iapply (recs_inv m K (c, .inl o)); iexact HR
    isplitr; · iapply (recs_inv m K (c', .inl o')); iexact HR
    isplitl [Hs]; · iexact Hs
    isplitl [Hd]; · iexact Hd
    isplitl [HO]; · iexact HO
    isplitl [Ht]; · iexact Ht
    isplitr; · iapply (recs_reached m K (c, .inl o)); iexact HR
    isplitl [Ht']; · iexact Ht'
    iapply (recs_reached m K (c', .inl o')); iexact HR
  iintro ⟨Hc, HO⟩
  iapply Hk
  isplitl [Hc]; · unfold crd; rw [ho]; iexact Hc
  iexists W; iexact HO

/-- A copy on the device itself: its cell is paid with source and destination. -/
theorem copy_own (c : Dev nD) (o : Own) {s : Shape} {e : EltTy} {sp sp' : Space} {src : Memref sig .tc sp s e} {dst : Memref sig .tc sp' s e}
    {hsrc : src.view.WordExact} {hdst : dst.view.WordExact} {hsem : DmaTarget.Typed (nD := nD) (p := (c : Thread nD τ).2) sp (semOf (.inl o)) (.here dst)}
    (q : PosShare TreeShare) (fs : src.view.ty.Contents (Elt F)) (fd : dst.view.ty.Contents (Elt F))
    (hN : dst.view.amount (semOf (.inl o)) = amt (.inl o))
    (hp : iprop((dst.view.loc (c : Thread nD τ) ↦[dst.view.set]{fullShare} (dst.view.write (Elt F) fd (src.view.read (Elt F) fs) Finset.univ))
        ∗ (src.view.loc (c : Thread nD τ) ↦[src.view.set]{q} fs)) ⊢ pay m c (.inl o) 0)
    {α : Type} {k : PUnit → P F α} {Q : α → sProp 𝕄} :
    iprop(recs m K ∗ (src.view.loc (c : Thread nD τ) ↦[src.view.set]{q} fs) ∗ (dst.view.loc (c : Thread nD τ) ↦[dst.view.set]{fullShare} fd)
        ∗ tok c (.inl o) 0 ∗ (crd c (.inl o) -∗ wpT c (k ⟨⟩) Q))
      ⊢ wpT c (.op (.enqueueDma src (.here dst) (semOf (.inl o)) hsrc hdst hsem) k) Q := by
  iintro ⟨#HR, Hs, Hd, Ht, Hk⟩
  iapply (Rounds.wp_copy_pointsTo 𝒱₀ ER (Rd m) (c : Thread nD τ) none (κ := K (c, .inl o)) (q := q) (fs := fs) (fd := fd) (r := 0) (d := 0)
    (mem_own m c o)
    () (amt (.inl o)) hN (Rd_amount m c (.inl o) 0) (hp.trans (Entails.of_eq (Rd_payload m c (.inl o) 0).symm))) $$ [Hs Hd Ht]
  · isplitr; · iapply (recs_inv m K (c, .inl o)); iexact HR
    isplitl [Hs]; · iexact Hs
    isplitl [Hd]; · iexact Hd
    isplitl [Ht]; · iexact Ht
    iapply (recs_reached m K (c, .inl o)); iexact HR
  iintro Hc
  iapply Hk
  iexact Hc

/-- A load of owned elements reads their contents at the rectangle. -/
theorem load_owned (c : Dev nD) {cs : CoreSpace} {s : Shape} {e : EltTy} {M : Memref sig .tc cs s e} {r : Rect s} {hl : M.view.LoadsAt r.toLoadRect}
    (q : PosShare TreeShare) (X : s.Idx → Elt F e) {α : Type} {k : (r.shape.Idx → Elt F e) → P F α} {Q : α → sProp 𝕄} :
    iprop(owns (c : Thread nD τ) M q X ∗ (owns (c : Thread nD τ) M q X -∗ wpT c (k (cut r X)) Q))
      ⊢ wpT c (.op (.load M r.toLoadRect hl) k) Q := by
  unfold owns
  iintro ⟨⟨%f, %hf, Hf⟩, Hk⟩
  iapply (wp_load 𝒱₀ (c : Thread nD τ) none Set.univ (m := M) (View.setOn_subset_set _ _)) $$ Hf
  iintro Hf
  subst hf
  rw [show M.view.readAt (Elt F) r.toLoadRect f = cut r (M.view.read (Elt F) f) from rfl]
  iapply Hk
  iexists f
  isplitr; · ipureintro; rfl
  iexact Hf

end Cert.KernelIdeal.Hand

end
-- ==== Proof.Parts.lean ====
module

public import proofs.«01_k».proof.Proof.Pieces

/-! # What each piece of a part does

Each piece of the body, for any part and device, from what it uses to what it leaves. -/

@[expose] public section

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × J → ℕ)

theorem wpT_ret (c : Dev nD) {α : Type} (a : α) (Q : α → sProp 𝕄) : Q a ⊢ wpT c (.ret a) Q := le_wp_ret _ _ _ a Q
theorem wpT_bind (c : Dev nD) {α β : Type} (p : P F α) (f : α → P F β) (Q : β → sProp 𝕄) : wpT c (p >>= f) Q = wpT c p fun a => wpT c (f a) Q := wp_bind _ _ _ _ _ _

theorem load_spec (c : Dev nD) {cs : CoreSpace} {s : Shape} {e : EltTy} {M : Memref sig .tc cs s e} {r : Rect s} {hl : M.view.LoadsAt r.toLoadRect}
    (q : PosShare TreeShare) (X : s.Idx → Elt F e) (Q : (r.shape.Idx → Elt F e) → sProp 𝕄) :
    iprop(owns (c : Thread nD τ) M q X ∗ (owns (c : Thread nD τ) M q X -∗ Q (cut r X))) ⊢ wpT c (Prog.lift (.load M r.toLoadRect hl)) Q := by
  unfold Prog.lift
  iintro ⟨Ho, Hk⟩
  iapply (load_owned c q X)
  isplitl [Ho]; · iexact Ho
  iintro Ho
  iapply (wpT_ret c (cut r X) Q)
  iapply Hk; iexact Ho

/-! ## The halving rounds -/

theorem arr_rh : ∀ (k : Fin 3) (i : Fin 8), arrI (8 * k.val + i.val) = i ∧ arrK ((8 * k.val + i.val) / 8) = .rh k := by decide +kernel
theorem arr_rg : ∀ (t : Fin 3) (i : Fin 8), arrI (8 * (t.val + 3) + i.val) = i ∧ arrK ((8 * (t.val + 3) + i.val) / 8) = .rg t := by decide +kernel

/-- What round `k`'s send of part `i` uses. -/
def outH (c : Dev nD) (k : Fin 3) (i : Fin 8) : sProp 𝕄 :=
  iprop(sbAny c i k ∗ rvAny (across (dir i k) c) i k ∗ tok c (pj i (.sh k)) 0 ∗ tok (across (dir i k) c) (pj i (.rh k)) 0)
/-- What its wait uses, and what it leaves. -/
def inH (c : Dev nD) (k : Fin 3) (i : Fin 8) : sProp 𝕄 := iprop(crd c (pj i (.rh k)) ∗ pos c (pj i (.rh k)))
abbrev gotH (c : Dev nD) (k : Fin 3) (i : Fin 8) : sProp 𝕄 := owns (c : Thread nD τ) (rvM i k) fullShare (got m k c i)

theorem whole_emb (k : Fin 3) (x : (hs k).Idx) : (Rect.unit (s := hs k) ![0, 0] (hs k).size (whole_inb k)).emb x = x := by
  funext a
  refine Fin.ext ?_
  show (![0, 0] : Fin 2 → Nat) a + 1 * (x a).val = (x a).val
  revert a
  exact Fin.forall_fin_two.mpr ⟨by simp, by simp⟩

theorem put_spec (c : Dev nD) (k : Fin 3) (i : Fin 8) (v : FVec F (hs k) .bf16) (hv : sent m k c i = v) (Q : PUnit → sProp 𝕄) :
    iprop(recs m K ∗ outH c k i ∗ ow c (8 * k.val + i.val) ∗ ((crd c (pj i (.sh k)) ∗ ow c (8 * k.val + i.val + 1)) -∗ Q ⟨⟩))
      ⊢ wpT c (put c k i v) Q := by
  unfold put outH sbAny rvAny
  simp only [Prog.lift, Prog.bind_op, Prog.bind_ret, Prog.pure_eq_ret]
  iintro ⟨#HR, ⟨⟨%f, Hf⟩, ⟨%g, Hg⟩, Ht, Ht'⟩, HO, Hk⟩
  iapply (wp_load 𝒱₀ (c : Thread nD τ) none Set.univ (m := sbM i k) (View.setOn_subset_set _ _)) $$ Hf
  iintro Hf
  iapply (wp_store 𝒱₀ (c : Thread nD τ) none Set.univ (m := sbM i k) (r := Rect.unit (s := hs k) ![0, 0] (hs k).size (whole_inb k)) (Mk := Finset.univ)
    (S := (sbM i k).view.set) (View.set_slice_subset _ _)) $$ Hf
  iintro Hf
  have hr : (sbM i k).view.read (Elt F) (((sbM i k).access (Rect.unit (s := hs k) ![0, 0] (hs k).size (whole_inb k))).write (Elt F) f v Finset.univ) = v := by
    funext x
    have := View.read_slice_write_emb (v := (sbM i k).view) (Val := Elt F) (Rect.unit (s := hs k) ![0, 0] (hs k).size (whole_inb k)) f v (M := Finset.univ) (x := x) (Finset.mem_univ _)
    rw [whole_emb] at this
    exact this
  iapply (send_own m K c (across (dir i k) c) (.inl (i, .sh k)) (.inl (i, .rh k)) (8 * k.val + i.val) (by have := k.isLt; have := i.isLt; omega)
    (by unfold arr; rw [(arr_rh k i).1, (arr_rh k i).2]; rfl) rfl fullShare
    (((sbM i k).access (Rect.unit (s := hs k) ![0, 0] (hs k).size (whole_inb k))).write (Elt F) f v Finset.univ) g (rv_credit i k)
    (by show _ ⊢ sbAny c i k; unfold sbAny; iintro H; iexists _; iexact H)
    (by
      show _ ⊢ owns (across (dir i k) c : Thread nD τ) (rvM i k) fullShare (got m k (across (dir i k) c) i)
      refine (owns_intro _ _ _ _).trans (Entails.of_eq ?_)
      congr 1
      rw [View.read_write_univ, hr, got, across_across, hv]))
  isplitr; · iexact HR
  isplitl [Hf]; · iexact Hf
  isplitl [Hg]; · iexact Hg
  isplitl [Ht]; · iexact Ht
  isplitl [Ht']; · iexact Ht'
  isplitl [HO]; · iexact HO
  iintro H
  iapply (wpT_ret c ⟨⟩ Q)
  iapply Hk
  iexact H

theorem get_spec (c : Dev nD) (k : Fin 3) (i : Fin 8) (n : ℕ) (hn : 8 * k.val + i.val + 1 ≤ n) (Q : PUnit → sProp 𝕄) :
    iprop(recs m K ∗ inH c k i ∗ ow c n ∗ ((gotH m c k i ∗ zero c (pj i (.rh k)) ∗ ow c n) -∗ Q ⟨⟩))
      ⊢ wpT c (get k i) Q := by
  unfold get inH
  simp only [Prog.lift]
  iintro ⟨#HR, ⟨Hc, Hp⟩, HO, Hk⟩
  iapply (wait_own m K c (.inl (i, .rh k)) n hn (by intro Q; rw [show amt (.inl (.inl (i, .rh k))) = cH k from rfl, ← rv_credit i k]; exact wpE_waitDma2_eq 𝒱₀ (c : Thread nD τ) none Set.univ Q) (gotH m c k i) rfl)
  isplitr; · iexact HR
  isplitl [Hc]; · iexact Hc
  isplitl [Hp]; · iexact Hp
  isplitl [HO]; · iexact HO
  iintro ⟨Hp, Hz, HO⟩
  iapply (wpT_ret c ⟨⟩ Q)
  iapply Hk
  isplitl [Hp]; · iexact Hp
  isplitl [Hz] <;> iassumption

theorem rs0_spec (c : Dev nD) (i : Fin 8) (Q : PUnit → sProp 𝕄) :
    iprop(recs m K ∗ outH c 0 i ∗ ow c (0 + i.val) ∗ ((crd c (pj i (.sh 0)) ∗ ow c (0 + i.val + 1)) -∗ Q ⟨⟩))
      ⊢ wpT c (rs0 c (prod m 0 c) i) Q := put_spec m K c 0 i _ rfl Q

theorem rs1_spec (c : Dev nD) (i : Fin 8) (Q : PUnit → sProp 𝕄) :
    iprop(recs m K ∗ (outH c 1 i ∗ inH c 0 i) ∗ ow c (8 + i.val)
        ∗ (((crd c (pj i (.sh 1)) ∗ gotH m c 0 i ∗ zero c (pj i (.rh 0))) ∗ ow c (8 + i.val + 1)) -∗ Q ⟨⟩))
      ⊢ wpT c (rs1 c (prod m 1 c) i) Q := by
  unfold rs1
  simp only [wpT_bind]
  iintro ⟨#HR, ⟨Ho, Hi⟩, HO, Hk⟩
  iapply (get_spec m K c 0 i (8 + i.val) (by show 8 * 0 + i.val + 1 ≤ _; omega))
  isplitr; · iexact HR
  isplitl [Hi]; · iexact Hi
  isplitl [HO]; · iexact HO
  iintro ⟨Hg, Hz, HO⟩
  iapply (load_spec c fullShare (got m 0 c i))
  isplitl [Hg]; · iexact Hg
  iintro Hg
  iapply (put_spec m K c 1 i _ rfl)
  isplitr; · iexact HR
  isplitl [Ho]; · iexact Ho
  isplitl [HO]; · iexact HO
  iintro ⟨Hc, HO⟩
  iapply Hk
  isplitr [HO]
  · isplitl [Hc]; · iexact Hc
    isplitl [Hg]; · iexact Hg
    iexact Hz
  iexact HO

theorem rs2_spec (c : Dev nD) (i : Fin 8) (Q : PUnit → sProp 𝕄) :
    iprop(recs m K ∗ (outH c 2 i ∗ inH c 1 i ∗ gotH m c 0 i) ∗ ow c (16 + i.val)
        ∗ (((crd c (pj i (.sh 2)) ∗ gotH m c 1 i ∗ zero c (pj i (.rh 1)) ∗ gotH m c 0 i) ∗ ow c (16 + i.val + 1)) -∗ Q ⟨⟩))
      ⊢ wpT c (rs2 c (prod m 2 c) i) Q := by
  unfold rs2
  simp only [wpT_bind]
  iintro ⟨#HR, ⟨Ho, Hi, Hg0⟩, HO, Hk⟩
  iapply (get_spec m K c 1 i (16 + i.val) (by show 8 * 1 + i.val + 1 ≤ _; omega))
  isplitr; · iexact HR
  isplitl [Hi]; · iexact Hi
  isplitl [HO]; · iexact HO
  iintro ⟨Hg, Hz, HO⟩
  iapply (load_spec c fullShare (got m 0 c i))
  isplitl [Hg0]; · iexact Hg0
  iintro Hg0
  iapply (load_spec c fullShare (got m 1 c i))
  isplitl [Hg]; · iexact Hg
  iintro Hg
  iapply (put_spec m K c 2 i _ rfl)
  isplitr; · iexact HR
  isplitl [Ho]; · iexact Ho
  isplitl [HO]; · iexact HO
  iintro ⟨Hc, HO⟩
  iapply Hk
  isplitr [HO]
  · isplitl [Hc]; · iexact Hc
    isplitl [Hg]; · iexact Hg
    isplitl [Hz] <;> iassumption
  iexact HO

/-! ## The products -/

/-- The two inputs, cast. -/
def xw (c : Dev nD) : sProp 𝕄 := iprop(owns (c : Thread nD τ) xM fullShare (xb m c) ∗ owns (c : Thread nD τ) wM fullShare (wb m c))

theorem dot1_spec (c : Dev nD) (k : Fin 3) (i : Fin 8) (Q : FVec F (hs k) .f32 → sProp 𝕄) :
    iprop(xw m c ∗ (xw m c -∗ Q (prod m k c i))) ⊢ wpT c (dot1 c k i) Q := by
  unfold dot1
  simp only [wpT_bind]
  rw [xw]
  iintro ⟨⟨Hx, Hw⟩, Hk⟩
  iapply (load_spec c fullShare (xb m c))
  isplitl [Hx]; · iexact Hx
  iintro Hx
  iapply (load_spec c fullShare (wb m c))
  isplitl [Hw]; · iexact Hw
  iintro Hw
  iapply (wpT_ret c (prod m k c i) Q)
  iapply Hk
  isplitl [Hx] <;> iassumption

theorem dots_spec (c : Dev nD) (k : Fin 3) (Q : (Fin 8 → FVec F (hs k) .f32) → sProp 𝕄) :
    iprop(xw m c ∗ (xw m c -∗ Q (prod m k c))) ⊢ wpT c (dots c k) Q := by
  unfold dots
  simp only [wpT_bind]
  iintro ⟨H, Hk⟩
  iapply (dot1_spec m c k 0); isplitl [H]; · iexact H
  iintro H
  iapply (dot1_spec m c k 1); isplitl [H]; · iexact H
  iintro H
  iapply (dot1_spec m c k 2); isplitl [H]; · iexact H
  iintro H
  iapply (dot1_spec m c k 3); isplitl [H]; · iexact H
  iintro H
  iapply (dot1_spec m c k 4); isplitl [H]; · iexact H
  iintro H
  iapply (dot1_spec m c k 5); isplitl [H]; · iexact H
  iintro H
  iapply (dot1_spec m c k 6); isplitl [H]; · iexact H
  iintro H
  iapply (dot1_spec m c k 7); isplitl [H]; · iexact H
  iintro H
  have h (f : Fin 8 → FVec F (hs k) .f32) (hf : ∀ i, prod m k c i = f i) : iprop(Q (prod m k c)) ⊢ wpT c (.ret f) Q := by
    rw [show f = prod m k c from funext fun i => (hf i).symm]; exact wpT_ret c _ Q
  iapply (h _ fun i => by fin_cases i <;> rfl)
  iapply Hk; iexact H

/-! ## The doubling rounds -/

theorem agPt_half (c : Dev nD) (i : Fin 8) (S : Finset (agM i).view.ty.Idx) (q : PosShare TreeShare) (f : (agM i).view.ty.Contents (Elt F)) :
    (agPt c i S q f : sProp 𝕄) = iprop(agPt c i S q.left f ∗ agPt c i S q.right f) :=
  Entails.antisymm (pointsTo_share (PosShare.mem_left_op_right q)).1 (pointsTo_share (PosShare.mem_left_op_right q)).2
theorem agPt_shares (c : Dev nD) (i : Fin 8) (S : Finset (agM i).view.ty.Idx) (f : (agM i).view.ty.Contents (Elt F)) :
    (agPt c i S fullShare f : sProp 𝕄) = iprop((agPt c i S (shr 0) f ∗ agPt c i S (shr 1) f) ∗ agPt c i S (shr 2) f ∗ agPt c i S (shr 3) f) := by
  rw [agPt_half, agPt_half c i S fullShare.left, agPt_half c i S fullShare.right]; rfl
/-- A kept block and the block received beside it are the block kept next. -/
theorem agPt_step (c : Dev nD) (i : Fin 8) (t : Fin 3) (q : PosShare TreeShare) (f : (agM i).view.ty.Contents (Elt F)) :
    (agPt c i (agSet i (lo (2 - t.val) i c) (256 * 2 ^ (t.val + 1))) q f : sProp 𝕄) = iprop(agPt c i (keptS t i c) q f ∗ agPt c i (recdS t i c) q f) := by
  rw [← agSet_step]
  exact Entails.antisymm (pointsTo_union (agSet_apart t i c)).1 (pointsTo_union (agSet_apart t i c)).2

def outG (c : Dev nD) (t : Fin 3) (i : Fin 8) : sProp 𝕄 :=
  iprop(recdAny (across (dir i t.rev) c) i t ∗ tok c (pj i (.sg t)) 0 ∗ tok (across (dir i t.rev) c) (pj i (.rg t)) 0)
def inG (c : Dev nD) (t : Fin 3) (i : Fin 8) : sProp 𝕄 := iprop(crd c (pj i (.rg t)) ∗ pos c (pj i (.rg t)))
def outO (c : Dev nD) (t : Fin 4) (i : Fin 8) : sProp 𝕄 := iprop(outPt c i t (m ((c : Thread nD τ).loc main_v1)) ∗ tok c (pj i (.io t)) 0)

theorem keptS_partner (t : Fin 3) (i : Fin 8) (c : Dev nD) : recdS t i (across (dir i t.rev) c) = keptS t i c := by
  have := keep_partner t i (across (dir i t.rev) c)
  rw [across_across] at this
  unfold recdS keptS; rw [this]

theorem agS_pts' (c c' : Dev nD) (t : Fin 3) (i : Fin 8) (q : PosShare TreeShare) (f : (agM i).view.ty.Contents (Elt F)) :
    ((agS t i c).view.loc (c' : Thread nD τ) ↦[(agS t i c).view.set]{q} f : sProp 𝕄) = agPt c' i (keptS t i c) q f := by rw [agS_set]; rfl
theorem agS_pts (c : Dev nD) (t : Fin 3) (i : Fin 8) (q : PosShare TreeShare) (f : (agM i).view.ty.Contents (Elt F)) :
    ((agS t i c).view.loc (c : Thread nD τ) ↦[(agS t i c).view.set]{q} f : sProp 𝕄) = agPt c i (keptS t i c) q f := agS_pts' c c t i q f
theorem cpS_pts (c : Dev nD) (t : Fin 4) (i : Fin 8) (q : PosShare TreeShare) (f : (agM i).view.ty.Contents (Elt F)) :
    ((cpS t i c).view.loc (c : Thread nD τ) ↦[(cpS t i c).view.set]{q} f : sProp 𝕄) = agPt c i (cpdS t i c) q f := by rw [cpS_set]; rfl
theorem outS_pts (c : Dev nD) (t : Fin 4) (i : Fin 8) (f : Vec F S2048x2048 .bf16) :
    ((outS t i c).view.loc (c : Thread nD τ) ↦[(outS t i c).view.set]{fullShare} f : sProp 𝕄) = outPt c i t f := by rw [outS_set]; rfl

theorem give1_spec (c : Dev nD) (t : Fin 3) (i : Fin 8) (Q : PUnit → sProp 𝕄) :
    iprop(recs m K ∗ agPt c i (keptS t i c) (shr (t.castLE (by decide))) (agC m i) ∗ outG c t i ∗ ow c (8 * (t.val + 3) + i.val)
        ∗ ((crd c (pj i (.sg t)) ∗ ow c (8 * (t.val + 3) + i.val + 1)) -∗ Q ⟨⟩))
      ⊢ wpT c (give1 c t i) Q := by
  unfold give1 outG recdAny Prog.lift
  iintro ⟨#HR, Hs, ⟨⟨%g, Hg⟩, Ht, Ht'⟩, HO, Hk⟩
  rw [keptS_partner]
  iapply (send_own m K c (across (dir i t.rev) c) (.inl (i, .sg t)) (.inl (i, .rg t)) (8 * (t.val + 3) + i.val) (src := agS t i c) (dst := agS t i c) (by have := t.isLt; have := i.isLt; omega)
    (by unfold arr; rw [(arr_rg t i).1, (arr_rg t i).2]; rfl) rfl (shr (t.castLE (by decide))) (agC m i) g (ag_credit t i c)
    (Entails.of_eq (agS_pts c t i _ _))
    (by
      show _ ⊢ agPt (across (dir i t.rev) c) i (recdS t i (across (dir i t.rev) c)) fullShare (agC m i)
      rw [keptS_partner, ← agS_pts']
      exact Entails.of_eq (pointsTo_congr (pts_write (agS t i c).view g (agC m i) _ rfl))))
  isplitr; · iexact HR
  isplitl [Hs]; · iapply (Entails.of_eq (agS_pts c t i _ _).symm); iexact Hs
  isplitl [Hg]; · iapply (Entails.of_eq (agS_pts' c (across (dir i t.rev) c) t i _ _).symm); iexact Hg
  isplitl [Ht]; · iexact Ht
  isplitl [Ht']; · iexact Ht'
  isplitl [HO]; · iexact HO
  iintro H
  iapply (wpT_ret c ⟨⟩ Q)
  iapply Hk
  iexact H

theorem take1_spec (c : Dev nD) (t : Fin 3) (i : Fin 8) (n : ℕ) (hn : 8 * (t.val + 3) + i.val + 1 ≤ n) (Q : PUnit → sProp 𝕄) :
    iprop(recs m K ∗ inG c t i ∗ ow c n ∗ ((agPt c i (recdS t i c) fullShare (agC m i) ∗ zero c (pj i (.rg t)) ∗ ow c n) -∗ Q ⟨⟩))
      ⊢ wpT c (take1 c t i) Q := by
  unfold take1 inG Prog.lift
  iintro ⟨#HR, ⟨Hc, Hp⟩, HO, Hk⟩
  iapply (wait_own m K c (.inl (i, .rg t)) n hn (by intro Q; rw [show amt (.inl (.inl (i, .rg t))) = cG t from rfl, ← ag_credit t i c]; exact wpE_waitDma2_eq 𝒱₀ (c : Thread nD τ) none Set.univ Q) _ rfl)
  isplitr; · iexact HR
  isplitl [Hc]; · iexact Hc
  isplitl [Hp]; · iexact Hp
  isplitl [HO]; · iexact HO
  iintro H
  iapply (wpT_ret c ⟨⟩ Q)
  iapply Hk
  iexact H

theorem out1_spec (c : Dev nD) (t : Fin 4) (i : Fin 8) (Q : PUnit → sProp 𝕄) :
    iprop(recs m K ∗ agPt c i (cpdS t i c) (shr 3) (agC m i) ∗ outO m c t i ∗ (crd c (pj i (.io t)) -∗ Q ⟨⟩)) ⊢ wpT c (out1 c t i) Q := by
  unfold out1 outO Prog.lift
  iintro ⟨#HR, Hs, ⟨Hd, Ht⟩, Hk⟩
  iapply (copy_own m K c (.inl (i, .io t)) (src := cpS t i c) (dst := outS t i c) (shr 3) (agC m i) (m ((c : Thread nD τ).loc main_v1)) (out_credit t i c)
    (by
      show _ ⊢ iprop(outPt c i t (res m) ∗ agPt c i (cpdS t i c) (shr 3) (agC m i))
      have h : (cpS t i c).view.read (Elt F) (agC m i) = (outS t i c).view.read (Elt F) (res m) := by
        show cut (cpR t i c) ((agM i).view.read (Elt F) (agC m i)) = cut (outR t i c) (res m)
        rw [read_agC]; exact funext (cols_res m t i c)
      rw [cpS_pts, pointsTo_congr (pts_write (outS t i c).view (m ((c : Thread nD τ).loc main_v1)) (res m) _ h), outS_pts]))
  isplitr; · iexact HR
  isplitl [Hs]; · iapply (Entails.of_eq (cpS_pts c t i _ _).symm); iexact Hs
  isplitl [Hd]; · iapply (Entails.of_eq (outS_pts c t i _).symm); iexact Hd
  isplitl [Ht]; · iexact Ht
  iintro H
  iapply (wpT_ret c ⟨⟩ Q)
  iapply Hk
  iexact H

end Cert.KernelIdeal.Hand

end
-- ==== Proof.Phases.lean ====
module

public import proofs.«01_k».proof.Proof.Parts

/-! # What each phase does

The remaining pieces of a part, and the rule that runs a piece for each part in turn. -/

@[expose] public section

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × J → ℕ)

/-! ## For each part in turn -/

theorem bigSep_fin3 (A : Fin 3 → sProp 𝕄) : bigSep Finset.univ A = iprop(A 0 ∗ A 1 ∗ A 2) := bigSep_univ_eq_bigSepL [0, 1, 2] (by decide) (by decide) A
theorem bigSep_fin4 (A : Fin 4 → sProp 𝕄) : bigSep Finset.univ A = iprop(A 0 ∗ A 1 ∗ A 2 ∗ A 3) := bigSep_univ_eq_bigSepL [0, 1, 2, 3] (by decide) (by decide) A
theorem bigSep_fin8 (A : Fin 8 → sProp 𝕄) : bigSep Finset.univ A = iprop(A 0 ∗ A 1 ∗ A 2 ∗ A 3 ∗ A 4 ∗ A 5 ∗ A 6 ∗ A 7) :=
  bigSep_univ_eq_bigSepL [0, 1, 2, 3, 4, 5, 6, 7] (by decide) (by decide) A

/-- A piece that turns `A i` into `B i`, threading `T`, run for every part turns all of `A` into all of `B`. -/
theorem each_spec (c : Dev nD) {f : Fin 8 → P F PUnit} {A B : Fin 8 → sProp 𝕄} {T : ℕ → sProp 𝕄}
    (h : ∀ (i : Fin 8) (Q : PUnit → sProp 𝕄), iprop(recs m K ∗ A i ∗ T i.val ∗ ((B i ∗ T (i.val + 1)) -∗ Q ⟨⟩)) ⊢ wpT c (f i) Q) (Q : PUnit → sProp 𝕄) :
    iprop(recs m K ∗ bigSep Finset.univ A ∗ T 0 ∗ ((bigSep Finset.univ B ∗ T 8) -∗ Q ⟨⟩)) ⊢ wpT c (each f) Q := by
  have H (i : Fin 8) (n n' : ℕ) (hn : i.val = n) (hn' : n + 1 = n') (Q : PUnit → sProp 𝕄) :
      iprop(recs m K ∗ A i ∗ T n ∗ ((B i ∗ T n') -∗ Q ⟨⟩)) ⊢ wpT c (f i) Q := by subst hn hn'; exact h i Q
  unfold each
  simp only [wpT_bind]
  rw [bigSep_fin8, bigSep_fin8]
  iintro ⟨#HR, ⟨A0, A1, A2, A3, A4, A5, A6, A7⟩, HT, Hk⟩
  iapply (H 0 0 1 rfl rfl); isplitr; · iexact HR
  isplitl [A0]; · iexact A0
  isplitl [HT]; · iexact HT
  iintro ⟨B0, HT⟩
  iapply (H 1 1 2 rfl rfl); isplitr; · iexact HR
  isplitl [A1]; · iexact A1
  isplitl [HT]; · iexact HT
  iintro ⟨B1, HT⟩
  iapply (H 2 2 3 rfl rfl); isplitr; · iexact HR
  isplitl [A2]; · iexact A2
  isplitl [HT]; · iexact HT
  iintro ⟨B2, HT⟩
  iapply (H 3 3 4 rfl rfl); isplitr; · iexact HR
  isplitl [A3]; · iexact A3
  isplitl [HT]; · iexact HT
  iintro ⟨B3, HT⟩
  iapply (H 4 4 5 rfl rfl); isplitr; · iexact HR
  isplitl [A4]; · iexact A4
  isplitl [HT]; · iexact HT
  iintro ⟨B4, HT⟩
  iapply (H 5 5 6 rfl rfl); isplitr; · iexact HR
  isplitl [A5]; · iexact A5
  isplitl [HT]; · iexact HT
  iintro ⟨B5, HT⟩
  iapply (H 6 6 7 rfl rfl); isplitr; · iexact HR
  isplitl [A6]; · iexact A6
  isplitl [HT]; · iexact HT
  iintro ⟨B6, HT⟩
  iapply (H 7 7 8 rfl rfl); isplitr; · iexact HR
  isplitl [A7]; · iexact A7
  isplitl [HT]; · iexact HT
  iintro ⟨B7, HT⟩
  iapply Hk
  isplitr [HT]
  · isplitl [B0]; · iexact B0
    isplitl [B1]; · iexact B1
    isplitl [B2]; · iexact B2
    isplitl [B3]; · iexact B3
    isplitl [B4]; · iexact B4
    isplitl [B5]; · iexact B5
    isplitl [B6] <;> iassumption
  iexact HT

/-! ## The block of sums -/

theorem cpdS_zero (i : Fin 8) (c : Dev nD) : cpdS 0 i c = keptS 0 i c := rfl
theorem cpdS_succ (i : Fin 8) (c : Dev nD) : ∀ t : Fin 3, cpdS t.succ i c = recdS t i c
  | 0 => rfl | 1 => rfl | 2 => rfl

/-- The block a device finishes with, before it is computed. -/
def keptAny (c : Dev nD) (i : Fin 8) : sProp 𝕄 := iprop(∃ f, agPt c i (keptS 0 i c) fullShare f)

theorem fin1_spec (c : Dev nD) (i : Fin 8) (Q : PUnit → sProp 𝕄) :
    iprop(recs m K ∗ (inH c 2 i ∗ gotH m c 0 i ∗ gotH m c 1 i ∗ keptAny c i ∗ outG c 0 i ∗ outO m c 0 i) ∗ (ow c (24 + i.val) ∗ xw m c)
        ∗ (((crd c (pj i (.sg 0)) ∗ crd c (pj i (.io 0)) ∗ zero c (pj i (.rh 2)) ∗ gotH m c 0 i ∗ gotH m c 1 i ∗ gotH m c 2 i
            ∗ agPt c i (keptS 0 i c) (shr 1) (agC m i) ∗ agPt c i (keptS 0 i c) (shr 2) (agC m i)) ∗ (ow c (24 + i.val + 1) ∗ xw m c)) -∗ Q ⟨⟩))
      ⊢ wpT c (fin1 c i) Q := by
  unfold fin1 keptAny
  rw [xw]
  simp only [wpT_bind]
  iintro ⟨#HR, ⟨Hi, Hg0, Hg1, ⟨%f, Hf⟩, Ho, Hio⟩, ⟨HO, Hx, Hw⟩, Hk⟩
  iapply (get_spec m K c 2 i (24 + i.val) (by show 8 * 2 + i.val + 1 ≤ _; omega))
  isplitr; · iexact HR
  isplitl [Hi]; · iexact Hi
  isplitl [HO]; · iexact HO
  iintro ⟨Hg2, Hz, HO⟩
  iapply (load_spec c fullShare (xb m c)); isplitl [Hx]; · iexact Hx
  iintro Hx
  iapply (load_spec c fullShare (wb m c)); isplitl [Hw]; · iexact Hw
  iintro Hw
  iapply (load_spec c fullShare (got m 0 c i)); isplitl [Hg0]; · iexact Hg0
  iintro Hg0
  iapply (load_spec c fullShare (got m 1 c i)); isplitl [Hg1]; · iexact Hg1
  iintro Hg1
  iapply (load_spec c fullShare (got m 2 c i)); isplitl [Hg2]; · iexact Hg2
  iintro Hg2
  have hs : ((agM i).access (keepR i c)).set = keptS 0 i c := keep_set i c
  unfold Prog.lift
  ihave Hf := (show agPt c i (keptS 0 i c) fullShare f ⊢ ((agM i).view.loc (c : Thread nD τ) ↦[keptS 0 i c]{fullShare} f) from Entails.of_eq rfl) $$ Hf
  iapply (wp_load 𝒱₀ (c : Thread nD τ) none Set.univ (m := agM i) (S := keptS 0 i c) (Eq.subset ((View.set_slice _ _).symm.trans hs))) $$ Hf
  iintro Hf
  iapply (wpT_ret c)
  iapply (wp_store 𝒱₀ (c : Thread nD τ) none Set.univ (m := agM i) (r := keepR i c) (Mk := Finset.univ) (S := keptS 0 i c) (Eq.subset hs)) $$ Hf
  iintro Hf
  iapply (wpT_ret c)
  have hw : ∀ j ∈ keptS 0 i c, ((agM i).access (keepR i c)).write (Elt F) f (fin m c i) Finset.univ j = agC m i j := fun j hj =>
    pts_write ((agM i).access (keepR i c)) f (agC m i) (fin m c i) (by
      show fin m c i = cut (keepR i c) ((agM i).view.read (Elt F) (agC m i))
      rw [read_agC]; exact funext (fin_cols m c i)) j (by rw [hs]; exact hj)
  have hst : (((agM i).access (keepR i c)).loc (c : Thread nD τ) ↦[keptS 0 i c]{fullShare} ((agM i).access (keepR i c)).write (Elt F) f
        (k0_pay58 (cut (keepR i c) (xb m c)) (cut (colR i) (wb m c)) (cut (rvR 0 i c) (got m 0 c i)) (cut (rvR 1 i c) (got m 1 c i)) (cut (rvR 2 i c) (got m 2 c i))) Finset.univ)
      ⊢ iprop((agPt c i (keptS 0 i c) (shr 0) (agC m i) ∗ agPt c i (keptS 0 i c) (shr 1) (agC m i)) ∗ agPt c i (keptS 0 i c) (shr 2) (agC m i) ∗ agPt c i (keptS 0 i c) (shr 3) (agC m i)) :=
    Entails.of_eq ((pointsTo_congr hw).trans (agPt_shares c i (keptS 0 i c) (agC m i)))
  ihave Hf' := hst $$ Hf
  icases Hf' with ⟨⟨H0, H1⟩, H2, H3⟩
  iapply (give1_spec m K c 0 i)
  isplitr; · iexact HR
  isplitl [H0]; · iexact H0
  isplitl [Ho]; · iexact Ho
  isplitl [HO]; · iexact HO
  iintro ⟨Hc, HO⟩
  iapply (out1_spec m K c 0 i)
  isplitr; · iexact HR
  isplitl [H3]; · iexact H3
  isplitl [Hio]; · iexact Hio
  iintro Hc'
  iapply Hk
  isplitr [HO Hx Hw]
  · isplitl [Hc]; · iexact Hc
    isplitl [Hc']; · iexact Hc'
    isplitl [Hz]; · iexact Hz
    isplitl [Hg0]; · iexact Hg0
    isplitl [Hg1]; · iexact Hg1
    isplitl [Hg2]; · iexact Hg2
    isplitl [H1] <;> iassumption
  isplitl [HO]; · iexact HO
  isplitl [Hx] <;> iassumption

/-! ## The doubling -/

/-- Of a received row's four shares: that sent next, that copied out, and the two kept for later. -/
theorem pick (A : PosShare TreeShare → sProp 𝕄) : ∀ t : Fin 2, iprop((A (shr 0) ∗ A (shr 1)) ∗ A (shr 2) ∗ A (shr 3))
    ⊢ iprop((A (shr (t.succ.castLE (by decide))) ∗ A (shr 3)) ∗ A (shr 0) ∗ A (shr (if t = 0 then 2 else 1)))
  | 0 => by
    show _ ⊢ iprop((A (shr 1) ∗ A (shr 3)) ∗ A (shr 0) ∗ A (shr 2))
    iintro ⟨⟨H0, H1⟩, H2, H3⟩
    isplitl [H1 H3]
    · isplitl [H1] <;> iassumption
    isplitl [H0] <;> iassumption
  | 1 => by
    show _ ⊢ iprop((A (shr 2) ∗ A (shr 3)) ∗ A (shr 0) ∗ A (shr 1))
    iintro ⟨⟨H0, H1⟩, H2, H3⟩
    isplitl [H2 H3]
    · isplitl [H2] <;> iassumption
    isplitl [H0] <;> iassumption

/-- Take the partner's rows of round `t`, give all the rows held, and copy the new ones out; the shares of
    the rows sent are `shr (t + 1)`. -/
theorem next_spec (c : Dev nD) (t : Fin 2) (i : Fin 8) (n : ℕ) (hn : n = 8 * (t.succ.val + 3)) (Q : PUnit → sProp 𝕄) :
    iprop(recs m K ∗ (inG c t.castSucc i ∗ agPt c i (keptS t.castSucc i c) (shr (t.succ.castLE (by decide))) (agC m i) ∗ outG c t.succ i ∗ outO m c t.succ.castSucc i) ∗ ow c (n + i.val)
        ∗ (((crd c (pj i (.sg t.succ)) ∗ crd c (pj i (.io t.succ.castSucc)) ∗ zero c (pj i (.rg t.castSucc))
            ∗ agPt c i (recdS t.castSucc i c) (shr 0) (agC m i) ∗ agPt c i (recdS t.castSucc i c) (shr (if t = 0 then 2 else 1)) (agC m i))
            ∗ ow c (n + i.val + 1)) -∗ Q ⟨⟩))
      ⊢ wpT c (do take1 c t.castSucc i; give1 c t.succ i; out1 c t.succ.castSucc i) Q := by
  subst hn
  have hsplit : (agPt c i (recdS t.castSucc i c) fullShare (agC m i) : sProp 𝕄)
      ⊢ iprop((agPt c i (recdS t.castSucc i c) (shr (t.succ.castLE (by decide))) (agC m i) ∗ agPt c i (cpdS t.succ.castSucc i c) (shr 3) (agC m i))
        ∗ agPt c i (recdS t.castSucc i c) (shr 0) (agC m i) ∗ agPt c i (recdS t.castSucc i c) (shr (if t = 0 then 2 else 1)) (agC m i)) := by
    rw [agPt_shares, show (t.succ.castSucc : Fin 4) = t.castSucc.succ from rfl, cpdS_succ]
    exact pick (fun q => agPt c i (recdS t.castSucc i c) q (agC m i)) t
  have hjoin : iprop(agPt c i (keptS t.castSucc i c) (shr (t.succ.castLE (by decide))) (agC m i) ∗ agPt c i (recdS t.castSucc i c) (shr (t.succ.castLE (by decide))) (agC m i))
      ⊢ (agPt c i (keptS t.succ i c) (shr (t.succ.castLE (by decide))) (agC m i) : sProp 𝕄) := by
    rw [← agPt_step]
    exact Entails.of_eq (by fin_cases t <;> rfl)
  simp only [wpT_bind]
  iintro ⟨#HR, ⟨Hi, Hs, Ho, Hio⟩, HO, Hk⟩
  iapply (take1_spec m K c t.castSucc i (8 * (t.succ.val + 3) + i.val) (by show 8 * (t.val + 3) + _ + 1 ≤ 8 * (t.val + 1 + 3) + _; omega))
  isplitr; · iexact HR
  isplitl [Hi]; · iexact Hi
  isplitl [HO]; · iexact HO
  iintro ⟨Hr, Hz, HO⟩
  ihave Hr' := hsplit $$ Hr
  icases Hr' with ⟨⟨Ha, Hb⟩, Hr0, Hr1⟩
  iapply (give1_spec m K c t.succ i)
  isplitr; · iexact HR
  isplitl [Hs Ha]
  · iapply hjoin
    isplitl [Hs] <;> iassumption
  isplitl [Ho]; · iexact Ho
  isplitl [HO]; · iexact HO
  iintro ⟨Hc, HO⟩
  iapply (out1_spec m K c t.succ.castSucc i)
  isplitr; · iexact HR
  isplitl [Hb]; · iexact Hb
  isplitl [Hio]; · iexact Hio
  iintro Hc'
  iapply Hk
  isplitr [HO]
  · isplitl [Hc]; · iexact Hc
    isplitl [Hc']; · iexact Hc'
    isplitl [Hz]; · iexact Hz
    isplitl [Hr0] <;> iassumption
  iexact HO

theorem ag1_spec (c : Dev nD) (i : Fin 8) (Q : PUnit → sProp 𝕄) :
    iprop(recs m K ∗ (inG c 0 i ∗ agPt c i (keptS 0 i c) (shr 1) (agC m i) ∗ outG c 1 i ∗ outO m c 1 i) ∗ ow c (32 + i.val)
        ∗ (((crd c (pj i (.sg 1)) ∗ crd c (pj i (.io 1)) ∗ zero c (pj i (.rg 0))
            ∗ agPt c i (recdS 0 i c) (shr 0) (agC m i) ∗ agPt c i (recdS 0 i c) (shr 2) (agC m i)) ∗ ow c (32 + i.val + 1)) -∗ Q ⟨⟩))
      ⊢ wpT c (ag1 c i) Q := next_spec m K c 0 i 32 rfl Q

theorem ag2_spec (c : Dev nD) (i : Fin 8) (Q : PUnit → sProp 𝕄) :
    iprop(recs m K ∗ (inG c 1 i ∗ (agPt c i (keptS 0 i c) (shr 2) (agC m i) ∗ agPt c i (recdS 0 i c) (shr 2) (agC m i)) ∗ outG c 2 i ∗ outO m c 2 i) ∗ ow c (40 + i.val)
        ∗ (((crd c (pj i (.sg 2)) ∗ crd c (pj i (.io 2)) ∗ zero c (pj i (.rg 1))
            ∗ agPt c i (recdS 1 i c) (shr 0) (agC m i) ∗ agPt c i (recdS 1 i c) (shr 1) (agC m i)) ∗ ow c (40 + i.val + 1)) -∗ Q ⟨⟩))
      ⊢ wpT c (ag2 c i) Q := by
  rw [← agPt_step]; exact next_spec m K c 1 i 40 rfl Q

theorem ag3_spec (c : Dev nD) (i : Fin 8) (Q : PUnit → sProp 𝕄) :
    iprop(recs m K ∗ (inG c 2 i ∗ outO m c 3 i) ∗ ow c 48
        ∗ (((crd c (pj i (.io 3)) ∗ zero c (pj i (.rg 2)) ∗ agPt c i (recdS 2 i c) (shr 0) (agC m i) ∗ agPt c i (recdS 2 i c) (shr 1) (agC m i)
            ∗ agPt c i (recdS 2 i c) (shr 2) (agC m i)) ∗ ow c 48) -∗ Q ⟨⟩))
      ⊢ wpT c (ag3 c i) Q := by
  unfold ag3
  simp only [wpT_bind]
  iintro ⟨#HR, ⟨Hi, Hio⟩, HO, Hk⟩
  iapply (take1_spec m K c 2 i 48 (by have := i.isLt; show 8 * (2 + 3) + i.val + 1 ≤ 48; omega))
  isplitr; · iexact HR
  isplitl [Hi]; · iexact Hi
  isplitl [HO]; · iexact HO
  iintro ⟨Hr, Hz, HO⟩
  ihave Hr' := (Entails.of_eq (agPt_shares c i (recdS 2 i c) (agC m i))) $$ Hr
  icases Hr' with ⟨⟨H0, H1⟩, H2, H3⟩
  iapply (out1_spec m K c 3 i)
  isplitr; · iexact HR
  isplitl [H3]; · iexact H3
  isplitl [Hio]; · iexact Hio
  iintro Hc
  iapply Hk
  isplitr [HO]
  · isplitl [Hc]; · iexact Hc
    isplitl [Hz]; · iexact Hz
    isplitl [H0]; · iexact H0
    isplitl [H1] <;> iassumption
  iexact HO

/-! ## The last waits -/

/-- A wait once everything is paid. -/
theorem last_spec (c : Dev nD) (i : Fin 8) (κ : Kp) (hl : lvJ (pj i κ) ≤ 48) {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (semOf (pj i κ)) (amt (pj i κ)) Q)
    (R : sProp 𝕄) (hR : pay m c (pj i κ) 0 = R) (Q : PUnit → sProp 𝕄) :
    iprop(recs m K ∗ (crd c (pj i κ) ∗ pos c (pj i κ)) ∗ ow c 48 ∗ (((R ∗ zero c (pj i κ)) ∗ ow c 48) -∗ Q ⟨⟩)) ⊢ wpT c (Prog.lift w) Q := by
  unfold Prog.lift
  iintro ⟨#HR, ⟨Hc, Hp⟩, HO, Hk⟩
  iapply (wait_own m K c (.inl (i, κ)) 48 hl hw R hR)
  isplitr; · iexact HR
  isplitl [Hc]; · iexact Hc
  isplitl [Hp]; · iexact Hp
  isplitl [HO]; · iexact HO
  iintro ⟨Hr, Hz, HO⟩
  iapply (wpT_ret c ⟨⟩ Q)
  iapply Hk
  isplitr [HO]
  · isplitl [Hr] <;> iassumption
  iexact HO

theorem outW_spec (c : Dev nD) (t : Fin 4) (i : Fin 8) (Q : PUnit → sProp 𝕄) :
    iprop(recs m K ∗ (crd c (pj i (.io t)) ∗ pos c (pj i (.io t))) ∗ ow c 48
        ∗ ((((outPt c i t (res m) ∗ agPt c i (cpdS t i c) (shr 3) (agC m i)) ∗ zero c (pj i (.io t))) ∗ ow c 48) -∗ Q ⟨⟩)) ⊢ wpT c (outW c t i) Q :=
  last_spec m K c i (.io t) (Nat.zero_le _) (by intro Q; rw [show amt (pj i (.io t)) = cO t from rfl, ← out_credit t i c]; exact wpE_waitDma2_eq 𝒱₀ (c : Thread nD τ) none Set.univ Q) _ rfl Q

theorem leftW_spec (c : Dev nD) (k : Fin 3) (i : Fin 8) (Q : PUnit → sProp 𝕄) :
    iprop(recs m K ∗ (crd c (pj i (.sh k)) ∗ pos c (pj i (.sh k))) ∗ ow c 48 ∗ (((sbAny c i k ∗ zero c (pj i (.sh k))) ∗ ow c 48) -∗ Q ⟨⟩)) ⊢ wpT c (leftW k i) Q :=
  last_spec m K c i (.sh k) (Nat.zero_le _) (by intro Q; rw [show amt (pj i (.sh k)) = cH k from rfl, ← sb_credit i k]; exact wpE_waitDma2_eq 𝒱₀ (c : Thread nD τ) none Set.univ Q) _ rfl Q

theorem goneW_spec (c : Dev nD) (t : Fin 3) (i : Fin 8) (Q : PUnit → sProp 𝕄) :
    iprop(recs m K ∗ (crd c (pj i (.sg t)) ∗ pos c (pj i (.sg t))) ∗ ow c 48
        ∗ (((agPt c i (keptS t i c) (shr (t.castLE (by decide))) (agC m i) ∗ zero c (pj i (.sg t))) ∗ ow c 48) -∗ Q ⟨⟩)) ⊢ wpT c (goneW c t i) Q :=
  last_spec m K c i (.sg t) (Nat.zero_le _) (by intro Q; rw [show amt (pj i (.sg t)) = cG t from rfl, ← ag_credit t i c]; exact wpE_waitDma2_eq 𝒱₀ (c : Thread nD τ) none Set.univ Q) _ rfl Q

/-- What the last waits of a part use and leave. -/
def owedW (c : Dev nD) (i : Fin 8) (κ : Kp) : sProp 𝕄 := iprop(crd c (pj i κ) ∗ pos c (pj i κ))

theorem doneW_spec (c : Dev nD) (i : Fin 8) (Q : PUnit → sProp 𝕄) :
    iprop(recs m K ∗ (owedW c i (.sh 0) ∗ owedW c i (.sh 1) ∗ owedW c i (.sh 2) ∗ owedW c i (.sg 0) ∗ owedW c i (.sg 1) ∗ owedW c i (.sg 2)) ∗ ow c 48
        ∗ ((((sbAny c i 0 ∗ zero c (pj i (.sh 0))) ∗ (sbAny c i 1 ∗ zero c (pj i (.sh 1))) ∗ (sbAny c i 2 ∗ zero c (pj i (.sh 2)))
            ∗ (agPt c i (keptS 0 i c) (shr 0) (agC m i) ∗ zero c (pj i (.sg 0))) ∗ (agPt c i (keptS 1 i c) (shr 1) (agC m i) ∗ zero c (pj i (.sg 1)))
            ∗ (agPt c i (keptS 2 i c) (shr 2) (agC m i) ∗ zero c (pj i (.sg 2)))) ∗ ow c 48) -∗ Q ⟨⟩)) ⊢ wpT c (doneW c i) Q := by
  unfold doneW owedW
  simp only [wpT_bind]
  iintro ⟨#HR, ⟨H0, H1, H2, H3, H4, H5⟩, HO, Hk⟩
  iapply (leftW_spec m K c 0 i); isplitr; · iexact HR
  isplitl [H0]; · iexact H0
  isplitl [HO]; · iexact HO
  iintro ⟨R0, HO⟩
  iapply (leftW_spec m K c 1 i); isplitr; · iexact HR
  isplitl [H1]; · iexact H1
  isplitl [HO]; · iexact HO
  iintro ⟨R1, HO⟩
  iapply (leftW_spec m K c 2 i); isplitr; · iexact HR
  isplitl [H2]; · iexact H2
  isplitl [HO]; · iexact HO
  iintro ⟨R2, HO⟩
  iapply (goneW_spec m K c 0 i); isplitr; · iexact HR
  isplitl [H3]; · iexact H3
  isplitl [HO]; · iexact HO
  iintro ⟨R3, HO⟩
  iapply (goneW_spec m K c 1 i); isplitr; · iexact HR
  isplitl [H4]; · iexact H4
  isplitl [HO]; · iexact HO
  iintro ⟨R4, HO⟩
  iapply (goneW_spec m K c 2 i); isplitr; · iexact HR
  isplitl [H5]; · iexact H5
  isplitl [HO]; · iexact HO
  iintro ⟨R5, HO⟩
  iapply Hk
  isplitr [HO]
  · isplitl [R0]; · iexact R0
    isplitl [R1]; · iexact R1
    isplitl [R2]; · iexact R2
    isplitl [R3]; · iexact R3
    isplitl [R4]; · iexact R4
    iexact R5
  iexact HO

end Cert.KernelIdeal.Hand

end
-- ==== Proof.Start.lean ====
module

public import proofs.«01_k».proof.Proof.Phases

/-! # Loading the inputs and meeting the partners

A device lends its partners the places they write, and is lent theirs. -/

@[expose] public section

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × J → ℕ)

/-! ## What is lent -/

def dirEquiv (i : Fin 8) : Fin 3 ≃ Fin 3 := ⟨dir i, dirInv i, dirInv_dir i, dir_dirInv i⟩

/-- Everything lent in every direction, part by part, is everything lent for every part, round by round. -/
theorem by_part (A : Fin 3 → Fin 8 → Fin 3 → sProp 𝕄) :
    (bigSep Finset.univ fun d => bigSep Finset.univ fun i => A d i (dirInv i d)) = bigSep Finset.univ fun i => bigSep Finset.univ fun k => A (dir i k) i k := by
  rw [bigSep_fin3, ← bigSep_sep', ← bigSep_sep']
  refine bigSep_congr fun i _ => ?_
  refine Eq.trans (bigSep_fin3 fun d => A d i (dirInv i d)).symm ?_
  rw [bigSep_univ_equiv (dirEquiv i)]
  refine bigSep_congr fun k _ => ?_
  show A (dir i k) i (dirInv i (dir i k)) = _
  rw [dirInv_dir]

/-- What device `c` lends. -/
def lends (c : Dev nD) : sProp 𝕄 := bigSep Finset.univ fun i : Fin 8 => bigSep Finset.univ fun k : Fin 3 => lend c i k
/-- What it is lent. -/
def lent (c : Dev nD) : sProp 𝕄 := bigSep Finset.univ fun i : Fin 8 => bigSep Finset.univ fun k : Fin 3 => lend (across (dir i k) c) i k

theorem lends_eq (c : Dev nD) : (lends c : sProp 𝕄) = iprop(pay m (across 0 c) (.inr ()) 0 ∗ pay m (across 1 c) (.inr ()) 1 ∗ pay m (across 2 c) (.inr ()) 2) := by
  rw [lends, ← by_part (fun _ i k => lend c i k), bigSep_fin3]
  unfold pay
  simp only [across_across]
theorem lent_eq (c : Dev nD) : (bigSep Finset.univ fun d : Fin 3 => pay m c (.inr ()) d) = lent c := by
  unfold lent pay; exact by_part (fun d i k => lend (across d c) i k)

/-! ## The barrier -/

def O₁ (c : Dev nD) : CellTallies nD τ sig Unit := (owe c 0 + tallyAt (bcell (across 2 c)) () 1) + tallyAt (bcell (across 1 c)) () 1
def O₂ (c : Dev nD) : CellTallies nD τ sig Unit := owe c 0 + tallyAt (bcell (across 2 c)) () 1

theorem signal_spec (c c' : Dev nD) (d : Fin 3) (O' : CellTallies nD τ sig Unit) (Q : PUnit → sProp 𝕄) :
    iprop(recs m K ∗ (∃ W, owes (c : Thread nD τ) (O' + tallyAt (bcell c') () 1) W) ∗ tok c' (.inr ()) d ∗ pay m c' (.inr ()) d
        ∗ ((∃ W, owes (c : Thread nD τ) O' W) -∗ Q ⟨⟩)) ⊢ wpT c (semSignalWord c' bar 1#32) Q := by
  unfold semSignalWord
  iintro ⟨#HR, ⟨%W, HO⟩, Ht, Hp, Hk⟩
  iapply (Rounds.wp_signal 𝒱₀ ER (Rd m) (c : Thread nD τ) none (dst := (c' : Thread nD τ)) (κ := K (c', .inr ()))
      (d := d) (by show d ∈ (Rd m).duties (kcell (c', .inr ())) 0; rw [Rd_duties]; exact Finset.mem_univ _) ((Rd_amount m c' (.inr ()) d).trans (by decide)) () O' rfl) $$ [HO Ht Hp]
  · isplitr; · iapply (recs_inv m K (c', .inr ())); iexact HR
    isplitl [HO]; · iexact HO
    isplitl [Ht]; · iexact Ht
    isplitl [Hp]; · iapply (show pay m c' (.inr ()) d ⊢ (Rd m).payload ((c' : Thread nD τ), SemLoc.reg bar) 0 d from Entails.of_eq (Rd_payload m c' (.inr ()) d).symm); iexact Hp
    iapply (recs_reached m K (c', .inr ())); iexact HR
  iintro HO
  iapply (wpT_ret c ⟨⟩ Q)
  iapply Hk
  iexists W; iexact HO

theorem meet_spec (c : Dev nD) (Q : PUnit → sProp 𝕄) :
    iprop(recs m K ∗ cred (tallyAt (bcell c) () 3) ∗ pos c (.inr ()) ∗ ow c 0 ∗ ((lent c ∗ zero c (.inr ()) ∗ ow c 0) -∗ Q ⟨⟩))
      ⊢ wpT c (semWaitWord bar 3#32) Q := by
  unfold semWaitWord ow
  iintro ⟨#HR, Hc, Ha, ⟨%W, HO⟩, Hk⟩
  iapply (Rounds.wp_wait_rest_token 𝒱₀ ER (Rd m) (c : Thread nD τ) none (sm := semOf (.inr ())) (k' := 3) (κ := K (c, .inr ()))
      (wpE_semWait_eq 𝒱₀ (c : Thread nD τ) none Set.univ) (Set.mem_univ _) ()
      (O := owe c 0) (W := W) (R := 0) (m := 0) (T := ∅) (by rw [Nat.zero_add]; exact (Rd_expect_bar m c).symm)) $$ [Hc HO Ha]
  · isplitr; · iapply (recs_inv m K (c, .inr ())); iexact HR
    isplitl [Hc]; · iexact Hc
    isplitl [HO]; · iexact HO
    isplitr
    · iapply (may (F := F) c (.inr ()) 0 (Nat.le_refl 0)); iapply (recs_lev m K); iexact HR
    iexact Ha
  iintro ⟨HO, Ha, -, Hp⟩
  ihave Hp' := (Entails.of_eq ((Rd_rest_bar m c).trans (lent_eq m c))) $$ Hp
  imod (Rounds.cell_close ER (Rd m) (Set.mem_univ (K (c, .inr ()))) (fun h => h) (R := 0 + 1) (Rd_later m (kcell (c, .inr ())))) $$ [Ha] with Hz
  · isplitr; · iapply (recs_inv m K (c, .inr ())); iexact HR
    iexact Ha
  iapply (wpT_ret c ⟨⟩ Q)
  iapply Hk
  isplitl [Hp']; · iexact Hp'
  isplitl [Hz]; · iexact Hz
  iexists _; iexact HO

/-! ## The inputs -/

theorem all_emb {d : Fin 2 → ℕ} (h : ∀ a, (![0, 0] : Fin 2 → Nat) a + d a ≤ d a) (x : (⟨2, d⟩ : Shape).Idx) :
    (Rect.unit (s := ⟨2, d⟩) ![0, 0] d h).emb x = x := by
  funext a
  refine Fin.ext ?_
  show (![0, 0] : Fin 2 → Nat) a + 1 * (x a).val = (x a).val
  revert a
  exact Fin.forall_fin_two.mpr ⟨by simp, by simp⟩

/-- What a buffer holds, whatever it is. -/
def bufAny (c : Dev nD) (b : Ref sig .tc) : sProp 𝕄 := iprop(∃ f : Buf (Elt F) ((c : Thread nD τ).loc b), ((c : Thread nD τ).loc b) ↦{fullShare} f)

/-- Cast a buffer into another. -/
theorem cast_spec (c : Dev nD) {d : Fin 2 → ℕ} {sp sp' : CoreSpace} {e e' : EltTy} {M : Memref sig .tc sp ⟨2, d⟩ e} {N : Memref sig .tc sp' ⟨2, d⟩ e'}
    (h : ∀ a, (![0, 0] : Fin 2 → Nat) a + d a ≤ d a)
    {hl : M.view.LoadsAt (Rect.unit (s := ⟨2, d⟩) ![0, 0] d h).toLoadRect} {hl' : N.view.LoadsAt (Rect.unit (s := ⟨2, d⟩) ![0, 0] d h).toLoadRect}
    (g : ((⟨2, d⟩ : Shape).Idx → Elt F e) → ((⟨2, d⟩ : Shape).Idx → Elt F e')) (X : (⟨2, d⟩ : Shape).Idx → Elt F e)
    {hs : (N.access (Rect.unit (s := ⟨2, d⟩) ![0, 0] d h)).Stores Finset.univ} {hm} (Q : PUnit → sProp 𝕄) :
    iprop(owns (c : Thread nD τ) M fullShare X ∗ (∃ f, N.view.loc (c : Thread nD τ) ↦[N.view.set]{fullShare} f)
        ∗ ((owns (c : Thread nD τ) M fullShare X ∗ owns (c : Thread nD τ) N fullShare (g X)) -∗ Q ⟨⟩))
      ⊢ wpT c (Prog.lift (.load M (Rect.unit (s := ⟨2, d⟩) ![0, 0] d h).toLoadRect hl)) fun x =>
          wpT c (Prog.lift (.load N (Rect.unit (s := ⟨2, d⟩) ![0, 0] d h).toLoadRect hl')) fun _ =>
            wpT c (Prog.lift (.store N (Rect.unit (s := ⟨2, d⟩) ![0, 0] d h) (g x) Finset.univ hs hm)) Q := by
  have hX : cut (Rect.unit (s := ⟨2, d⟩) ![0, 0] d h) X = X := funext fun x => congrArg X (all_emb h x)
  iintro ⟨Hx, ⟨%f, Hf⟩, Hk⟩
  iapply (load_spec c fullShare X); isplitl [Hx]; · iexact Hx
  iintro Hx
  rw [hX]
  unfold Prog.lift
  iapply (wp_load 𝒱₀ (c : Thread nD τ) none Set.univ (m := N) (View.setOn_subset_set _ _)) $$ Hf
  iintro Hf
  iapply (wpT_ret c)
  iapply (wp_store 𝒱₀ (c : Thread nD τ) none Set.univ (m := N) (r := Rect.unit (s := ⟨2, d⟩) ![0, 0] d h) (Mk := Finset.univ)
    (S := N.view.set) (View.set_slice_subset _ _)) $$ Hf
  iintro Hf
  have hr : N.view.read (Elt F) ((N.access (Rect.unit (s := ⟨2, d⟩) ![0, 0] d h)).write (Elt F) f (g X) Finset.univ) = g X := by
    funext x
    have := View.read_slice_write_emb (v := N.view) (Val := Elt F) (Rect.unit (s := ⟨2, d⟩) ![0, 0] d h) f (g X) (M := Finset.univ) (x := x) (Finset.mem_univ _)
    rw [all_emb] at this
    exact this
  iapply (wpT_ret c ⟨⟩ Q)
  iapply Hk
  isplitl [Hx]; · iexact Hx
  iapply (show (N.view.loc (c : Thread nD τ) ↦[N.view.set]{fullShare} (N.access (Rect.unit (s := ⟨2, d⟩) ![0, 0] d h)).write (Elt F) f (g X) Finset.univ)
      ⊢ owns (c : Thread nD τ) N fullShare (g X) from (owns_intro _ _ _ _).trans (Entails.of_eq (by rw [hr])))
  iexact Hf

/-- Start an input's copy, whose cell is paid with both buffers. -/
theorem fetch_spec (c : Dev nD) (a : Fin 2) {s : Shape} {e : EltTy} {sp sp' : Space} {src : Memref sig .tc sp s e} {dst : Memref sig .tc sp' s e}
    {hsrc : src.view.WordExact} {hdst : dst.view.WordExact} {hsem : DmaTarget.Typed (nD := nD) (p := (c : Thread nD τ).2) sp (semOf (.inl (.inr a))) (.here dst)}
    (fs : src.view.ty.Contents (Elt F)) (hN : dst.view.amount (semOf (.inl (.inr a))) = amt (.inl (.inr a))) (fd : dst.view.ty.Contents (Elt F))
    (hp : iprop((dst.view.loc (c : Thread nD τ) ↦[dst.view.set]{fullShare} (dst.view.write (Elt F) fd (src.view.read (Elt F) fs) Finset.univ))
        ∗ (src.view.loc (c : Thread nD τ) ↦[src.view.set]{fullShare} fs)) ⊢ inPt m c a) (Q : PUnit → sProp 𝕄) :
    iprop(recs m K ∗ (src.view.loc (c : Thread nD τ) ↦[src.view.set]{fullShare} fs) ∗ (dst.view.loc (c : Thread nD τ) ↦[dst.view.set]{fullShare} fd)
        ∗ tok c (.inl (.inr a)) 0 ∗ (crd c (.inl (.inr a)) -∗ Q ⟨⟩))
      ⊢ wpT c (Prog.lift (.enqueueDma src (.here dst) (semOf (.inl (.inr a))) hsrc hdst hsem)) Q := by
  unfold Prog.lift
  iintro ⟨#HR, Hs, Hd, Ht, Hk⟩
  iapply (copy_own m K c (.inr a) fullShare fs fd hN hp)
  isplitr; · iexact HR
  isplitl [Hs]; · iexact Hs
  isplitl [Hd]; · iexact Hd
  isplitl [Ht]; · iexact Ht
  iintro H
  iapply (wpT_ret c ⟨⟩ Q)
  iapply Hk
  iexact H

/-- Wait for it. -/
theorem fetched_spec (c : Dev nD) (a : Fin 2) {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (semOf (.inl (.inr a))) (amt (.inl (.inr a))) Q)
    (Q : PUnit → sProp 𝕄) :
    iprop(recs m K ∗ crd c (.inl (.inr a)) ∗ pos c (.inl (.inr a)) ∗ ow c 0 ∗ ((inPt m c a ∗ zero c (.inl (.inr a)) ∗ ow c 0) -∗ Q ⟨⟩)) ⊢ wpT c (Prog.lift w) Q := by
  unfold Prog.lift
  iintro ⟨#HR, Hc, Hp, HO, Hk⟩
  iapply (wait_own m K c (.inr a) 0 (Nat.zero_le _) hw _ rfl)
  isplitr; · iexact HR
  isplitl [Hc]; · iexact Hc
  isplitl [Hp]; · iexact Hp
  isplitl [HO]; · iexact HO
  iintro H
  iapply (wpT_ret c ⟨⟩ Q)
  iapply Hk
  iexact H

/-! ## The start -/

abbrev arg0 (c : Dev nD) : sProp 𝕄 := ((c : Thread nD τ).loc main_arg0) ↦{fullShare} m ((c : Thread nD τ).loc main_arg0)
abbrev arg1 (c : Dev nD) : sProp 𝕄 := ((c : Thread nD τ).loc main_arg1) ↦{fullShare} m ((c : Thread nD τ).loc main_arg1)

/-- What the start uses. -/
def startIn (c : Dev nD) : sProp 𝕄 :=
  iprop((arg0 m c ∗ arg1 m c ∗ bufAny c cc0_scratch0 ∗ bufAny c cc0_scratch1 ∗ bufAny c cc0_scratch2 ∗ bufAny c cc0_scratch3)
    ∗ ((tok c (.inl (.inr 0)) 0 ∗ pos c (.inl (.inr 0))) ∗ (tok c (.inl (.inr 1)) 0 ∗ pos c (.inl (.inr 1))))
    ∗ (tok (across 0 c) (.inr ()) 0 ∗ tok (across 1 c) (.inr ()) 1 ∗ tok (across 2 c) (.inr ()) 2)
    ∗ pos c (.inr ()) ∗ cred (tallyAt (bcell c) () 3) ∗ lends c)
/-- What it leaves beside what the device is lent and the two inputs, cast. -/
def startOut (c : Dev nD) : sProp 𝕄 :=
  iprop((arg0 m c ∗ arg1 m c ∗ bufAny c cc0_scratch0 ∗ bufAny c cc0_scratch1) ∗ zero c (.inl (.inr 0)) ∗ zero c (.inl (.inr 1)) ∗ zero c (.inr ()))

theorem start_spec (c : Dev nD) (Q : PUnit → sProp 𝕄) :
    iprop(recs m K ∗ startIn m c ∗ (∃ W, owes (c : Thread nD τ) (owe₀ c) W)
        ∗ ((startOut m c ∗ lent c ∗ xw m c ∗ ow c 0) -∗ Q ⟨⟩)) ⊢ wpT c (start c) Q := by
  unfold start startIn startOut bufAny
  simp only [wpT_bind]
  rw [lends_eq m c, xw]
  iintro ⟨#HR, ⟨⟨Ha0, Ha1, ⟨%f0, Hf0⟩, ⟨%f1, Hf1⟩, ⟨%f2, Hf2⟩, ⟨%f3, Hf3⟩⟩, ⟨⟨Ht0, Hp0⟩, ⟨Ht1, Hp1⟩⟩, ⟨Hs0, Hs1, Hs2⟩, Hpb, Hcb, ⟨Hl0, Hl1, Hl2⟩⟩, HO, Hk⟩
  iapply (fetch_spec m K c 0 (src := xH) (dst := x32) (m ((c : Thread nD τ).loc main_arg0)) rfl f0 (by
    rw [View.set_whole, View.set_whole, View.write_whole_univ]; unfold inPt
    iintro ⟨H, H'⟩; isplitl [H']; · iexact H'
    iexact H))
  isplitr; · iexact HR
  isplitl [Ha0]; · rw [View.set_whole]; iexact Ha0
  isplitl [Hf0]; · rw [View.set_whole]; iexact Hf0
  isplitl [Ht0]; · iexact Ht0
  iintro Hc0
  iapply (fetch_spec m K c 1 (src := wH) (dst := w32) (m ((c : Thread nD τ).loc main_arg1)) rfl f1 (by
    rw [View.set_whole, View.set_whole, View.write_whole_univ]; unfold inPt
    iintro ⟨H, H'⟩; isplitl [H']; · iexact H'
    iexact H))
  isplitr; · iexact HR
  isplitl [Ha1]; · rw [View.set_whole]; iexact Ha1
  isplitl [Hf1]; · rw [View.set_whole]; iexact Hf1
  isplitl [Ht1]; · iexact Ht1
  iintro Hc1
  iapply (signal_spec m K c (across 0 c) 0 (O₁ c))
  isplitr; · iexact HR
  isplitl [HO]; · iexact HO
  isplitl [Hs0]; · iexact Hs0
  isplitl [Hl0]; · iexact Hl0
  iintro HO
  iapply (signal_spec m K c (across 1 c) 1 (O₂ c))
  isplitr; · iexact HR
  isplitl [HO]; · iexact HO
  isplitl [Hs1]; · iexact Hs1
  isplitl [Hl1]; · iexact Hl1
  iintro HO
  iapply (signal_spec m K c (across 2 c) 2 (owe c 0))
  isplitr; · iexact HR
  isplitl [HO]; · iexact HO
  isplitl [Hs2]; · iexact Hs2
  isplitl [Hl2]; · iexact Hl2
  iintro HO
  iapply (meet_spec m K c)
  isplitr; · iexact HR
  isplitl [Hcb]; · iexact Hcb
  isplitl [Hpb]; · iexact Hpb
  isplitl [HO]; · unfold ow; iexact HO
  iintro ⟨Hlent, Hzb, HO⟩
  iapply (fetched_spec m K c 0 (fun Q => wpE_waitDma2_eq 𝒱₀ (c : Thread nD τ) none Set.univ Q))
  isplitr; · iexact HR
  isplitl [Hc0]; · iexact Hc0
  isplitl [Hp0]; · iexact Hp0
  isplitl [HO]; · iexact HO
  iintro ⟨Hi0, Hz0, HO⟩
  iapply (fetched_spec m K c 1 (fun Q => wpE_waitDma2_eq 𝒱₀ (c : Thread nD τ) none Set.univ Q))
  isplitr; · iexact HR
  isplitl [Hc1]; · iexact Hc1
  isplitl [Hp1]; · iexact Hp1
  isplitl [HO]; · iexact HO
  iintro ⟨Hi1, Hz1, HO⟩
  unfold inPt
  icases Hi0 with ⟨Ha0, Hx⟩
  icases Hi1 with ⟨Ha1, Hw⟩
  iapply (cast_spec c (M := x32) (N := xM) inb_S2048x256_S2048x256_0_0 k0_pay1 (xin m c))
  isplitl [Hx]; · rw [owns_whole]; iexact Hx
  isplitl [Hf2]; · iexists f2; rw [View.set_whole]; iexact Hf2
  iintro ⟨Hx, Hxb⟩
  iapply (cast_spec c (M := w32) (N := wM) inb_S256x2048_S256x2048_0_0 k0_pay2 (win m c))
  isplitl [Hw]; · rw [owns_whole]; iexact Hw
  isplitl [Hf3]; · iexists f3; rw [View.set_whole]; iexact Hf3
  iintro ⟨Hw, Hwb⟩
  iapply Hk
  isplitl [Ha0 Ha1 Hx Hw Hz0 Hz1 Hzb]
  · isplitl [Ha0 Ha1 Hx Hw]
    · isplitl [Ha0]; · iexact Ha0
      isplitl [Ha1]; · iexact Ha1
      isplitl [Hx]; · iexists (xin m c); iapply (Entails.of_eq (owns_whole (c : Thread nD τ) cc0_scratch0 fullShare (xin m c))); iexact Hx
      iexists (win m c); iapply (Entails.of_eq (owns_whole (c : Thread nD τ) cc0_scratch1 fullShare (win m c))); iexact Hw
    isplitl [Hz0]; · iexact Hz0
    isplitl [Hz1] <;> iassumption
  isplitl [Hlent]; · iexact Hlent
  isplitl [Hxb Hwb]
  · isplitl [Hxb]; · iexact Hxb
    iexact Hwb
  iexact HO

end Cert.KernelIdeal.Hand

end
-- ==== Proof.Whole.lean ====
module

public import proofs.«01_k».proof.Proof.Start

/-! # The whole body

From what a device starts with to what it ends with, phase by phase, for all its parts at once. -/

@[expose] public section

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × J → ℕ)

/-! ## What a part starts with, and ends with -/

/-- A part at the start, beside what its device lends. -/
def partIn (c : Dev nD) (i : Fin 8) : sProp 𝕄 :=
  iprop((bigSep Finset.univ fun k : Fin 3 => iprop(sbAny c i k ∗ tok c (pj i (.sh k)) 0 ∗ tok (across (dir i k) c) (pj i (.rh k)) 0))
    ∗ (bigSep Finset.univ fun t : Fin 3 => iprop(tok c (pj i (.sg t)) 0 ∗ tok (across (dir i t.rev) c) (pj i (.rg t)) 0))
    ∗ (bigSep Finset.univ fun k : Fin 3 => inH c k i) ∗ (bigSep Finset.univ fun t : Fin 3 => inG c t i) ∗ (bigSep Finset.univ fun t : Fin 4 => outO m c t i)
    ∗ (bigSep Finset.univ fun k : Fin 3 => pos c (pj i (.sh k))) ∗ (bigSep Finset.univ fun t : Fin 3 => pos c (pj i (.sg t)))
    ∗ (bigSep Finset.univ fun t : Fin 4 => pos c (pj i (.io t))) ∗ keptAny c i)

/-- A part at the end. -/
def partOut (c : Dev nD) (i : Fin 8) : sProp 𝕄 :=
  iprop((bigSep Finset.univ fun k : Fin 3 => sbAny c i k) ∗ (bigSep Finset.univ fun k : Fin 3 => gotH m c k i)
    ∗ agPt c i (agSet i 0 2048) fullShare (agC m i) ∗ (bigSep Finset.univ fun t : Fin 4 => outPt c i t (res m))
    ∗ (bigSep Finset.univ fun k : Fin 3 => zero c (pj i (.sh k))) ∗ (bigSep Finset.univ fun k : Fin 3 => zero c (pj i (.rh k)))
    ∗ (bigSep Finset.univ fun t : Fin 3 => zero c (pj i (.sg t))) ∗ (bigSep Finset.univ fun t : Fin 3 => zero c (pj i (.rg t)))
    ∗ (bigSep Finset.univ fun t : Fin 4 => zero c (pj i (.io t))))

/-- With what it is lent, a part has what each of its phases uses. -/
theorem part_ready (c : Dev nD) (i : Fin 8) :
    iprop(partIn m c i ∗ bigSep Finset.univ fun k : Fin 3 => lend (across (dir i k) c) i k)
      ⊢ iprop((outH c 0 i ∗ outH c 1 i ∗ outH c 2 i) ∗ (outG c 0 i ∗ outG c 1 i ∗ outG c 2 i) ∗ (inH c 0 i ∗ inH c 1 i ∗ inH c 2 i)
        ∗ (inG c 0 i ∗ inG c 1 i ∗ inG c 2 i) ∗ (outO m c 0 i ∗ outO m c 1 i ∗ outO m c 2 i ∗ outO m c 3 i)
        ∗ (pos c (pj i (.sh 0)) ∗ pos c (pj i (.sh 1)) ∗ pos c (pj i (.sh 2))) ∗ (pos c (pj i (.sg 0)) ∗ pos c (pj i (.sg 1)) ∗ pos c (pj i (.sg 2)))
        ∗ (pos c (pj i (.io 0)) ∗ pos c (pj i (.io 1)) ∗ pos c (pj i (.io 2)) ∗ pos c (pj i (.io 3))) ∗ keptAny c i) := by
  unfold partIn lend
  simp only [bigSep_fin3, bigSep_fin4]
  iintro ⟨⟨⟨⟨s0, a0, b0⟩, ⟨s1, a1, b1⟩, ⟨s2, a2, b2⟩⟩, ⟨⟨g0, h0⟩, ⟨g1, h1⟩, ⟨g2, h2⟩⟩, HiH, HiG, HO, HpH, HpG, HpO, Hkeep⟩, ⟨r0, d2⟩, ⟨r1, d1⟩, ⟨r2, d0⟩⟩
  isplitl [s0 a0 b0 s1 a1 b1 s2 a2 b2 r0 r1 r2]
  · unfold outH; iframe
  isplitl [g0 h0 g1 h1 g2 h2 d0 d1 d2]
  · unfold outG
    isplitl [g0 h0 d0]
    · isplitl [d0]; · iexact d0
      isplitl [g0] <;> iassumption
    isplitl [g1 h1 d1]
    · isplitl [d1]; · iexact d1
      isplitl [g1] <;> iassumption
    isplitl [d2]; · iexact d2
    isplitl [g2] <;> iassumption
  iframe

theorem agPt_kept1 (c : Dev nD) (i : Fin 8) (q : PosShare TreeShare) (f : (agM i).view.ty.Contents (Elt F)) :
    (agPt c i (keptS 1 i c) q f : sProp 𝕄) = iprop(agPt c i (keptS 0 i c) q f ∗ agPt c i (recdS 0 i c) q f) := agPt_step c i 0 q f
theorem agPt_kept2 (c : Dev nD) (i : Fin 8) (q : PosShare TreeShare) (f : (agM i).view.ty.Contents (Elt F)) :
    (agPt c i (keptS 2 i c) q f : sProp 𝕄) = iprop(agPt c i (keptS 1 i c) q f ∗ agPt c i (recdS 1 i c) q f) := agPt_step c i 1 q f
theorem agPt_kept3 (c : Dev nD) (i : Fin 8) (q : PosShare TreeShare) (f : (agM i).view.ty.Contents (Elt F)) :
    (agPt c i (agSet i 0 2048) q f : sProp 𝕄) = iprop(agPt c i (keptS 2 i c) q f ∗ agPt c i (recdS 2 i c) q f) := by
  rw [← agPt_step, show lo (2 - (2 : Fin 3).val) i c = 0 from lo_zero i c]; rfl

/-- The shares of a part's rows, joined. -/
theorem part_done (c : Dev nD) (i : Fin 8) :
    iprop((((sbAny c i 0 ∗ zero c (pj i (.sh 0))) ∗ (sbAny c i 1 ∗ zero c (pj i (.sh 1))) ∗ (sbAny c i 2 ∗ zero c (pj i (.sh 2)))
            ∗ (agPt c i (keptS 0 i c) (shr 0) (agC m i) ∗ zero c (pj i (.sg 0))) ∗ (agPt c i (keptS 1 i c) (shr 1) (agC m i) ∗ zero c (pj i (.sg 1)))
            ∗ (agPt c i (keptS 2 i c) (shr 2) (agC m i) ∗ zero c (pj i (.sg 2)))))
        ∗ ((((outPt c i 0 (res m) ∗ agPt c i (cpdS 0 i c) (shr 3) (agC m i)) ∗ zero c (pj i (.io 0))))
          ∗ (((outPt c i 1 (res m) ∗ agPt c i (cpdS 1 i c) (shr 3) (agC m i)) ∗ zero c (pj i (.io 1))))
          ∗ (((outPt c i 2 (res m) ∗ agPt c i (cpdS 2 i c) (shr 3) (agC m i)) ∗ zero c (pj i (.io 2))))
          ∗ (((outPt c i 3 (res m) ∗ agPt c i (cpdS 3 i c) (shr 3) (agC m i)) ∗ zero c (pj i (.io 3)))))
        ∗ (gotH m c 0 i ∗ gotH m c 1 i ∗ gotH m c 2 i)
        ∗ (agPt c i (recdS 0 i c) (shr 0) (agC m i) ∗ agPt c i (recdS 1 i c) (shr 0) (agC m i) ∗ agPt c i (recdS 2 i c) (shr 0) (agC m i)
          ∗ agPt c i (recdS 1 i c) (shr 1) (agC m i) ∗ agPt c i (recdS 2 i c) (shr 1) (agC m i) ∗ agPt c i (recdS 2 i c) (shr 2) (agC m i))
        ∗ (zero c (pj i (.rh 0)) ∗ zero c (pj i (.rh 1)) ∗ zero c (pj i (.rh 2))) ∗ (zero c (pj i (.rg 0)) ∗ zero c (pj i (.rg 1)) ∗ zero c (pj i (.rg 2))))
      ⊢ partOut m c i := by
  unfold partOut
  simp only [bigSep_fin3, bigSep_fin4]
  rw [show (cpdS 1 i c) = recdS 0 i c from cpdS_succ i c 0, show (cpdS 2 i c) = recdS 1 i c from cpdS_succ i c 1, show (cpdS 3 i c) = recdS 2 i c from cpdS_succ i c 2, cpdS_zero,
    agPt_shares c i (agSet i 0 2048), agPt_kept3 c i (shr 0), agPt_kept3 c i (shr 1), agPt_kept3 c i (shr 2), agPt_kept3 c i (shr 3),
    agPt_kept2 c i (shr 0), agPt_kept2 c i (shr 1), agPt_kept2 c i (shr 3), agPt_kept1 c i (shr 0), agPt_kept1 c i (shr 3)]
  iintro ⟨⟨⟨s0, z0⟩, ⟨s1, z1⟩, ⟨s2, z2⟩, ⟨a0, y0⟩, ⟨a1, y1⟩, ⟨a2, y2⟩⟩, ⟨⟨⟨o0, b0⟩, x0⟩, ⟨⟨o1, b1⟩, x1⟩, ⟨⟨o2, b2⟩, x2⟩, ⟨⟨o3, b3⟩, x3⟩⟩, Hg, ⟨c0, c1, c2, d1, d2, e2⟩, Hr, Hr'⟩
  iframe

/-! ## The body -/

theorem all_mono {A B : Fin 8 → sProp 𝕄} (h : ∀ i, A i ⊢ B i) : bigSep Finset.univ A ⊢ bigSep Finset.univ B := bigSep_mono fun i _ => h i

/-- Run a piece for every part, from a count of arrivals paid to the count eight further on. -/
theorem each_ow (c : Dev nD) {f : Fin 8 → P F PUnit} {A B : Fin 8 → sProp 𝕄} (n : ℕ)
    (h : ∀ (i : Fin 8) (Q : PUnit → sProp 𝕄), iprop(recs m K ∗ A i ∗ ow c (n + i.val) ∗ ((B i ∗ ow c (n + i.val + 1)) -∗ Q ⟨⟩)) ⊢ wpT c (f i) Q) (n' : ℕ) (hn : n + 8 = n') (Q : PUnit → sProp 𝕄) :
    iprop(recs m K ∗ bigSep Finset.univ A ∗ ow c n ∗ ((bigSep Finset.univ B ∗ ow c n') -∗ Q ⟨⟩)) ⊢ wpT c (each f) Q := by
  subst hn; exact each_spec m K c (T := fun k => ow c (n + k)) h Q
/-- The same once everything is paid. -/
theorem each_end (c : Dev nD) {f : Fin 8 → P F PUnit} {A B : Fin 8 → sProp 𝕄}
    (h : ∀ (i : Fin 8) (Q : PUnit → sProp 𝕄), iprop(recs m K ∗ A i ∗ ow c 48 ∗ ((B i ∗ ow c 48) -∗ Q ⟨⟩)) ⊢ wpT c (f i) Q) (Q : PUnit → sProp 𝕄) :
    iprop(recs m K ∗ bigSep Finset.univ A ∗ ow c 48 ∗ ((bigSep Finset.univ B ∗ ow c 48) -∗ Q ⟨⟩)) ⊢ wpT c (each f) Q :=
  each_spec m K c (T := fun _ => ow c 48) h Q

theorem body_spec (c : Dev nD) (Q : PUnit → sProp 𝕄) :
    iprop(recs m K ∗ startIn m c ∗ (bigSep Finset.univ fun i : Fin 8 => partIn m c i) ∗ (∃ W, owes (c : Thread nD τ) (owe₀ c) W)
        ∗ ((startOut m c ∗ xw m c ∗ (bigSep Finset.univ fun i : Fin 8 => partOut m c i) ∗ ow c 48) -∗ Q ⟨⟩)) ⊢ wpT c (bodyAt c) Q := by
  unfold bodyAt
  simp only [wpT_bind]
  iintro ⟨#HR, Hin, Hp, HO, Hk⟩
  iapply (start_spec m K c)
  isplitr; · iexact HR
  isplitl [Hin]; · iexact Hin
  isplitl [HO]; · iexact HO
  iintro ⟨Hst, Hlent, Hxw, HO⟩
  have hready := all_mono (part_ready m c)
  simp only [bigSep_sep'] at hready
  unfold lent
  ihave Hp := (show _ ⊢ _ from hready) $$ [Hp Hlent]
  · isplitl [Hp] <;> iassumption
  icases Hp with ⟨⟨oH0, oH1, oH2⟩, ⟨oG0, oG1, oG2⟩, ⟨iH0, iH1, iH2⟩, ⟨iG0, iG1, iG2⟩, ⟨oO0, oO1, oO2, oO3⟩, ⟨pH0, pH1, pH2⟩, ⟨pG0, pG1, pG2⟩, ⟨pO0, pO1, pO2, pO3⟩, Hkeep⟩
  iapply (dots_spec m c 0); isplitl [Hxw]; · iexact Hxw
  iintro Hxw
  iapply (each_ow m K c 0 (rs0_spec m K c) 8 rfl)
  isplitr; · iexact HR
  isplitl [oH0]; · iexact oH0
  isplitl [HO]; · iexact HO
  iintro ⟨cH0, HO⟩
  iapply (dots_spec m c 1); isplitl [Hxw]; · iexact Hxw
  iintro Hxw
  iapply (each_ow m K c 8 (rs1_spec m K c) 16 rfl)
  simp only [bigSep_sep']
  isplitr; · iexact HR
  isplitl [oH1 iH0]; · iframe
  isplitl [HO]; · iexact HO
  iintro ⟨⟨cH1, gH0, zH0⟩, HO⟩
  iapply (dots_spec m c 2); isplitl [Hxw]; · iexact Hxw
  iintro Hxw
  iapply (each_ow m K c 16 (rs2_spec m K c) 24 rfl)
  simp only [bigSep_sep']
  isplitr; · iexact HR
  isplitl [oH2 iH1 gH0]; · iframe
  isplitl [HO]; · iexact HO
  iintro ⟨⟨cH2, gH1, zH1, gH0⟩, HO⟩
  iapply (each_spec m K c (T := fun k => iprop(ow c (24 + k) ∗ xw m c)) (fin1_spec m K c))
  simp only [bigSep_sep']
  isplitr; · iexact HR
  isplitl [iH2 gH0 gH1 Hkeep oG0 oO0]; · iframe
  isplitl [HO Hxw]
  · isplitl [HO]; · iexact HO
    iexact Hxw
  iintro ⟨⟨cG0, cO0, zH2, gH0, gH1, gH2, k1, k2⟩, HO, Hxw⟩
  iapply (each_ow m K c 32 (ag1_spec m K c) 40 rfl)
  simp only [bigSep_sep']
  isplitr; · iexact HR
  isplitl [iG0 k1 oG1 oO1]; · iframe
  isplitl [HO]; · iexact HO
  iintro ⟨⟨cG1, cO1, zG0, r00, r02⟩, HO⟩
  iapply (each_ow m K c 40 (ag2_spec m K c) 48 rfl)
  simp only [bigSep_sep']
  isplitr; · iexact HR
  isplitl [iG1 k2 r02 oG2 oO2]; · iframe
  isplitl [HO]; · iexact HO
  iintro ⟨⟨cG2, cO2, zG1, r10, r11⟩, HO⟩
  iapply (each_end m K c (ag3_spec m K c))
  simp only [bigSep_sep']
  isplitr; · iexact HR
  isplitl [iG2 oO3]; · iframe
  isplitl [HO]; · iexact HO
  iintro ⟨⟨cO3, zG2, r20, r21, r22⟩, HO⟩
  iapply (each_end m K c (outW_spec m K c 0))
  simp only [bigSep_sep']
  isplitr; · iexact HR
  isplitl [cO0 pO0]; · iframe
  isplitl [HO]; · iexact HO
  iintro ⟨w0, HO⟩
  iapply (each_end m K c (outW_spec m K c 1))
  simp only [bigSep_sep']
  isplitr; · iexact HR
  isplitl [cO1 pO1]; · iframe
  isplitl [HO]; · iexact HO
  iintro ⟨w1, HO⟩
  iapply (each_end m K c (outW_spec m K c 2))
  simp only [bigSep_sep']
  isplitr; · iexact HR
  isplitl [cO2 pO2]; · iframe
  isplitl [HO]; · iexact HO
  iintro ⟨w2, HO⟩
  iapply (each_end m K c (outW_spec m K c 3))
  simp only [bigSep_sep']
  isplitr; · iexact HR
  isplitl [cO3 pO3]; · iframe
  isplitl [HO]; · iexact HO
  iintro ⟨w3, HO⟩
  iapply (each_end m K c (doneW_spec m K c))
  unfold owedW
  simp only [bigSep_sep']
  isplitr; · iexact HR
  isplitl [cH0 cH1 cH2 cG0 cG1 cG2 pH0 pH1 pH2 pG0 pG1 pG2]; · iframe
  isplitl [HO]; · iexact HO
  iintro ⟨w4, HO⟩
  iapply Hk
  isplitl [Hst]; · iexact Hst
  isplitl [Hxw]; · iexact Hxw
  isplitr [HO]
  · iapply (all_mono (part_done m c))
    simp only [bigSep_sep']
    iframe
  iexact HO

end Cert.KernelIdeal.Hand

end
-- ==== Proof.Ghost.lean ====
module

public import proofs.«01_k».proof.Proof.Whole

/-! # What the launch deals

The cells are opened, their tokens dealt to whoever pays them, and the credit for what is owed found. -/

@[expose] public section

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × J → ℕ)

/-! ## Taking a device's cells apart -/

theorem over_kinds (A : Kp → sProp 𝕄) :
    bigSep Finset.univ A = iprop(((bigSep Finset.univ fun k => A (.sh k)) ∗ (bigSep Finset.univ fun k => A (.rh k)))
      ∗ ((bigSep Finset.univ fun t => A (.sg t)) ∗ (bigSep Finset.univ fun t => A (.rg t))) ∗ (bigSep Finset.univ fun t => A (.io t))) := by
  rw [bigSep_univ_equiv Kp.code.symm, bigSep_univ_sum, bigSep_univ_sum, bigSep_univ_sum, bigSep_univ_sum]
  rfl
/-- Over a device's own cells: part by part, and its two inputs. -/
theorem over_own (A : Own → sProp 𝕄) :
    bigSep Finset.univ A = iprop((bigSep Finset.univ fun i => bigSep Finset.univ fun κ => A (.inl (i, κ))) ∗ (A (.inr 0) ∗ A (.inr 1))) := by
  rw [bigSep_univ_sum, bigSep_univ_prod, bigSep_fin_two]; rfl
theorem over_cells (A : J → sProp 𝕄) :
    bigSep Finset.univ A = iprop((bigSep Finset.univ fun o => A (.inl o)) ∗ A (.inr ())) := by
  rw [bigSep_univ_sum, show (Finset.univ : Finset Unit) = {()} from rfl, bigSep_singleton]; rfl

/-! ## Tokens -/

/-- A device's duties: one at each of its own cells, three at its barrier. -/
abbrev Tk : Type := Own ⊕ Fin 3
theorem over_duties (A : Tk → sProp 𝕄) :
    bigSep Finset.univ A = iprop((bigSep Finset.univ fun o => A (.inl o)) ∗ bigSep Finset.univ fun d => A (.inr d)) := by
  rw [bigSep_univ_sum]; rfl
abbrev tokOf : Dev nD × Tk → GSem nD τ sig × ℕ × Fin 3
  | (c, .inl o) => (kcell (c, .inl o), 0, 0)
  | (c, .inr d) => (bcell c, 0, d)
theorem tokOf_injective : Function.Injective tokOf := by
  rintro ⟨c, t⟩ ⟨c', t'⟩ h
  rcases t with o | d <;> rcases t' with o' | d'
  · have := kcell_injective (congrArg Prod.fst h); cases this; rfl
  · have := kcell_injective (congrArg Prod.fst h); cases this
  · have := kcell_injective (congrArg Prod.fst h); cases this
  · have := kcell_injective (congrArg Prod.fst h); cases this
    have := congrArg (fun x => x.2.2) h; cases this; rfl

def ringCells : Finset (GSem nD τ sig) := Finset.univ.map ⟨kcell, kcell_injective⟩
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

abbrev tk (ct : Dev nD × Tk) : sProp 𝕄 := dutyTok ER (tokOf ct).1 (tokOf ct).2.1 (tokOf ct).2.2

/-- Whose duty `t` device `c` performs. -/
def payee : Dev nD × Tk → Dev nD × Tk
  | (c, .inl (.inl (i, κ))) => (tgt c i κ, .inl (.inl (i, κ)))
  | (c, .inl (.inr a)) => (c, .inl (.inr a))
  | (c, .inr d) => (across d c, .inr d)
theorem payee_payee (x : Dev nD × Tk) : payee (payee x) = x := by
  rcases x with ⟨c, (⟨i, κ⟩ | a) | d⟩
  · exact congrArg (·, _) (tgt_tgt c i κ)
  · rfl
  · exact congrArg (·, _) (across_across d c)
def payeeE : Dev nD × Tk ≃ Dev nD × Tk := ⟨payee, payee, payee_payee, payee_payee⟩

/-- What the launch deals device `c`. -/
def G (c : Dev nD) : sProp 𝕄 :=
  iprop((bigSep Finset.univ fun j : J => roundState ER (Rd m) (kcell (c, j)) 0)
    ∗ (bigSep Finset.univ fun j : J => iprop(pos c j ∗ reached ER (kcell (c, j)) 0)) ∗ bigSep Finset.univ fun t : Tk => tk (c, t))

/-- What all devices know of all cells, but for the levels. -/
def opened : sProp 𝕄 :=
  iprop((bigSep Finset.univ fun cj : Dev nD × J => cellInv ER (Rd m) (K cj) (kcell cj))
    ∗ bigSep Finset.univ fun cj : Dev nD × J => reached ER (kcell cj) 0)
instance opened_persistent : BI.Persistent (opened m K) := by unfold opened; infer_instance

/-- A device's positions, and the tokens of the duties it performs. -/
def own (c : Dev nD) : sProp 𝕄 := iprop((bigSep Finset.univ fun j : J => pos c j) ∗ bigSep Finset.univ fun t : Tk => tk (payee (c, t)))

/-- What a device holds of the cells once they are opened. -/
def G' (c : Dev nD) : sProp 𝕄 := iprop(∃ K, opened m K ∗ own c)

theorem fund_cells : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun j : J => Φ (kcell (c, j)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun t : Tk => tk (c, t) := by
    unfold ringToks; rw [bigSep_map, bigSep_univ_prod]; rfl
  iintro H
  imod (Rounds.fund ER (Rd m) ringCells ringToks) $$ H with ⟨Hst, Hr, Hat, Htok⟩
  imodintro
  unfold G; simp only [bigSep_sep']
  isplitl [Hst]; · iapply (Entails.of_eq (hX fun g => roundState ER (Rd m) g 0)); iexact Hst
  isplitl [Hat Hr]
  · isplitl [Hat]
    · iapply (Entails.of_eq (hX fun g => atPos ER g 0 ∅ 0)); iexact Hat
    · iapply (Entails.of_eq (hX fun g => reached ER g 0)); iexact Hr
  iapply (Entails.of_eq hT); iexact Htok

/-- The barrier is the only semaphore that outlives the kernel. -/
theorem unscopedSems0_eq (c : Dev nD) : (unscopedSems0 c : sProp 𝕄) = zero c (.inr ()) := by
  unfold unscopedSems0; rw [bigSep_eq_bigSepL_of_eq [SemLoc.reg bar] (by decide) (by decide)]; rfl

abbrev ownSems (c : Dev nD) : sProp 𝕄 := Pipeline.ownSems0 (Ix := Unit) (Name := ℕ) (U := UU) (Lvl := ℕ) (Val := Elt F) (τ := τ) ownSem c

theorem zeros_eq (c : Dev nD) : (bigSep Finset.univ fun j : J => (zero c j : sProp 𝕄)) = iprop(ownSems c ∗ unscopedSems0 c) := by
  rw [over_cells, unscopedSems0_eq]; rfl

/-- Open every cell of a device. -/
theorem core_alloc (c : Dev nD) :
    iprop(ownSems c ∗ unscopedSems0 c ∗ G m c)
      ⊢ |={Set.univ}=> iprop((bigSep Finset.univ fun j : J => iprop(∃ κ : ℕ, cellInv ER (Rd m) κ (kcell (c, j))))
          ∗ (bigSep Finset.univ fun j : J => iprop(pos c j ∗ reached ER (kcell (c, j)) 0)) ∗ bigSep Finset.univ fun t : Tk => tk (c, t)) := by
  have hopen : iprop((bigSep Finset.univ fun j : J => (zero c j : sProp 𝕄)) ∗ bigSep Finset.univ fun j : J => roundState ER (Rd m) (kcell (c, j)) 0)
      ⊢ (|={Set.univ}=> bigSep Finset.univ fun j : J => iprop(∃ κ : ℕ, cellInv ER (Rd m) κ (kcell (c, j))) : sProp 𝕄) := by
    rw [← bigSep_sep']
    exact (bigSep_mono fun j _ => (Rounds.body_intro ER (Rd m) (kcell (c, j))).trans inv_alloc).trans (bigSep_fupd _ _)
  unfold G
  iintro ⟨Hos, Hus, Hst, Hat, Htok⟩
  imod hopen $$ [Hos Hus Hst] with Hinv
  · isplitr [Hst]
    · rw [zeros_eq]; isplitl [Hos] <;> iassumption
    · iexact Hst
  imodintro
  isplitl [Hinv]; · iexact Hinv
  isplitl [Hat] <;> iassumption

/-- Every token goes to the device that performs the duty. -/
theorem deal : (bigSep Finset.univ fun c : Dev nD => bigSep Finset.univ fun t : Tk => (tk (c, t) : sProp 𝕄))
    = bigSep Finset.univ fun c : Dev nD => bigSep Finset.univ fun t : Tk => tk (payee (c, t)) := by
  rw [← bigSep_univ_prod (fun ct : Dev nD × Tk => (tk ct : sProp 𝕄)), bigSep_univ_equiv payeeE, bigSep_univ_prod]; rfl

/-- What is known may be told to everyone. -/
theorem tell {I : Type} [Fintype I] [DecidableEq I] {R : sProp 𝕄} [BI.Persistent R] {A B : I → sProp 𝕄} (h : ∀ i, iprop(R ∗ A i) ⊢ B i) :
    iprop(R ∗ bigSep Finset.univ A) ⊢ bigSep Finset.univ B :=
  (sep_mono_left (BI.bigSep_of_persistent Finset.univ R)).trans (by rw [← bigSep_sep']; exact bigSep_mono fun i _ => h i)

theorem regroup :
    (bigSep Finset.univ fun c : Dev nD => iprop((bigSep Finset.univ fun j : J => iprop(∃ κ : ℕ, cellInv ER (Rd m) κ (kcell (c, j))))
          ∗ (bigSep Finset.univ fun j : J => iprop(pos c j ∗ reached ER (kcell (c, j)) 0)) ∗ bigSep Finset.univ fun t : Tk => tk (c, t)) : sProp 𝕄)
      ⊢ bigSep Finset.univ (G' m) := by
  have hI := bigSep_univ_prod (fun cj : Dev nD × J => (iprop(∃ κ : ℕ, cellInv ER (Rd m) κ (kcell cj)) : sProp 𝕄))
  have hR := bigSep_univ_prod (fun cj : Dev nD × J => (reached ER (kcell cj) 0 : sProp 𝕄))
  simp only [bigSep_sep']
  rw [← hI, ← hR, deal]
  iintro ⟨HI, ⟨Hat, #HR⟩, Htok⟩
  ihave HK := (BI.bigSep_exists_pi Finset.univ (fun (cj : Dev nD × J) (κ : ℕ) => (cellInv ER (Rd m) κ (kcell cj) : sProp 𝕄))) $$ HI
  icases HK with ⟨%K, #HI⟩
  iapply (tell (R := opened m K) (A := own) (fun c => show iprop(opened m K ∗ own c) ⊢ G' m c from by
    unfold G'; iintro H; iexists K; iexact H))
  isplitr
  · unfold opened; isplitl; · iexact HI
    iexact HR
  · unfold own; rw [bigSep_sep']
    isplitl [Hat] <;> iassumption

/-- All devices' semaphores become all devices' opened cells. -/
theorem glob : (bigSep Finset.univ fun c => iprop(ownSems c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## Credit -/

/-- What device `d`'s `n`th arrival owes a cell. -/
theorem arr_at (d c : Dev nD) (n : ℕ) (j : J) :
    arr d n (kcell (c, j)) () = if c = tgt d (arrI n) (arrK (n / 8)) ∧ j = pj (arrI n) (arrK (n / 8)) then amt j else 0 := by
  unfold arr
  rw [tallyAt_apply]
  by_cases h : c = tgt d (arrI n) (arrK (n / 8)) ∧ j = pj (arrI n) (arrK (n / 8))
  · obtain ⟨h1, h2⟩ := h; subst h1; subst h2; rw [if_pos ⟨rfl, rfl⟩, if_pos ⟨rfl, rfl⟩]
  · rw [if_neg h, if_neg fun h' => h ⟨congrArg Prod.fst (kcell_injective h'.1), congrArg Prod.snd (kcell_injective h'.1)⟩]

theorem owe_at (d c : Dev nD) (j : J) : owe d 0 (kcell (c, j)) () = ∑ n ∈ Finset.range 48, arr d n (kcell (c, j)) () := by
  unfold owe; rw [Finset.sum_apply, Finsupp.finset_sum_apply, Finset.range_eq_Ico]

/-- What device `d` owes device `c`'s barrier in direction `e`. -/
theorem bar_at (d c : Dev nD) (e : Fin 3) (j : J) :
    (tallyAt (bcell (across e d)) () 1 : CellTallies nD τ sig Unit) (kcell (c, j)) () = if d = across e c ∧ j = .inr () then 1 else 0 := by
  rw [tallyAt_apply]
  by_cases h : d = across e c ∧ j = .inr ()
  · obtain ⟨h1, h2⟩ := h; subst h1; subst h2; rw [across_across, if_pos ⟨rfl, rfl⟩, if_pos ⟨rfl, rfl⟩]
  · rw [if_neg h, if_neg fun h' => h ⟨(across_across e d).symm.trans (congrArg (across e) (congrArg Prod.fst (kcell_injective h'.1)).symm), congrArg Prod.snd (kcell_injective h'.1)⟩]

theorem arr_of (j : J) (n : ℕ) (hn : n < 48) (h : j = pj (arrI n) (arrK (n / 8))) : n + 1 = lvJ j := by rw [h]; exact (lv_arr n hn).symm

/-- One device pays each arrival, once. -/
theorem due_arr (c : Dev nD) (i : Fin 8) (κ : Kp) (n : ℕ) (hn : n < 48) (hi : arrI n = i) (hκ : arrK (n / 8) = κ) :
    ∑ d : Dev nD, owe d 0 (pcell c i κ) () = amt (pj i κ) := by
  have h1 : ∀ d, owe d 0 (pcell c i κ) () = arr d n (pcell c i κ) () := fun d => by
    rw [owe_at]
    refine Finset.sum_eq_single_of_mem n (Finset.mem_range.mpr hn) fun n' hn' hne => ?_
    rw [arr_at, if_neg]
    rintro ⟨-, h⟩
    have a := arr_of _ n' (Finset.mem_range.mp hn') h
    have b := arr_of (pj i κ) n hn (by rw [hi, hκ])
    omega
  rw [Finset.sum_congr rfl fun d _ => h1 d, Finset.sum_eq_single_of_mem (tgt c i κ) (Finset.mem_univ _)]
  · rw [arr_at, hi, hκ, tgt_tgt, if_pos ⟨rfl, rfl⟩]
  · intro d _ hd
    rw [arr_at, hi, hκ, if_neg]
    rintro ⟨h, -⟩
    exact hd (by rw [h, tgt_tgt])
theorem due_bar (c : Dev nD) : ∑ d : Dev nD, owe d 0 (bcell c) () = 0 := by
  refine Finset.sum_eq_zero fun d _ => ?_
  rw [owe_at]
  refine Finset.sum_eq_zero fun n _ => ?_
  rw [arr_at, if_neg]
  rintro ⟨-, h⟩; cases h

theorem owe₀_at (d c : Dev nD) (j : J) : owe₀ d (kcell (c, j)) () = owe d 0 (kcell (c, j)) () + (if d = across 2 c ∧ j = .inr () then 1 else 0)
      + (if d = across 1 c ∧ j = .inr () then 1 else 0) + (if d = across 0 c ∧ j = .inr () then 1 else 0) := by
  unfold owe₀
  rw [Pi.add_apply, Finsupp.add_apply, Pi.add_apply, Finsupp.add_apply, Pi.add_apply, Finsupp.add_apply, bar_at, bar_at, bar_at]

theorem credit_part (c : Dev nD) (i : Fin 8) (κ : Kp) (n : ℕ) (hn : n < 48) (hi : arrI n = i) (hκ : arrK (n / 8) = κ) :
    tallyOn (pcell c i κ) (launchCredit (Pipeline.owing owe₀) 0 (pcell c i κ)) = (tallyAt (pcell c i κ) () (amt (pj i κ)) : CellTallies nD τ sig Unit) := by
  unfold tallyAt; refine congrArg _ (Finsupp.ext fun u => ?_); cases u
  rw [Pipeline.launchCredit_owing, Finsupp.single_eq_same, ← due_arr c i κ n hn hi hκ]
  refine Finset.sum_congr rfl fun d _ => ?_
  rw [owe₀_at]
  simp only [reduceCtorEq, and_false, if_false, Nat.add_zero]
theorem credit_bar (c : Dev nD) :
    tallyOn (bcell c) (launchCredit (Pipeline.owing owe₀) 0 (bcell c)) = (tallyAt (bcell c) () 3 : CellTallies nD τ sig Unit) := by
  unfold tallyAt; refine congrArg _ (Finsupp.ext fun u => ?_); cases u
  rw [Pipeline.launchCredit_owing, Finsupp.single_eq_same, Finset.sum_congr rfl fun d _ => owe₀_at d c (.inr ())]
  simp only [and_true, Finset.sum_add_distrib, due_bar, Finset.sum_ite_eq', Finset.mem_univ, if_true]

/-- The credit of a device: three units at its barrier, and every arrival. -/
theorem creds (c : Dev nD) :
    (Pipeline.launchCred owe₀ c : sProp 𝕄) ⊢ iprop(cred (tallyAt (bcell c) () 3)
      ∗ bigSep Finset.univ fun i : Fin 8 => iprop((bigSep Finset.univ fun k : Fin 3 => crd c (pj i (.rh k))) ∗ bigSep Finset.univ fun t : Fin 3 => crd c (pj i (.rg t)))) := by
  have h : (Pipeline.launchCred owe₀ c : sProp 𝕄) ⊢ bigSep Finset.univ fun j : J => cred (tallyOn (kcell (c, j)) (launchCredit (Pipeline.owing owe₀) 0 (kcell (c, j)))) := by
    unfold Pipeline.launchCred
    refine (BI.bigSep_subset (Finset.subset_univ (Finset.univ.map ⟨semOf, semOf_injective⟩))).trans ?_
    rw [bigSep_map]
    exact BI.Entails.refl _
  refine h.trans ?_
  rw [over_cells, over_own, credit_bar]
  iintro ⟨⟨Hp, -⟩, Hb⟩
  isplitl [Hb]; · iexact Hb
  iapply (all_mono (fun i => ?_) : _ ⊢ _)
  rotate_left
  · iexact Hp
  · rw [over_kinds]
    iintro ⟨⟨-, H⟩, ⟨-, H'⟩, -⟩
    isplitl [H]
    · iapply Entails.of_eq (bigSep_congr fun (k : Fin 3) _ => congrArg cred (credit_part c i (.rh k) (8 * k.val + i.val) (by have := k.isLt; have := i.isLt; omega) (arr_rh k i).1 (arr_rh k i).2))
      iexact H
    · iapply Entails.of_eq (bigSep_congr fun (t : Fin 3) _ => congrArg cred (credit_part c i (.rg t) (8 * (t.val + 3) + i.val) (by have := t.isLt; have := i.isLt; omega) (arr_rg t i).1 (arr_rg t i).2))
      iexact H'

end Cert.KernelIdeal.Hand

end
-- ==== Proof.Run.lean ====
module

public import proofs.«01_k».proof.Proof.Ghost
public import Idealize.ShloMosaic.Lib.Pipeline.CollectiveSegs

/-! # The run

Every fair execution of the eight devices ends with the inputs as they were, every counter at zero, and the
result of every device holding the gathered sums. -/

@[expose] public section

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × J → ℕ)

/-! ## The scratch buffers -/

/-- The scratch buffers: the inputs' four, and each part's seven. -/
abbrev Scr : Type := Fin 4 ⊕ Fin 8 × ((Fin 3 ⊕ Fin 3) ⊕ Unit)
def inRef : Fin 4 → Ref sig .tc | 0 => cc0_scratch0 | 1 => cc0_scratch1 | 2 => cc0_scratch2 | 3 => cc0_scratch3
def scrRef : Scr → Ref sig .tc
  | .inl a => inRef a
  | .inr (i, .inl (.inl k)) => (sbM i k).view.ref
  | .inr (i, .inl (.inr k)) => (rvM i k).view.ref
  | .inr (i, .inr ()) => (agM i).view.ref
theorem scrRef_injective : Function.Injective scrRef := by decide +kernel
theorem scr_all : (Finset.univ.filter fun b : Ref sig .tc => b.isScoped) \ Finset.univ.image (Pipeline.stageRef cfg0.spec)
    = Finset.univ.map ⟨scrRef, scrRef_injective⟩ := by decide +kernel

def agAny (c : Dev nD) (i : Fin 8) : sProp 𝕄 := iprop(∃ f, agPt c i (agSet i 0 2048) fullShare f)
/-- A part's buffers, at whatever contents. -/
def partBufs (c : Dev nD) (i : Fin 8) : sProp 𝕄 :=
  iprop(((bigSep Finset.univ fun k : Fin 3 => sbAny c i k) ∗ (bigSep Finset.univ fun k : Fin 3 => rvAny c i k)) ∗ agAny c i)
def bufs (c : Dev nD) : sProp 𝕄 :=
  iprop((bufAny c cc0_scratch0 ∗ bufAny c cc0_scratch1 ∗ bufAny c cc0_scratch2 ∗ bufAny c cc0_scratch3) ∗ bigSep Finset.univ fun i : Fin 8 => partBufs c i)

theorem sbAny_eq (c : Dev nD) (i : Fin 8) (k : Fin 3) : (sbAny c i k : sProp 𝕄) = bufAny c (sbM i k).view.ref := by
  unfold sbAny; rw [(sb_whole i k).set_eq_univ]; rfl
theorem rvAny_eq (c : Dev nD) (i : Fin 8) (k : Fin 3) : (rvAny c i k : sProp 𝕄) = bufAny c (rvM i k).view.ref := by
  unfold rvAny; rw [(rv_whole i k).set_eq_univ]; rfl
theorem agAny_eq (c : Dev nD) (i : Fin 8) : (agAny c i : sProp 𝕄) = bufAny c (agM i).view.ref := by
  unfold agAny agPt; rw [agSet_all, (ag_whole i).set_eq_univ]; rfl

theorem scratch_eq (c : Dev nD) : (Pipeline.scopedRest cfg0.spec c : sProp 𝕄) = bufs c := by
  unfold Pipeline.scopedRest bufs partBufs
  rw [scr_all, bigSep_map, bigSep_univ_sum, bigSep_univ_prod, bigSep_fin4]
  simp only [bigSep_univ_sum, sbAny_eq, rvAny_eq, agAny_eq, show (Finset.univ : Finset Unit) = {()} from rfl, bigSep_singleton]
  rfl

/-- The places a device writes of its gathered block, and those it lends. -/
theorem ag_lend (c : Dev nD) (i : Fin 8) : (agAny c i : sProp 𝕄) ⊢ iprop(keptAny c i ∗ recdAny c i 0 ∗ recdAny c i 1 ∗ recdAny c i 2) := by
  unfold agAny keptAny recdAny
  simp only [agPt_kept3, agPt_kept2, agPt_kept1]
  iintro ⟨%f, ⟨⟨H, H0⟩, H1⟩, H2⟩
  isplitl [H]; · iexists f; iexact H
  isplitl [H0]; · iexists f; iexact H0
  isplitl [H1]; · iexists f; iexact H1
  iexists f; iexact H2
theorem part_lend (c : Dev nD) (i : Fin 8) : (partBufs c i : sProp 𝕄)
    ⊢ iprop(((bigSep Finset.univ fun k : Fin 3 => sbAny c i k) ∗ keptAny c i) ∗ bigSep Finset.univ fun k : Fin 3 => lend c i k) := by
  unfold partBufs lend
  simp only [bigSep_fin3]
  iintro ⟨⟨Hs, Hr0, Hr1, Hr2⟩, Ha⟩
  ihave Ha := (ag_lend c i) $$ Ha
  icases Ha with ⟨Hk, H0, H1, H2⟩
  isplitl [Hs Hk]
  · isplitl [Hs] <;> iassumption
  isplitl [Hr0 H2]
  · isplitl [Hr0]; · iexact Hr0
    iexact H2
  isplitl [Hr1 H1]
  · isplitl [Hr1]; · iexact Hr1
    iexact H1
  isplitl [Hr2]; · iexact Hr2
  iexact H0

/-! ## The result -/

/-- The result, whole, is the blocks the copies write. -/
theorem result_eq (c : Dev nD) (f : Vec F S2048x2048 .bf16) :
    (((c : Thread nD τ).loc main_v1) ↦{fullShare} f : sProp 𝕄) = bigSep Finset.univ fun i : Fin 8 => bigSep Finset.univ fun t : Fin 4 => outPt c i t f := by
  rw [← bigSep_univ_prod (fun x : Fin 8 × Fin 4 => (outPt c x.1 x.2 f : sProp 𝕄))]
  refine Eq.trans ?_ (pointsTo_biUnion (ℓ := (c : Thread nD τ).loc main_v1) Finset.univ (fun x : Fin 8 × Fin 4 => outSet x.2 x.1 c) fun x _ y _ h => outSet_disjoint c x y h)
  rw [outSet_cover]

/-! ## The kernel from start to end -/

/-- What a device starts with, beside its scratch buffers. -/
def launched (c : Dev nD) : sProp 𝕄 :=
  iprop((arg0 m c ∗ arg1 m c ∗ (((c : Thread nD τ).loc main_v1) ↦{fullShare} m ((c : Thread nD τ).loc main_v1))) ∗ levAts L lv
    ∗ (cred (tallyAt (bcell c) () 3)
      ∗ bigSep Finset.univ fun i : Fin 8 => iprop((bigSep Finset.univ fun k : Fin 3 => crd c (pj i (.rh k))) ∗ bigSep Finset.univ fun t : Fin 3 => crd c (pj i (.rg t))))
    ∗ G' m c)
def Φ₀ (c : Dev nD) : sProp 𝕄 := iprop(launched m c ∗ bufs c)
/-- What it ends with. -/
def Φ₁ (c : Dev nD) : sProp 𝕄 :=
  iprop((arg0 m c ∗ arg1 m c ∗ (((c : Thread nD τ).loc main_v1) ↦{fullShare} res m)) ∗ (bigSep Finset.univ fun j : J => zero c j) ∗ bufs c)

theorem ready (c : Dev nD) : Φ₀ m c ⊢ iprop(∃ K, recs m K ∗ startIn m c ∗ bigSep Finset.univ fun i : Fin 8 => partIn m c i) := by
  have hl := all_mono (part_lend (F := F) c)
  simp only [bigSep_sep'] at hl
  unfold Φ₀ launched bufs G' own opened recs startIn partIn inH inG outO lends
  rw [result_eq, over_cells (fun j => pos c j), over_own, over_duties, over_own, bigSep_fin3]
  simp only [over_kinds, bigSep_sep']
  iintro ⟨⟨⟨Ha0, Ha1, Hv⟩, #Hl, ⟨Hcb, HcH, HcG⟩, ⟨%K, ⟨#HI, #HR⟩, ⟨⟨⟨⟨pSH, pRH⟩, ⟨pSG, pRG⟩, pIO⟩, pI0, pI1⟩, pB⟩, ⟨⟨⟨⟨tSH, tRH⟩, ⟨tSG, tRG⟩, tIO⟩, tI0, tI1⟩, tB0, tB1, tB2⟩⟩⟩, ⟨Hs0, Hs1, Hs2, Hs3⟩, Hb⟩
  ihave Hb := (show _ ⊢ _ from hl) $$ Hb
  icases Hb with ⟨⟨Hsb, Hkeep⟩, Hlend⟩
  iexists K
  isplitr
  · isplitr; · iexact HI
    isplitr; · iexact HR
    iexact Hl
  isplitl [Ha0 Ha1 Hs0 Hs1 Hs2 Hs3 tI0 pI0 tI1 pI1 tB0 tB1 tB2 pB Hcb Hlend]
  · isplitl [Ha0 Ha1 Hs0 Hs1 Hs2 Hs3]; · iframe
    isplitl [tI0 pI0 tI1 pI1]
    · isplitl [tI0 pI0]
      · isplitl [tI0]; · iexact tI0
        iexact pI0
      · isplitl [tI1]; · iexact tI1
        iexact pI1
    isplitl [tB0 tB1 tB2]
    · isplitl [tB0]; · iexact tB0
      isplitl [tB1]; · iexact tB1
      iexact tB2
    isplitl [pB]; · iexact pB
    isplitl [Hcb]; · iexact Hcb
    iexact Hlend
  isplitl [Hsb tSH tRH]
  · isplitl [Hsb]; · iexact Hsb
    isplitl [tSH]; · iexact tSH
    iexact tRH
  isplitl [tSG tRG]
  · isplitl [tSG]; · iexact tSG
    iexact tRG
  isplitl [HcH pRH]
  · isplitl [HcH]; · iexact HcH
    iexact pRH
  isplitl [HcG pRG]
  · isplitl [HcG]; · iexact HcG
    iexact pRG
  isplitl [Hv tIO]
  · isplitl [Hv]; · iexact Hv
    iexact tIO
  isplitl [pSH]; · iexact pSH
  isplitl [pSG]; · iexact pSG
  isplitl [pIO]; · iexact pIO
  iexact Hkeep

theorem part_end (c : Dev nD) (i : Fin 8) : partOut m c i ⊢ iprop(partBufs c i ∗ (bigSep Finset.univ fun t : Fin 4 => outPt c i t (res m)) ∗ bigSep Finset.univ fun κ : Kp => zero c (pj i κ)) := by
  have hg (k : Fin 3) : gotH m c k i ⊢ rvAny c i k := by
    unfold gotH owns rvAny; iintro ⟨%f, -, H⟩; iexists f; iexact H
  unfold partOut partBufs agAny
  rw [over_kinds]
  iintro ⟨Hsb, Hg, Ha, Ho, z1, z2, z3, z4, z5⟩
  isplitl [Hsb Hg Ha]
  · isplitr [Ha]
    · isplitl [Hsb]; · iexact Hsb
      iapply (show _ ⊢ _ from bigSep_mono fun k _ => hg k); iexact Hg
    · iexists (agC m i); iexact Ha
  isplitl [Ho]; · iexact Ho
  iframe

theorem finished (c : Dev nD) : iprop(startOut m c ∗ xw m c ∗ bigSep Finset.univ fun i : Fin 8 => partOut m c i) ⊢ Φ₁ m c := by
  have he := all_mono (part_end m c)
  simp only [bigSep_sep'] at he
  unfold Φ₁ startOut bufs xw
  rw [result_eq, over_cells, over_own]
  iintro ⟨⟨⟨Ha0, Ha1, Hs0, Hs1⟩, z0, z1, zb⟩, ⟨Hx, Hw⟩, Hp⟩
  ihave Hp := (show _ ⊢ _ from he) $$ Hp
  icases Hp with ⟨Hb, Ho, Hz⟩
  isplitl [Ha0 Ha1 Ho]; · iframe
  isplitl [z0 z1 zb Hz]
  · isplitr [zb]
    · isplitl [Hz]; · iexact Hz
      isplitl [z0] <;> iassumption
    · iexact zb
  isplitr [Hb]
  · isplitl [Hs0]; · iexact Hs0
    isplitl [Hs1]; · iexact Hs1
    unfold bufAny
    isplitl [Hx]
    · iexists (xb m c); iapply (Entails.of_eq (owns_whole (c : Thread nD τ) cc0_scratch2 fullShare (xb m c))); iexact Hx
    · iexists (wb m c); iapply (Entails.of_eq (owns_whole (c : Thread nD τ) cc0_scratch3 fullShare (wb m c))); iexact Hw
  iexact Hb

/-- The proof data of the call: it has no windows. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => owe₀ c
    | ⟨_ + 1, _⟩ => 0

/-- A device reads its own number. -/
theorem wpT_device (c : Dev nD) (Q : Dev nD → sProp 𝕄) : Q c ⊢ wpT c (Prog.lift .deviceId) Q :=
  (wpT_ret c c Q).trans (Entails.of_eq (wp_deviceId 𝒱₀ (c : Thread nD τ) none Set.univ (k := .ret)).symm)

set_option maxRecDepth 65536 in
theorem body_obligation (c : Dev nD) : BodyObligation (dats (F := F) m 0 c) (defs₀ (F := F)) 𝒱₀ () Set.univ := fun t => by
  rw [fin_N0 t]
  show iprop(Φ₀ m c ∗ (dats m 0 c).owesAt () t0_0.castSucc ∗ _) ⊢ wpT c (bodyAt0 t0_0) fun _ => iprop(Φ₁ m c ∗ (dats m 0 c).owesAt () t0_0.succ ∗ _)
  rw [body_eq, wpT_bind]
  unfold Dat.owesAt Pipeline.owesWithin
  iintro ⟨HΦ, ⟨%W, -, HO⟩, Hw⟩
  ihave HΦ := (ready m c) $$ HΦ
  icases HΦ with ⟨%K, #HR, Hin, Hp⟩
  iapply (wpT_device c)
  iapply (body_spec m K c)
  isplitr; · iexact HR
  isplitl [Hin]; · iexact Hin
  isplitl [Hp]; · iexact Hp
  isplitl [HO]; · iexists W; iexact HO
  iintro ⟨Hst, Hxw, Hp, HO⟩
  unfold ow
  icases HO with ⟨%W', HO⟩
  isplitl [Hst Hxw Hp]
  · iapply (finished m c)
    isplitl [Hst]; · iexact Hst
    isplitl [Hxw] <;> iassumption
  isplitl [HO]
  · iexists W'
    isplitr
    · ipureintro; exact fun _ _ => Or.inl trivial
    · iapply (show owes (c : Thread nD τ) (owe c 48) W' ⊢ owes (c : Thread nD τ) ((dats m 0 c).owed t0_0.succ) W' from Entails.of_eq (by rw [owe_end]; rfl)); iexact HO
  iexact Hw

/-! ## The launch -/

theorem ownSemFacts : Pipeline.OwnSemFacts cfg0.spec ownSem := by decide +kernel

theorem start_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ G' m c)
      ⊢ |={Set.univ}=> iprop(launched m c ∗ emp) := by
  rw [Pipeline.unscopedRestP_none, unscopedRest0_eq]
  unfold launched
  iintro ⟨Hb, Hl, Hc, -, HG⟩
  ihave Hc := (creds (F := F) c) $$ Hc
  imodintro
  isplitl
  · isplitl [Hb]; · iexact Hb
    isplitl [Hl]; · iexact Hl
    isplitl [Hc] <;> iassumption
  · iempintro

theorem first (c : Dev nD) :
    iprop(launched m c ∗ Pipeline.prefHeld Pipeline.Prefetch.none c (fun _ => fullShare.right) (fun k => k.elim0) ∗ Pipeline.scopedRest cfg0.spec c)
      ⊢ (dats m 0 c).Φ 0 := by
  show _ ⊢ Φ₀ m c
  rw [scratch_eq]
  unfold Φ₀
  iintro ⟨Hs, -, Hr⟩
  isplitl [Hs] <;> iassumption

/-- What is read of the machine at the end. -/
def left (c : Dev nD) : sProp 𝕄 :=
  iprop(unscopedSems0 c ∗ arg0 m c ∗ arg1 m c ∗ (((c : Thread nD τ).loc main_v1) ↦{fullShare} res m))

theorem last (c : Dev nD) :
    (dats m 0 c).Φ (Fin.last cfg0.N) ⊢ iprop(left m c ∗ Pipeline.ownSems0 ownSem c ∗ Pipeline.scopedRest cfg0.spec c) := by
  show Φ₁ m c ⊢ _
  rw [scratch_eq]
  unfold Φ₁ left
  rw [zeros_eq]
  iintro ⟨Ha, ⟨Ho, Hu⟩, Hb⟩
  isplitl [Hu Ha]
  · isplitl [Hu] <;> iassumption
  isplitl [Ho] <;> iassumption

theorem waits (c : Dev nD) : (levAts L lv : sProp 𝕄) ⊢ Pipeline.cellsWaits cfgs (dats m) () 0 c :=
  Pipeline.cellsWaits_intro cfgs (dats m) () 0 c fun w _ _ => w.elim0

/-- A device's memory at the end: the arguments as they were, the result the gathered sums. -/
def endsWell (c : Dev nD) (M : (ℓ : Loc nD τ sig) → Buf (Elt F) ℓ) : Prop :=
  M ((c : Thread nD τ).loc main_arg0) = m ((c : Thread nD τ).loc main_arg0) ∧ M ((c : Thread nD τ).loc main_arg1) = m ((c : Thread nD τ).loc main_arg1)
    ∧ M ((c : Thread nD τ).loc main_v1) = res m

theorem left_read (c : Dev nD) (s' : Phys nD τ sig (Elt F)) :
    iprop(left m c ∗ emp ∗ SI s') ⊢ |={Set.univ}=> iprop(⌜(∀ sm : SemLoc sig, sm.isScoped .tc = false → s'.mem.sem ((c.tc : Thread nD τ), sm) = 0) ∧ endsWell m c s'.mem.mem⌝ ∗ SI s' : sProp 𝕄) := by
  unfold left
  iintro ⟨⟨Hu, Ha, Hb, Hv⟩, -, HSI⟩
  imod (Pipeline.unscopedSems0_read (X := unscopedSems0 c) (c := c) fupd_intro s') $$ [Hu HSI] with ⟨%h, HSI⟩
  · isplitl [Hu] <;> iassumption
  icombine HSI Ha gives %ha
  icombine HSI Hb gives %hb
  icombine HSI Hv gives %hv
  imodintro
  isplitr
  · ipureintro
    exact ⟨h, Buf.eq_of_forall_mem_univ ha, Buf.eq_of_forall_mem_univ hb, Buf.eq_of_forall_mem_univ hv⟩
  iexact HSI

set_option maxRecDepth 65536 in
/-- From any memory with zero counters, for any float values: every fair execution of the eight devices ends
    with the arguments unchanged, every result the gathered sums, and every counter zero. -/
theorem run_main : θ_run defs (onTc (τ := τ) (main (F := F))) ⟨m, fun _ => 0, ρ⟩
    (fun r => (∀ c : Dev nD, endsWell m c r.2.mem) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := owe₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ w => w.elim0) (hpf := fun _ k => k.elim0)
    (X := launched m) (Y := left m) (Z := fun _ => iprop(emp))
    (hX := start_intro m ρ) (hin := first m) (hout := last m)
    (QY := fun c s => (∀ sm : SemLoc sig, sm.isScoped .tc = false → s.sem ((c.tc : Thread nD τ), sm) = 0) ∧ endsWell m c s.mem)
    (hY := left_read m)
    (hQ := fun _ h hs => ⟨fun c => (h c).2.2.2, sem_eq_zero hs fun c => (h c).2.2.1⟩)

end Cert.KernelIdeal.Hand

end
-- ==== Proof.Math.lean ====
module

public import proofs.«01_k».proof.Proof.Values
public import Idealize.ShloMosaic.Lib.MatmulPlain
public import Idealize.ShloMosaic.Lib.Pipeline.Value
public import Idealize.ShloMosaic.PureOps.Ideal.Laws
public import Idealize.ShloMosaic.Lib.Layout

/-! # What is computed, over the extended reals

At the ideal floats a cast is the identity and a product from zero is the sum of the products. So what a device
sends in a round is the sum, over the devices it stands for, of their products of the rows sent; the block it
finishes with is the sum over all eight; and every entry of the gathered result is the sum over the devices of
their products. -/

@[expose] public section

noncomputable section

namespace Cert.KernelIdeal.Hand

open Idealize.ShloMosaic Idealize.ShloMosaic.TcCoe Idealize.ShloMosaic.ValueIdx
open Idealize.SL Idealize.SL.Sem
open Cert.KernelIdeal.Gen

variable (m : (ℓ : Loc nD τ sig) → Buf (Elt Ideal) ℓ)

/-- Device `c`'s share of entry `(a, b)` of the product: its columns of `x` times its rows of `w`. -/
def share (c : Dev nD) (a b : Fin 2048) : EReal :=
  ∑ k : Fin 256, (xin m c (ix2 a k) : EReal) * (win m c (ix2 k b) : EReal)

/-! ## One device's products -/

theorem xb_eq (c : Dev nD) : xb m c = xin m c := by
  unfold xb k0_pay1
  exact shapeCast_self _ _
theorem wb_eq (c : Dev nD) : wb m c = win m c := by
  unfold wb k0_pay2
  exact shapeCast_self _ _

/-- A product accumulated onto zero, by entries. -/
theorem plain_zero {M K N : ℕ} (φ : FTy) (A : FVec Ideal ⟨2, ![M, K]⟩ φ) (B : FVec Ideal ⟨2, ![K, N]⟩ φ)
    (j : (⟨2, ![M, N]⟩ : Shape).Idx) :
    FloatOps.matmul (DotDims.plain M K N) none A B (constant (F := Ideal) ⟨2, ![M, N]⟩ .f32 0x00000000#32) j
      = ∑ k : Fin K, (A (ix2 (j 0) k) : EReal) * (B (ix2 k (j 1)) : EReal) := by
  conv_lhs => rw [eq_ix2 j]
  refine (Ideal.matmul_plain_apply none A B _ (j 0) (j 1)).trans ?_
  refine Eq.trans (congrArg (· + _) (Ideal.ofBits_zero_f32)) (zero_add _)

/-- The rows at `off` of a buffer of `x` times part `i`'s columns: device `c`'s share of those entries. -/
theorem share_of {n : ℕ} (c : Dev nD) (i : Fin 8) {off : Fin 2 → Nat} {inb : ∀ x, off x + (⟨2, ![n, 256]⟩ : Shape).size x ≤ S2048x256.size x}
    {r : Nat} (h : ∀ x, off x = ![r, 0] x) (j : (⟨2, ![n, 256]⟩ : Shape).Idx) (a b : Fin 2048) (ha : a.val = r + (j 0).val) (hb : b.val = 256 * i.val + (j 1).val) :
    ∑ k : Fin 256, (cut (Rect.unit (s := S2048x256) off (⟨2, ![n, 256]⟩ : Shape).size inb) (xb m c) (ix2 (j 0) k) : EReal)
        * (cut (colR i) (wb m c) (ix2 k (j 1)) : EReal)
      = share m c a b := by
  rw [xb_eq, wb_eq]
  refine Finset.sum_congr rfl fun k _ => ?_
  have h0 : off 0 = r := h 0
  have h1 : off 1 = 0 := h 1
  refine congrArg₂ (fun x y : EReal => x * y) (congrArg (xin m c) (funext (Fin.forall_fin_two.mpr ⟨Fin.ext ?_, Fin.ext ?_⟩)))
    (congrArg (win m c) (funext (Fin.forall_fin_two.mpr ⟨Fin.ext ?_, Fin.ext ?_⟩)))
  · show off 0 + 1 * (j 0).val = a.val; omega
  · show off 1 + 1 * k.val = k.val; omega
  · show 0 + 1 * k.val = k.val; omega
  · show 256 * i.val + 1 * (j 1).val = b.val; omega

/-- A round's product is the device's share of the rows given away. -/
theorem prod_share (k : Fin 3) (c : Dev nD) (i : Fin 8) (j : (hs k).Idx) (a b : Fin 2048) (ha : a.val = give k i c + (j 0).val)
    (hb : b.val = 256 * i.val + (j 1).val) : prod m k c i j = share m c a b := by
  match k with
  | 0 => exact (plain_zero .bf16 _ _ j).trans (share_of m c i (giveOff_eq 0 i c) j a b ha hb)
  | 1 => exact (plain_zero .bf16 _ _ j).trans (share_of m c i (giveOff_eq 1 i c) j a b ha hb)
  | 2 => exact (plain_zero .bf16 _ _ j).trans (share_of m c i (giveOff_eq 2 i c) j a b ha hb)

/-! ## What is sent -/

/-- The rows given across in a round are rows the partner holds, at or above its first. -/
theorem give_across0 : ∀ i c, give 0 i (across (dir i 0) c) = lo 1 i c := by decide +kernel
theorem give_across1 : ∀ i c, give 1 i (across (dir i 1) c) = lo 2 i c := by decide +kernel
theorem give_across2 : ∀ i c, give 2 i (across (dir i 2) c) = lo 3 i c := by decide +kernel
theorem lo_le : ∀ i c, lo 1 i c ≤ give 1 i c ∧ lo 1 i c ≤ give 2 i c ∧ lo 2 i c ≤ give 2 i c ∧ lo 1 i c ≤ lo 3 i c ∧ lo 2 i c ≤ lo 3 i c := by
  decide +kernel

/-- What a device stands for after one, two and three rounds: itself and those it received from. -/
def tot0 (f : Dev nD → EReal) (c : Dev nD) (i : Fin 8) : EReal := f c
def tot1 (f : Dev nD → EReal) (c : Dev nD) (i : Fin 8) : EReal := f c + tot0 f (across (dir i 0) c) i
def tot2 (f : Dev nD → EReal) (c : Dev nD) (i : Fin 8) : EReal := f c + tot0 f (across (dir i 0) c) i + tot1 f (across (dir i 1) c) i
def tot3 (f : Dev nD → EReal) (c : Dev nD) (i : Fin 8) : EReal :=
  f c + tot0 f (across (dir i 0) c) i + tot1 f (across (dir i 1) c) i + tot2 f (across (dir i 2) c) i

/-- After three rounds that is every device, once. -/
theorem tot3_devices : ∀ i c, [c, across (dir i 0) c, across (dir i 1) c, across (dir i 0) (across (dir i 1) c), across (dir i 2) c,
    across (dir i 0) (across (dir i 2) c), across (dir i 1) (across (dir i 2) c), across (dir i 0) (across (dir i 1) (across (dir i 2) c))].Perm
      (List.finRange 8) := by decide +kernel
theorem tot3_eq (f : Dev nD → EReal) (c : Dev nD) (i : Fin 8) : tot3 f c i = ∑ d : Dev nD, f d := by
  have h := ((tot3_devices i c).map f).sum_eq
  rw [show ∑ d : Dev nD, f d = ((List.finRange 8).map f).sum from (List.sum_ofFn (f := f)).symm.trans (by rw [List.ofFn_eq_map]), ← h]
  simp only [List.map_cons, List.map_nil, List.sum_cons, List.sum_nil, add_zero, tot3, tot2, tot1, tot0, add_assoc]

/-- First round: the device's own share. -/
theorem sent0_share (c : Dev nD) (i : Fin 8) (j : (hs 0).Idx) (a b : Fin 2048) (ha : a.val = give 0 i c + (j 0).val)
    (hb : b.val = 256 * i.val + (j 1).val) : sent0 m c i j = tot0 (share m · a b) c i := by
  unfold sent0 k0_pay11
  exact (congrFun (shapeCast_self _ _) j).trans (prod_share m 0 c i j a b ha hb)

/-- Second round: with the share received in the first. -/
theorem sent1_share (c : Dev nD) (i : Fin 8) (j : (hs 1).Idx) (a b : Fin 2048) (ha : a.val = give 1 i c + (j 0).val)
    (hb : b.val = 256 * i.val + (j 1).val) : sent1 m c i j = tot1 (share m · a b) c i := by
  have hl := lo_le i c
  have o0 : rv10Off i c 0 = give 1 i c - lo 1 i c := rv10Off_eq i c 0
  have o1 : rv10Off i c 1 = 0 := rv10Off_eq i c 1
  unfold sent1 k0_pay27
  refine (congrFun (shapeCast_self _ _) j).trans (congrArg₂ (fun x y : EReal => x + y) (prod_share m 1 c i j a b ha hb) ?_)
  refine sent0_share m _ i _ a b ?_ ?_
  · show _ = _ + (rv10Off i c 0 + 1 * (j 0).val)
    rw [give_across0, o0]; omega
  · show _ = _ + (rv10Off i c 1 + 1 * (j 1).val)
    rw [o1]; omega

/-- Third round: with those received in the first two. -/
theorem sent2_share (c : Dev nD) (i : Fin 8) (j : (hs 2).Idx) (a b : Fin 2048) (ha : a.val = give 2 i c + (j 0).val)
    (hb : b.val = 256 * i.val + (j 1).val) : sent2 m c i j = tot2 (share m · a b) c i := by
  have hl := lo_le i c
  have o0 : rv20Off i c 0 = give 2 i c - lo 1 i c := rv20Off_eq i c 0
  have o1 : rv20Off i c 1 = 0 := rv20Off_eq i c 1
  have p0 : rv21Off i c 0 = give 2 i c - lo 2 i c := rv21Off_eq i c 0
  have p1 : rv21Off i c 1 = 0 := rv21Off_eq i c 1
  unfold sent2 k0_pay43
  refine (congrFun (shapeCast_self _ _) j).trans (congrArg₂ (fun x y : EReal => x + y)
    (congrArg₂ (fun x y : EReal => x + y) (prod_share m 2 c i j a b ha hb) ?_) ?_)
  · refine sent0_share m _ i _ a b ?_ ?_
    · show _ = _ + (rv20Off i c 0 + 1 * (j 0).val)
      rw [give_across0, o0]; omega
    · show _ = _ + (rv20Off i c 1 + 1 * (j 1).val)
      rw [o1]; omega
  · refine sent1_share m _ i _ a b ?_ ?_
    · show _ = _ + (rv21Off i c 0 + 1 * (j 0).val)
      rw [give_across1, p0]; omega
    · show _ = _ + (rv21Off i c 1 + 1 * (j 1).val)
      rw [p1]; omega

/-! ## What is gathered -/

/-- The block a device finishes with: the sum of every device's share. -/
theorem fin_share (c : Dev nD) (i : Fin 8) (j : S256x256.Idx) (a b : Fin 2048) (ha : a.val = lo 3 i c + (j 0).val)
    (hb : b.val = 256 * i.val + (j 1).val) : fin m c i j = ∑ d : Dev nD, share m d a b := by
  have hl := lo_le i c
  have o0 : ∀ k, rvOff k i c 0 = lo 3 i c - lo (k.val + 1) i c := fun k => rvOff_eq k i c 0
  have o1 : ∀ k, rvOff k i c 1 = 0 := fun k => rvOff_eq k i c 1
  rw [← tot3_eq _ c i]
  unfold fin k0_pay58
  refine (congrFun (shapeCast_self _ _) j).trans (congrArg₂ (fun x y : EReal => x + y) (congrArg₂ (fun x y : EReal => x + y)
    (congrArg₂ (fun x y : EReal => x + y) ((plain_zero .bf16 _ _ j).trans (share_of m c i (keepOff_eq i c) j a b ha hb)) ?_) ?_) ?_)
  · refine sent0_share m _ i _ a b ?_ ?_
    · show _ = _ + (rvOff 0 i c 0 + 1 * (j 0).val)
      rw [give_across0, o0]; show _ = lo 1 i c + (lo 3 i c - lo 1 i c + _); omega
    · show _ = _ + (rvOff 0 i c 1 + 1 * (j 1).val)
      rw [o1]; omega
  · refine sent1_share m _ i _ a b ?_ ?_
    · show _ = _ + (rvOff 1 i c 0 + 1 * (j 0).val)
      rw [give_across1, o0]; show _ = lo 2 i c + (lo 3 i c - lo 2 i c + _); omega
    · show _ = _ + (rvOff 1 i c 1 + 1 * (j 1).val)
      rw [o1]; omega
  · refine sent2_share m _ i _ a b ?_ ?_
    · show _ = _ + (rvOff 2 i c 0 + 1 * (j 0).val)
      rw [give_across2, o0]; show _ = lo 3 i c + (lo 3 i c - lo 3 i c + _); omega
    · show _ = _ + (rvOff 2 i c 1 + 1 * (j 1).val)
      rw [o1]; omega

/-- Every entry of the gathered result is the sum of the devices' shares of it. -/
theorem res_share (j : S2048x2048.Idx) : res m j = ∑ d : Dev nD, share m d (j 0) (j 1) := by
  have h0 : (j 0).val < 2048 := (j 0).isLt
  have h1 : (j 1).val < 2048 := (j 1).isLt
  unfold res cols
  refine fin_share m _ _ _ (j 0) (j 1) ?_ ?_
  · rw [lo_owner]
    show (j 0).val = 256 * ((j 0).val / 256) + (j 0).val % 256
    omega
  · show (j 1).val = 256 * ((j 1).val / 256) + (j 1).val % 256
    omega

/-! ## The product of the whole arrays -/

/-- Where each device's arguments are its blocks of two whole arrays (columns of the first, rows of the second),
    the result is, by entries, the product of the whole arrays. -/
theorem res_whole (X W : S2048x2048.Idx → EReal)
    (hx : ∀ c, xin m c = Layout.block ⟨2, ![2048, 256]⟩ ⟨2, ![2048, 2048]⟩ 1 8 c X)
    (hw : ∀ c, win m c = Layout.block ⟨2, ![256, 2048]⟩ ⟨2, ![2048, 2048]⟩ 0 8 c W) (j : S2048x2048.Idx) :
    res m j = ∑ k : Fin 2048, X (ix2 (j 0) k) * W (ix2 k (j 1)) := by
  rw [res_share]
  refine Eq.trans ?_ (Equiv.sum_comp (finProdFinEquiv (m := 8) (n := 256)) fun k => X (ix2 (j 0) k) * W (ix2 k (j 1)))
  rw [Fintype.sum_prod_type]
  refine Finset.sum_congr rfl fun c _ => ?_
  unfold share
  rw [hx, hw]
  refine Finset.sum_congr rfl fun k _ => ?_
  refine congrArg₂ (fun x y : EReal => x * y) (congrArg X (funext (Fin.forall_fin_two.mpr ⟨Fin.ext ?_, Fin.ext ?_⟩)))
    (congrArg W (funext (Fin.forall_fin_two.mpr ⟨Fin.ext ?_, Fin.ext ?_⟩)))
  · rfl
  · show c.val * 256 + k.val = k.val + 256 * c.val; omega
  · show c.val * 256 + k.val = k.val + 256 * c.val; omega
  · rfl

end Cert.KernelIdeal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Math

@[expose] public section

noncomputable section

namespace Cert.Proof

open Idealize.ShloMosaic Idealize.SL.Sem Idealize.ShloMosaic.ValueIdx

set_option maxRecDepth 65536 in
/-- The kernel at the machine's floats runs, keeps its arguments and leaves every counter at zero: its program is
    the ideal one's text, whose run is proved for any floats. -/
theorem frame_kernel : Cert.quiescent_Kernel := fun m ρ _ =>
  (θ_run (Cert.KernelIdeal.defs (F := Bits)) (onTc (τ := Cert.KernelIdeal.τ) (Cert.KernelIdeal.main (F := Bits)))
    ⟨m, fun _ => 0, ρ⟩).mono (fun _ h => ⟨fun c => ⟨(h.1 c).1, (h.1 c).2.1⟩, h.2⟩)
    (Cert.KernelIdeal.Hand.run_main (F := Bits) m ρ)

/-- The kernel at the ideal floats runs, keeps its arguments and leaves every counter at zero. -/
theorem frame_ideal : Cert.quiescent_KernelIdeal := fun m ρ _ =>
  (θ_run _ _ _).mono (fun _ h => ⟨fun c => ⟨(h.1 c).1, (h.1 c).2.1⟩, h.2⟩)
    (Cert.KernelIdeal.Hand.run_main (F := Ideal) m ρ)

/-- The reference runs, keeps its arguments and has no counter to leave nonzero. -/
theorem frame_reference : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

/-- The reference's product, by entries. -/
theorem reference_entry (X W : FVec Ideal Cert.ReferenceIdeal.S2048x2048 .f32) (j : Cert.ReferenceIdeal.S2048x2048.Idx) :
    truncf .bf16 (Host.dotGeneral Cert.ReferenceIdeal.dot_S2048x2048_S2048x2048_S2048x2048_1_0_0_1_n_n none X W)
        Cert.ReferenceIdeal.Facts₀.bitsLt_bf16_f32 j
      = ∑ k : Fin 2048, (X (ix2 (j 0) k) : EReal) * (W (ix2 k (j 1)) : EReal) := by
  conv_lhs => rw [eq_ix2 j]
  exact (Ideal.matmul_plain_apply none X W (fun _ => (0 : EReal)) (j 0) (j 1)).trans (zero_add _)

/-- Over the extended reals every device's result is the reference's, whose arguments are cut over the devices. -/
theorem algebraic : Cert.algebraic_KernelIdeal_ReferenceIdeal := fun m g m' g' _ hm => by
  have hres : ∀ j, Cert.KernelIdeal.Hand.res m j = _ := fun j =>
    (Cert.KernelIdeal.Hand.res_whole m _ _ (fun c => (hm c).1) (fun c => (hm c).2) j).trans
      (reference_entry (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)) j).symm
  exact ⟨_, (θ_run _ _ _).mono (fun _ h c => ⟨(h.1 c).2.2.trans (funext hres), (h.1 c).1, (h.1 c).2.1⟩)
      (Cert.KernelIdeal.Hand.run_main (F := Ideal) m g),
    (θ_run _ _ _).mono (fun _ h => h 0) (Cert.ReferenceIdeal.Value.run (F := Ideal) m' g')⟩

/-- Everything claimed. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
